-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11)
      ∧ r.2.mem ((c.tc : Thread Cert.Kernel11.nD Cert.Kernel11.τ).loc Cert.Kernel11.main_arg12) = m ((c.tc : Thread Cert.Kernel11.nD Cert.Kernel11.τ).loc Cert.Kernel11.main_arg12))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
      ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10)
      ∧ r.2.mem ((c.tc : Thread Cert.Reference11Ideal.nD Cert.Reference11Ideal.τ).loc Cert.Reference11Ideal.main_arg11) = m ((c.tc : Thread Cert.Reference11Ideal.nD Cert.Reference11Ideal.τ).loc Cert.Reference11Ideal.main_arg11)
      ∧ r.2.mem ((c.tc : Thread Cert.Reference11Ideal.nD Cert.Reference11Ideal.τ).loc Cert.Reference11Ideal.main_arg12) = m ((c.tc : Thread Cert.Reference11Ideal.nD Cert.Reference11Ideal.τ).loc Cert.Reference11Ideal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_4)) (v1 : (c : Dev Cert.KernelIdeal.nD) → Buf (Elt Ideal) ((c.tc : Thread Cert.KernelIdeal.nD Cert.KernelIdeal.τ).loc Cert.KernelIdeal.main_v8_6)) (v2 : (c : Dev Cert.KernelIdeal.nD) → Buf (Elt Ideal) ((c.tc : Thread Cert.KernelIdeal.nD Cert.KernelIdeal.τ).loc Cert.KernelIdeal.main_v8_7)) (v3 : (c : Dev Cert.KernelIdeal.nD) → Buf (Elt Ideal) ((c.tc : Thread Cert.KernelIdeal.nD Cert.KernelIdeal.τ).loc Cert.KernelIdeal.main_v8_2)) (v4 : (c : Dev Cert.KernelIdeal.nD) → Buf (Elt Ideal) ((c.tc : Thread Cert.KernelIdeal.nD Cert.KernelIdeal.τ).loc Cert.KernelIdeal.main_v8_0)) (v5 : (c : Dev Cert.KernelIdeal.nD) → Buf (Elt Ideal) ((c.tc : Thread Cert.KernelIdeal.nD Cert.KernelIdeal.τ).loc Cert.KernelIdeal.main_v8_1)) (v6 : (c : Dev Cert.KernelIdeal.nD) → Buf (Elt Ideal) ((c.tc : Thread Cert.KernelIdeal.nD Cert.KernelIdeal.τ).loc Cert.KernelIdeal.main_v8_3)) (v7 : (c : Dev Cert.KernelIdeal.nD) → Buf (Elt Ideal) ((c.tc : Thread Cert.KernelIdeal.nD Cert.KernelIdeal.τ).loc Cert.KernelIdeal.main_v8_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_4) = v0 c
          ∧ r.2.mem ((c.tc : Thread Cert.KernelIdeal.nD Cert.KernelIdeal.τ).loc Cert.KernelIdeal.main_v8_6) = v1 c
          ∧ r.2.mem ((c.tc : Thread Cert.KernelIdeal.nD Cert.KernelIdeal.τ).loc Cert.KernelIdeal.main_v8_7) = v2 c
          ∧ r.2.mem ((c.tc : Thread Cert.KernelIdeal.nD Cert.KernelIdeal.τ).loc Cert.KernelIdeal.main_v8_2) = v3 c
          ∧ r.2.mem ((c.tc : Thread Cert.KernelIdeal.nD Cert.KernelIdeal.τ).loc Cert.KernelIdeal.main_v8_0) = v4 c
          ∧ r.2.mem ((c.tc : Thread Cert.KernelIdeal.nD Cert.KernelIdeal.τ).loc Cert.KernelIdeal.main_v8_1) = v5 c
          ∧ r.2.mem ((c.tc : Thread Cert.KernelIdeal.nD Cert.KernelIdeal.τ).loc Cert.KernelIdeal.main_v8_3) = v6 c
          ∧ r.2.mem ((c.tc : Thread Cert.KernelIdeal.nD Cert.KernelIdeal.τ).loc Cert.KernelIdeal.main_v8_5) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_v120) = v2 c
          ∧ r.2.mem ((c.tc : Thread Cert.ReferenceIdeal.nD Cert.ReferenceIdeal.τ).loc Cert.ReferenceIdeal.main_v121) = v3 c
          ∧ r.2.mem ((c.tc : Thread Cert.ReferenceIdeal.nD Cert.ReferenceIdeal.τ).loc Cert.ReferenceIdeal.main_v122) = v4 c
          ∧ r.2.mem ((c.tc : Thread Cert.ReferenceIdeal.nD Cert.ReferenceIdeal.τ).loc Cert.ReferenceIdeal.main_v123) = v5 c
          ∧ r.2.mem ((c.tc : Thread Cert.ReferenceIdeal.nD Cert.ReferenceIdeal.τ).loc Cert.ReferenceIdeal.main_v124) = v6 c
          ∧ r.2.mem ((c.tc : Thread Cert.ReferenceIdeal.nD Cert.ReferenceIdeal.τ).loc Cert.ReferenceIdeal.main_v125) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_v0_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_arg1) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v4) = v2 c
          ∧ r.2.mem ((c.tc : Thread Cert.Reference2Ideal.nD Cert.Reference2Ideal.τ).loc Cert.Reference2Ideal.main_v10) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_arg1) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_v4) = v2 c
          ∧ r.2.mem ((c.tc : Thread Cert.Reference3Ideal.nD Cert.Reference3Ideal.τ).loc Cert.Reference3Ideal.main_v10) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_arg1) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_v4) = v2 c
          ∧ r.2.mem ((c.tc : Thread Cert.Reference4Ideal.nD Cert.Reference4Ideal.τ).loc Cert.Reference4Ideal.main_v10) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_arg1) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_v4) = v2 c
          ∧ r.2.mem ((c.tc : Thread Cert.Reference5Ideal.nD Cert.Reference5Ideal.τ).loc Cert.Reference5Ideal.main_v10) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_v48) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)
      ∧ m' ((c.tc : Thread Cert.Reference11Ideal.nD Cert.Reference11Ideal.τ).loc Cert.Reference11Ideal.main_arg11) = m ((c.tc : Thread Cert.Kernel11Ideal.nD Cert.Kernel11Ideal.τ).loc Cert.Kernel11Ideal.main_arg11)
      ∧ m' ((c.tc : Thread Cert.Reference11Ideal.nD Cert.Reference11Ideal.τ).loc Cert.Reference11Ideal.main_arg12) = m ((c.tc : Thread Cert.Kernel11Ideal.nD Cert.Kernel11Ideal.τ).loc Cert.Kernel11Ideal.main_arg12)) →
    ∃ (v0 : (c : Dev Cert.Kernel11Ideal.nD) → Buf (Elt Ideal) ((c.tc : Thread Cert.Kernel11Ideal.nD Cert.Kernel11Ideal.τ).loc Cert.Kernel11Ideal.main_v12_0)) (v1 : (c : Dev Cert.Kernel11Ideal.nD) → Buf (Elt Ideal) ((c.tc : Thread Cert.Kernel11Ideal.nD Cert.Kernel11Ideal.τ).loc Cert.Kernel11Ideal.main_v12_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v12_0) = v0 c
          ∧ r.2.mem ((c.tc : Thread Cert.Kernel11Ideal.nD Cert.Kernel11Ideal.τ).loc Cert.Kernel11Ideal.main_v12_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
          ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
          ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v13) = v0 c
          ∧ r.2.mem ((c.tc : Thread Cert.Reference11Ideal.nD Cert.Reference11Ideal.τ).loc Cert.Reference11Ideal.main_v14) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10)
          ∧ r.2.mem ((c.tc : Thread Cert.Reference11Ideal.nD Cert.Reference11Ideal.τ).loc Cert.Reference11Ideal.main_arg11) = m' ((c.tc : Thread Cert.Reference11Ideal.nD Cert.Reference11Ideal.τ).loc Cert.Reference11Ideal.main_arg11)
          ∧ r.2.mem ((c.tc : Thread Cert.Reference11Ideal.nD Cert.Reference11Ideal.τ).loc Cert.Reference11Ideal.main_arg12) = m' ((c.tc : Thread Cert.Reference11Ideal.nD Cert.Reference11Ideal.τ).loc Cert.Reference11Ideal.main_arg12))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Kernel.lean ====
abbrev S4096x1024 : Shape := ⟨2, ![4096, 1024]⟩
abbrev S4096x1536 : Shape := ⟨2, ![4096, 1536]⟩
abbrev S1536x1024 : Shape := ⟨2, ![1536, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S4096x4096 : Shape := ⟨2, ![4096, 4096]⟩
abbrev S8x1024 : Shape := ⟨2, ![8, 1024]⟩
abbrev S256x1024 : Shape := ⟨2, ![256, 1024]⟩
abbrev S256x1536 : Shape := ⟨2, ![256, 1536]⟩
abbrev S256x4096 : Shape := ⟨2, ![256, 4096]⟩
abbrev S_ : Shape := ⟨0, ![]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S1x256x1024 : Shape := ⟨3, ![1, 256, 1024]⟩
abbrev S1 : Shape := ⟨1, ![1]⟩
abbrev S1x1x1 : Shape := ⟨3, ![1, 1, 1]⟩

abbrev nBuf : Space → Nat
  | .hbm => 24
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S1536x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S4096x1024, .f32⟩
  | .hbm, ⟨8, _⟩ => ⟨S1024x4096, .bf16⟩
  | .hbm, ⟨9, _⟩ => ⟨S1024x4x1024, .bf16⟩
  | .hbm, ⟨10, _⟩ => ⟨S4x1024x1024, .bf16⟩
  | .hbm, ⟨11, _⟩ => ⟨S4096x1536, .bf16⟩
  | .hbm, ⟨12, _⟩ => ⟨S1536x1024, .bf16⟩
  | .hbm, ⟨13, _⟩ => ⟨S4096x1024, .bf16⟩
  | .hbm, ⟨14, _⟩ => ⟨S1x1024, .f32⟩
  | .hbm, ⟨15, _⟩ => ⟨S1x1024, .f32⟩
  | .hbm, ⟨16, _⟩ => ⟨S4096x4096, .bf16⟩
  | .hbm, ⟨17, _⟩ => ⟨S4096x4096, .bf16⟩
  | .hbm, ⟨18, _⟩ => ⟨S4096x1024, .bf16⟩
  | .hbm, ⟨19, _⟩ => ⟨S4096x1024, .bf16⟩
  | .hbm, ⟨20, _⟩ => ⟨S4096x1024, .f32⟩
  | .hbm, ⟨21, _⟩ => ⟨S4096x1024, .bf16⟩
  | .hbm, ⟨22, _⟩ => ⟨S4096x1536, .f32⟩
  | .hbm, ⟨23, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1536, .bf16⟩
  | .local _ .vmem, ⟨3, _⟩ => ⟨S256x1536, .bf16⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x4096, .bf16⟩
  | .local _ .vmem, ⟨9, _⟩ => ⟨S256x4096, .bf16⟩
  | .local _ .vmem, ⟨10, _⟩ => ⟨S256x4096, .bf16⟩
  | .local _ .vmem, ⟨11, _⟩ => ⟨S256x4096, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x1536, .f32⟩
  | .local _ .vmem, ⟨21, _⟩ => ⟨S256x1536, .f32⟩
  | .local _ .vmem, ⟨22, _⟩ => ⟨S8x1024, .f32⟩
  | .local _ .vmem, ⟨23, _⟩ => ⟨S1536x1024, .bf16⟩
  | .local _ .vmem, ⟨24, _⟩ => ⟨S4x1024x1024, .bf16⟩
  | .local _ .vmem, ⟨25, _⟩ => ⟨S4096x1024, .bf16⟩
  | .local _ .vmem, ⟨26, _⟩ => ⟨S256x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v8_6 : Ref sig .tc := ⟨.hbm, 22, rfl⟩
abbrev main_v8_7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S4096x1024 : Shape := ⟨2, ![4096, 1024]⟩
abbrev S4096x1536 : Shape := ⟨2, ![4096, 1536]⟩
abbrev S1536x1024 : Shape := ⟨2, ![1536, 1024]⟩
abbrev S1024 : Shape := ⟨1, ![1024]⟩
abbrev S1024x4096 : Shape := ⟨2, ![1024, 4096]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩
abbrev S1x1024 : Shape := ⟨2, ![1, 1024]⟩
abbrev S8x1024 : Shape := ⟨2, ![8, 1024]⟩

abbrev nBuf : Space → Nat
  | .hbm => 169
  | .vmem => 0
  | .smem => 0
  | _ => 0

abbrev hbmTy0_0 (i : Nat) : BufTy := match i % 128 with
  | 0 => ⟨S4096x1024, .f32⟩
  | 1 => ⟨S4096x1536, .f32⟩
  | 2 => ⟨S1536x1024, .f32⟩
  | 3 => ⟨S1024, .f32⟩
  | 4 => ⟨S1024x4096, .f32⟩
  | 5 => ⟨S4096x1024, .f32⟩
  | 6 => ⟨S1024, .f32⟩
  | 7 => ⟨S4096x1024, .f32⟩
  | 8 => ⟨S_, .f32⟩
  | 9 => ⟨S4096x4096, .f32⟩
  | 10 => ⟨S_, .f32⟩
  | 11 => ⟨S4096x1024, .f32⟩
  | 12 => ⟨S4096x1024, .f32⟩
  | 13 => ⟨S4096x1024, .f32⟩
  | 14 => ⟨S4096x1024, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1, .f32⟩
  | 25 => ⟨S4096x1, .f32⟩
  | 26 => ⟨S_, .f32⟩
  | 27 => ⟨S4096x1, .f32⟩
  | 28 => ⟨S4096x1, .f32⟩
  | 29 => ⟨S4096x1024, .f32⟩
  | 30 => ⟨S4096x1024, .f32⟩
  | 31 => ⟨S1x1024, .f32⟩
  | 32 => ⟨S4096x1024, .f32⟩
  | 33 => ⟨S4096x1024, .f32⟩
  | 34 => ⟨S4096x4096, .f32⟩
  | 35 => ⟨S4096x4096, .f32⟩
  | 36 => ⟨S_, .f32⟩
  | 37 => ⟨S4096x4096, .f32⟩
  | 38 => ⟨S4096x4096, .f32⟩
  | 39 => ⟨S_, .f32⟩
  | 40 => ⟨S4096x4096, .f32⟩
  | 41 => ⟨S4096x4096, .i1⟩
  | 42 => ⟨S_, .f32⟩
  | 43 => ⟨S4096x4096, .f32⟩
  | 44 => ⟨S4096x4096, .f32⟩
  | 45 => ⟨S_, .f32⟩
  | 46 => ⟨S4096x4096, .f32⟩
  | 47 => ⟨S4096x4096, .f32⟩
  | 48 => ⟨S4096x1024, .f32⟩
  | 49 => ⟨S4096x1024, .f32⟩
  | 50 => ⟨S4096x1024, .f32⟩
  | 51 => ⟨S4096x1024, .f32⟩
  | 52 => ⟨S_, .f32⟩
  | 53 => ⟨S4096, .f32⟩
  | 54 => ⟨S4096x1, .f32⟩
  | 55 => ⟨S_, .f32⟩
  | 56 => ⟨S4096x1, .f32⟩
  | 57 => ⟨S4096x1, .f32⟩
  | 58 => ⟨S_, .f32⟩
  | 59 => ⟨S4096x1, .f32⟩
  | 60 => ⟨S4096x1, .f32⟩
  | 61 => ⟨S4096x1, .f32⟩
  | 62 => ⟨S4096x1, .f32⟩
  | 63 => ⟨S_, .f32⟩
  | 64 => ⟨S4096x1, .f32⟩
  | 65 => ⟨S4096x1, .f32⟩
  | 66 => ⟨S4096x1024, .f32⟩
  | 67 => ⟨S4096x1024, .f32⟩
  | 68 => ⟨S1x1024, .f32⟩
  | 69 => ⟨S4096x1024, .f32⟩
  | 70 => ⟨S4096x1024, .f32⟩
  | 71 => ⟨S4096x1024, .f32⟩
  | 72 => ⟨S4096x1024, .f32⟩
  | 73 => ⟨S_, .f32⟩
  | 74 => ⟨S4096x1024, .f32⟩
  | 75 => ⟨S4096x1024, .f32⟩
  | 76 => ⟨S_, .f32⟩
  | 77 => ⟨S4096, .f32⟩
  | 78 => ⟨S_, .f32⟩
  | 79 => ⟨S4096, .f32⟩
  | 80 => ⟨S4096, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S4096, .f32⟩
  | 89 => ⟨S_, .f32⟩
  | 90 => ⟨S4096, .f32⟩
  | 91 => ⟨S4096, .f32⟩
  | 92 => ⟨S4096x1024, .f32⟩
  | 93 => ⟨S4096x1024, .f32⟩
  | 94 => ⟨S4096x1024, .f32⟩
  | 95 => ⟨S_, .f32⟩
  | 96 => ⟨S1024, .f32⟩
  | 97 => ⟨S1x1024, .f32⟩
  | 98 => ⟨S4096x1024, .f32⟩
  | 99 => ⟨S4096x1024, .f32⟩
  | 100 => ⟨S_, .f32⟩
  | 101 => ⟨S1024, .f32⟩
  | 102 => ⟨S4096x1024, .f32⟩
  | 103 => ⟨S_, .f32⟩
  | 104 => ⟨S4096, .f32⟩
  | 105 => ⟨S4096x1, .f32⟩
  | 106 => ⟨S4096x1024, .f32⟩
  | 107 => ⟨S4096x1024, .f32⟩
  | 108 => ⟨S4096x1, .f32⟩
  | 109 => ⟨S_, .f32⟩
  | 110 => ⟨S4096x1, .f32⟩
  | 111 => ⟨S4096x1, .f32⟩
  | 112 => ⟨S_, .f32⟩
  | 113 => ⟨S4096, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S4096x4096, .f32⟩
  | 120 => ⟨S4096x4096, .f32⟩
  | 121 => ⟨S_, .f32⟩
  | 122 => ⟨S4096x4096, .f32⟩
  | 123 => ⟨S4096x4096, .f32⟩
  | 124 => ⟨S4096x1024, .f32⟩
  | 125 => ⟨S4096x1024, .f32⟩
  | 126 => ⟨S_, .f32⟩
  | 127 => ⟨S1024, .f32⟩
  | _ => ⟨S4096x1024, .f32⟩

abbrev hbmTy0_1 (i : Nat) : BufTy := match i % 128 with
  | 0 => ⟨S1x1024, .f32⟩
  | 1 => ⟨S4096x1024, .f32⟩
  | 2 => ⟨S4096x1024, .f32⟩
  | 3 => ⟨S_, .f32⟩
  | 4 => ⟨S1024, .f32⟩
  | 5 => ⟨S4096x1024, .f32⟩
  | 6 => ⟨S_, .f32⟩
  | 7 => ⟨S4096, .f32⟩
  | 8 => ⟨S4096x1, .f32⟩
  | 9 => ⟨S4096x1024, .f32⟩
  | 10 => ⟨S4096x1024, .f32⟩
  | 11 => ⟨S4096x1024, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S4096x1536, .f32⟩
  | 24 => ⟨S1024, .f32⟩
  | 25 => ⟨S_, .f32⟩
  | 26 => ⟨S1024, .f32⟩
  | 27 => ⟨S1x1024, .f32⟩
  | 28 => ⟨S1x1024, .f32⟩
  | 29 => ⟨S1x1024, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S8x1024, .f32⟩
  | 36 => ⟨S4096x1024, .bf16⟩
  | 37 => ⟨S4096x4096, .bf16⟩
  | 38 => ⟨S4096x4096, .bf16⟩
  | 39 => ⟨S4096x1024, .bf16⟩
  | 40 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_cst : Ref sig .tc := ⟨.hbm, 36, rfl⟩
abbrev main_call0_v0 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_cst_10 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_11 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_12 : Ref sig .tc := ⟨.hbm, 73, rfl⟩
abbrev main_v50 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_cst_14 : Ref sig .tc := ⟨.hbm, 78, rfl⟩
abbrev main_v53 : Ref sig .tc := ⟨.hbm, 79, rfl⟩
abbrev main_v54 : Ref sig .tc := ⟨.hbm, 80, rfl⟩
abbrev main_cst_15 : Ref sig .tc := ⟨.hbm, 81, rfl⟩
abbrev main_v55 : Ref sig .tc := ⟨.hbm, 82, rfl⟩
abbrev main_cst_16 : Ref sig .tc := ⟨.hbm, 83, rfl⟩
abbrev main_v56 : Ref sig .tc := ⟨.hbm, 84, rfl⟩
abbrev main_cst_17 : Ref sig .tc := ⟨.hbm, 85, rfl⟩
abbrev main_cst_18 : Ref sig .tc := ⟨.hbm, 86, rfl⟩
abbrev main_v57 : Ref sig .tc := ⟨.hbm, 87, rfl⟩
abbrev main_v58 : Ref sig .tc := ⟨.hbm, 88, rfl⟩
abbrev main_cst_19 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_20 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_21 : Ref sig .tc := ⟨.hbm, 100, rfl⟩
abbrev main_v68 : Ref sig .tc := ⟨.hbm, 101, rfl⟩
abbrev main_v69 : Ref sig .tc := ⟨.hbm, 102, rfl⟩
abbrev main_cst_22 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_23 : Ref sig .tc := ⟨.hbm, 109, rfl⟩
abbrev main_v75 : Ref sig .tc := ⟨.hbm, 110, rfl⟩
abbrev main_v76 : Ref sig .tc := ⟨.hbm, 111, rfl⟩
abbrev main_cst_24 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_25 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_26 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_27 : Ref sig .tc := ⟨.hbm, 131, rfl⟩
abbrev main_v93 : Ref sig .tc := ⟨.hbm, 132, rfl⟩
abbrev main_v94 : Ref sig .tc := ⟨.hbm, 133, rfl⟩
abbrev main_cst_28 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_cst_29 : Ref sig .tc := ⟨.hbm, 141, rfl⟩
abbrev main_v101 : Ref sig .tc := ⟨.hbm, 142, rfl⟩
abbrev main_v102 : Ref sig .tc := ⟨.hbm, 143, rfl⟩
abbrev main_cst_30 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_31 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩

abbrev nD : Nat := 1
abbrev τ : Topo := Topo.v7x

variable {F : FTy → Type} [FloatOps F]
-- ==== Kernel2.lean ====
abbrev S1024x1024 : Shape := ⟨2, ![1024, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel3.lean ====
abbrev S384x1024 : Shape := ⟨2, ![384, 1024]⟩
abbrev S192x1024 : Shape := ⟨2, ![192, 1024]⟩

abbrev nBuf : Space → Nat
  | .hbm => 8
  | .vmem => 16
  | .smem => 0
  | _ => 0

abbrev bufTy : (tb : Table) → Fin (tcTables nBuf tb) → BufTy
  | .hbm, ⟨0, _⟩ => ⟨S384x1024, .f32⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S384x1024, .f32⟩
  | .hbm, ⟨5, _⟩ => ⟨S384x1024, .f32⟩
  | .hbm, ⟨6, _⟩ => ⟨S384x1024, .f32⟩
  | .hbm, ⟨7, _⟩ => ⟨S384x1024, .f32⟩
  | .local _ .vmem, ⟨0, _⟩ => ⟨S192x1024, .f32⟩
  | .local _ .vmem, ⟨1, _⟩ => ⟨S192x1024, .f32⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x1024, .f32⟩
  | .local _ .vmem, ⟨7, _⟩ => ⟨S192x1024, .f32⟩
  | .local _ .vmem, ⟨8, _⟩ => ⟨S192x1024, .f32⟩
  | .local _ .vmem, ⟨9, _⟩ => ⟨S192x1024, .f32⟩
  | .local _ .vmem, ⟨10, _⟩ => ⟨S192x1024, .f32⟩
  | .local _ .vmem, ⟨11, _⟩ => ⟨S192x1024, .f32⟩
  | .local _ .vmem, ⟨12, _⟩ => ⟨S192x1024, .f32⟩
  | .local _ .vmem, ⟨13, _⟩ => ⟨S192x1024, .f32⟩
  | .local _ .vmem, ⟨14, _⟩ => ⟨S192x1024, .f32⟩
  | .local _ .vmem, ⟨15, _⟩ => ⟨S192x1024, .f32⟩
  | _, _ => ⟨S384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S384x1024 : Shape := ⟨2, ![384, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S384x1024, .f32⟩
  | .hbm, ⟨1, _⟩ => ⟨S384x1024, .f32⟩
  | .hbm, ⟨2, _⟩ => ⟨S384x1024, .f32⟩
  | .hbm, ⟨3, _⟩ => ⟨S384x1024, .f32⟩
  | .hbm, ⟨4, _⟩ => ⟨S_, .f32⟩
  | .hbm, ⟨5, _⟩ => ⟨S384x1024, .f32⟩
  | .hbm, ⟨6, _⟩ => ⟨S384x1024, .f32⟩
  | .hbm, ⟨7, _⟩ => ⟨S_, .f32⟩
  | .hbm, ⟨8, _⟩ => ⟨S384x1024, .f32⟩
  | .hbm, ⟨9, _⟩ => ⟨S384x1024, .f32⟩
  | .hbm, ⟨10, _⟩ => ⟨S384x1024, .f32⟩
  | .hbm, ⟨11, _⟩ => ⟨S_, .f32⟩
  | .hbm, ⟨12, _⟩ => ⟨S384x1024, .f32⟩
  | .hbm, ⟨13, _⟩ => ⟨S384x1024, .f32⟩
  | .hbm, ⟨14, _⟩ => ⟨S384x1024, .f32⟩
  | .hbm, ⟨15, _⟩ => ⟨S_, .f32⟩
  | .hbm, ⟨16, _⟩ => ⟨S384x1024, .f32⟩
  | .hbm, ⟨17, _⟩ => ⟨S384x1024, .f32⟩
  | .hbm, ⟨18, _⟩ => ⟨S384x1024, .f32⟩
  | .hbm, ⟨19, _⟩ => ⟨S_, .f32⟩
  | .hbm, ⟨20, _⟩ => ⟨S384x1024, .f32⟩
  | .hbm, ⟨21, _⟩ => ⟨S384x1024, .f32⟩
  | .hbm, ⟨22, _⟩ => ⟨S_, .f32⟩
  | .hbm, ⟨23, _⟩ => ⟨S384x1024, .f32⟩
  | .hbm, ⟨24, _⟩ => ⟨S384x1024, .f32⟩
  | .hbm, ⟨25, _⟩ => ⟨S384x1024, .f32⟩
  | .hbm, ⟨26, _⟩ => ⟨S_, .f32⟩
  | .hbm, ⟨27, _⟩ => ⟨S384x1024, .f32⟩
  | .hbm, ⟨28, _⟩ => ⟨S384x1024, .f32⟩
  | .hbm, ⟨29, _⟩ => ⟨S384x1024, .f32⟩
  | .hbm, ⟨30, _⟩ => ⟨S_, .f32⟩
  | .hbm, ⟨31, _⟩ => ⟨S384x1024, .f32⟩
  | .hbm, ⟨32, _⟩ => ⟨S384x1024, .f32⟩
  | .hbm, ⟨33, _⟩ => ⟨S384x1024, .f32⟩
  | .hbm, ⟨34, _⟩ => ⟨S_, .f32⟩
  | .hbm, ⟨35, _⟩ => ⟨S384x1024, .f32⟩
  | .hbm, ⟨36, _⟩ => ⟨S384x1024, .f32⟩
  | _, _ => ⟨S384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel4.lean ====
abbrev S1024x896 : Shape := ⟨2, ![1024, 896]⟩
abbrev S256x896 : Shape := ⟨2, ![256, 896]⟩

abbrev nBuf : Space → Nat
  | .hbm => 8
  | .vmem => 16
  | .smem => 0
  | _ => 0

abbrev bufTy : (tb : Table) → Fin (tcTables nBuf tb) → BufTy
  | .hbm, ⟨0, _⟩ => ⟨S1024x896, .f32⟩
  | .hbm, ⟨1, _⟩ => ⟨S1024x896, .f32⟩
  | .hbm, ⟨2, _⟩ => ⟨S1024x896, .f32⟩
  | .hbm, ⟨3, _⟩ => ⟨S1024x896, .f32⟩
  | .hbm, ⟨4, _⟩ => ⟨S1024x896, .f32⟩
  | .hbm, ⟨5, _⟩ => ⟨S1024x896, .f32⟩
  | .hbm, ⟨6, _⟩ => ⟨S1024x896, .f32⟩
  | .hbm, ⟨7, _⟩ => ⟨S1024x896, .f32⟩
  | .local _ .vmem, ⟨0, _⟩ => ⟨S256x896, .f32⟩
  | .local _ .vmem, ⟨1, _⟩ => ⟨S256x896, .f32⟩
  | .local _ .vmem, ⟨2, _⟩ => ⟨S256x896, .f32⟩
  | .local _ .vmem, ⟨3, _⟩ => ⟨S256x896, .f32⟩
  | .local _ .vmem, ⟨4, _⟩ => ⟨S256x896, .f32⟩
  | .local _ .vmem, ⟨5, _⟩ => ⟨S256x896, .f32⟩
  | .local _ .vmem, ⟨6, _⟩ => ⟨S256x896, .f32⟩
  | .local _ .vmem, ⟨7, _⟩ => ⟨S256x896, .f32⟩
  | .local _ .vmem, ⟨8, _⟩ => ⟨S256x896, .f32⟩
  | .local _ .vmem, ⟨9, _⟩ => ⟨S256x896, .f32⟩
  | .local _ .vmem, ⟨10, _⟩ => ⟨S256x896, .f32⟩
  | .local _ .vmem, ⟨11, _⟩ => ⟨S256x896, .f32⟩
  | .local _ .vmem, ⟨12, _⟩ => ⟨S256x896, .f32⟩
  | .local _ .vmem, ⟨13, _⟩ => ⟨S256x896, .f32⟩
  | .local _ .vmem, ⟨14, _⟩ => ⟨S256x896, .f32⟩
  | .local _ .vmem, ⟨15, _⟩ => ⟨S256x896, .f32⟩
  | _, _ => ⟨S1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S1024x896 : Shape := ⟨2, ![1024, 896]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x896, .f32⟩
  | .hbm, ⟨1, _⟩ => ⟨S1024x896, .f32⟩
  | .hbm, ⟨2, _⟩ => ⟨S1024x896, .f32⟩
  | .hbm, ⟨3, _⟩ => ⟨S1024x896, .f32⟩
  | .hbm, ⟨4, _⟩ => ⟨S_, .f32⟩
  | .hbm, ⟨5, _⟩ => ⟨S1024x896, .f32⟩
  | .hbm, ⟨6, _⟩ => ⟨S1024x896, .f32⟩
  | .hbm, ⟨7, _⟩ => ⟨S_, .f32⟩
  | .hbm, ⟨8, _⟩ => ⟨S1024x896, .f32⟩
  | .hbm, ⟨9, _⟩ => ⟨S1024x896, .f32⟩
  | .hbm, ⟨10, _⟩ => ⟨S1024x896, .f32⟩
  | .hbm, ⟨11, _⟩ => ⟨S_, .f32⟩
  | .hbm, ⟨12, _⟩ => ⟨S1024x896, .f32⟩
  | .hbm, ⟨13, _⟩ => ⟨S1024x896, .f32⟩
  | .hbm, ⟨14, _⟩ => ⟨S1024x896, .f32⟩
  | .hbm, ⟨15, _⟩ => ⟨S_, .f32⟩
  | .hbm, ⟨16, _⟩ => ⟨S1024x896, .f32⟩
  | .hbm, ⟨17, _⟩ => ⟨S1024x896, .f32⟩
  | .hbm, ⟨18, _⟩ => ⟨S1024x896, .f32⟩
  | .hbm, ⟨19, _⟩ => ⟨S_, .f32⟩
  | .hbm, ⟨20, _⟩ => ⟨S1024x896, .f32⟩
  | .hbm, ⟨21, _⟩ => ⟨S1024x896, .f32⟩
  | .hbm, ⟨22, _⟩ => ⟨S_, .f32⟩
  | .hbm, ⟨23, _⟩ => ⟨S1024x896, .f32⟩
  | .hbm, ⟨24, _⟩ => ⟨S1024x896, .f32⟩
  | .hbm, ⟨25, _⟩ => ⟨S1024x896, .f32⟩
  | .hbm, ⟨26, _⟩ => ⟨S_, .f32⟩
  | .hbm, ⟨27, _⟩ => ⟨S1024x896, .f32⟩
  | .hbm, ⟨28, _⟩ => ⟨S1024x896, .f32⟩
  | .hbm, ⟨29, _⟩ => ⟨S1024x896, .f32⟩
  | .hbm, ⟨30, _⟩ => ⟨S_, .f32⟩
  | .hbm, ⟨31, _⟩ => ⟨S1024x896, .f32⟩
  | .hbm, ⟨32, _⟩ => ⟨S1024x896, .f32⟩
  | .hbm, ⟨33, _⟩ => ⟨S1024x896, .f32⟩
  | .hbm, ⟨34, _⟩ => ⟨S_, .f32⟩
  | .hbm, ⟨35, _⟩ => ⟨S1024x896, .f32⟩
  | .hbm, ⟨36, _⟩ => ⟨S1024x896, .f32⟩
  | _, _ => ⟨S1024x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel5.lean ====
abbrev S1024x1024 : Shape := ⟨2, ![1024, 1024]⟩
abbrev S256x1024 : Shape := ⟨2, ![256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel6.lean ====
abbrev S4096x3584 : Shape := ⟨2, ![4096, 3584]⟩
abbrev S1024x3584 : Shape := ⟨2, ![1024, 3584]⟩
abbrev S4096x1024 : Shape := ⟨2, ![4096, 1024]⟩
abbrev S1024 : Shape := ⟨1, ![1024]⟩
abbrev S1024x4x896 : Shape := ⟨3, ![1024, 4, 896]⟩
abbrev S4x1024x896 : Shape := ⟨3, ![4, 1024, 896]⟩
abbrev S1x1024 : Shape := ⟨2, ![1, 1024]⟩
abbrev S8x1024 : Shape := ⟨2, ![8, 1024]⟩
abbrev S256x3584 : Shape := ⟨2, ![256, 3584]⟩
abbrev S256x1024 : Shape := ⟨2, ![256, 1024]⟩
abbrev S256x896 : Shape := ⟨2, ![256, 896]⟩
abbrev S1x1024x896 : Shape := ⟨3, ![1, 1024, 896]⟩
abbrev S1024x896 : Shape := ⟨2, ![1024, 896]⟩
abbrev S256 : Shape := ⟨1, ![256]⟩
abbrev S256x1 : Shape := ⟨2, ![256, 1]⟩

abbrev nBuf : Space → Nat
  | .hbm => 12
  | .vmem => 11
  | .smem => 0
  | _ => 0

abbrev bufTy : (tb : Table) → Fin (tcTables nBuf tb) → BufTy
  | .hbm, ⟨0, _⟩ => ⟨S4096x3584, .f32⟩
  | .hbm, ⟨1, _⟩ => ⟨S1024x3584, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S1024x3584, .bf16⟩
  | .hbm, ⟨6, _⟩ => ⟨S1024x4x896, .bf16⟩
  | .hbm, ⟨7, _⟩ => ⟨S4x1024x896, .bf16⟩
  | .hbm, ⟨8, _⟩ => ⟨S4096x3584, .bf16⟩
  | .hbm, ⟨9, _⟩ => ⟨S1x1024, .f32⟩
  | .hbm, ⟨10, _⟩ => ⟨S4096x1024, .f32⟩
  | .hbm, ⟨11, _⟩ => ⟨S8x1024, .f32⟩
  | .local _ .vmem, ⟨0, _⟩ => ⟨S256x3584, .bf16⟩
  | .local _ .vmem, ⟨1, _⟩ => ⟨S256x3584, .bf16⟩
  | .local _ .vmem, ⟨2, _⟩ => ⟨S4x1024x896, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S4096x3584 : Shape := ⟨2, ![4096, 3584]⟩
abbrev S1024x3584 : Shape := ⟨2, ![1024, 3584]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x1024 : Shape := ⟨2, ![8, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S1024x3584, .f32⟩
  | .hbm, ⟨2, _⟩ => ⟨S4096x1024, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x3584, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S8x1024, .f32⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Kernel7.lean ====
abbrev S4096x1024 : Shape := ⟨2, ![4096, 1024]⟩
abbrev S4096x3584 : Shape := ⟨2, ![4096, 3584]⟩
abbrev S4x1024x896 : Shape := ⟨3, ![4, 1024, 896]⟩
abbrev S4096x512 : Shape := ⟨2, ![4096, 512]⟩
abbrev S4096x896 : Shape := ⟨2, ![4096, 896]⟩
abbrev S1x512x896 : Shape := ⟨3, ![1, 512, 896]⟩
abbrev S512x512 : Shape := ⟨2, ![512, 512]⟩
abbrev S512x896 : Shape := ⟨2, ![512, 896]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x3584, .f32⟩
  | .hbm, ⟨2, _⟩ => ⟨S4096x1024, .bf16⟩
  | .hbm, ⟨3, _⟩ => ⟨S4096x3584, .bf16⟩
  | .hbm, ⟨4, _⟩ => ⟨S4x1024x896, .f32⟩
  | .local _ .vmem, ⟨0, _⟩ => ⟨S4096x512, .bf16⟩
  | .local _ .vmem, ⟨1, _⟩ => ⟨S4096x512, .bf16⟩
  | .local _ .vmem, ⟨2, _⟩ => ⟨S4096x896, .bf16⟩
  | .local _ .vmem, ⟨3, _⟩ => ⟨S4096x896, .bf16⟩
  | .local _ .vmem, ⟨4, _⟩ => ⟨S1x512x896, .f32⟩
  | .local _ .vmem, ⟨5, _⟩ => ⟨S1x512x896, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x1024 : Shape := ⟨2, ![4096, 1024]⟩
abbrev S4096x3584 : Shape := ⟨2, ![4096, 3584]⟩
abbrev S_ : Shape := ⟨0, ![]⟩
abbrev S1024x3584 : Shape := ⟨2, ![1024, 3584]⟩
abbrev S3584x1024 : Shape := ⟨2, ![3584, 1024]⟩
abbrev S1024x4x896 : Shape := ⟨3, ![1024, 4, 896]⟩
abbrev S4x1024x896 : Shape := ⟨3, ![4, 1024, 896]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3584, .f32⟩
  | .hbm, ⟨2, _⟩ => ⟨S_, .f32⟩
  | .hbm, ⟨3, _⟩ => ⟨S1024x3584, .f32⟩
  | .hbm, ⟨4, _⟩ => ⟨S4096x3584, .f32⟩
  | .hbm, ⟨5, _⟩ => ⟨S3584x1024, .f32⟩
  | .hbm, ⟨6, _⟩ => ⟨S1024x3584, .f32⟩
  | .hbm, ⟨7, _⟩ => ⟨S1024x4x896, .f32⟩
  | .hbm, ⟨8, _⟩ => ⟨S4x1024x896, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x1024 : Shape := ⟨2, ![4096, 1024]⟩
abbrev S4096x4096 : Shape := ⟨2, ![4096, 4096]⟩
abbrev S4x1024x1024 : Shape := ⟨3, ![4, 1024, 1024]⟩
abbrev S4096x512 : Shape := ⟨2, ![4096, 512]⟩
abbrev S1x512x1024 : Shape := ⟨3, ![1, 512, 1024]⟩
abbrev S512x512 : Shape := ⟨2, ![512, 512]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S4x1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .f32⟩
  | .local _ .vmem, ⟨5, _⟩ => ⟨S1x512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x4096 : Shape := ⟨2, ![4096, 4096]⟩
abbrev S4096x1024 : Shape := ⟨2, ![4096, 1024]⟩
abbrev S1x4096x1024 : Shape := ⟨3, ![1, 4096, 1024]⟩
abbrev S4096x512 : Shape := ⟨2, ![4096, 512]⟩
abbrev S1x512x1024 : Shape := ⟨3, ![1, 512, 1024]⟩
abbrev S512x512 : Shape := ⟨2, ![512, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .bf16⟩
  | .hbm, ⟨4, _⟩ => ⟨S1x4096x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x512x1024, .f32⟩
  | .local _ .vmem, ⟨4, _⟩ => ⟨S1x512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4096x1x1024 : Shape := ⟨3, ![4096, 1, 1024]⟩
abbrev S1x4096x1024 : Shape := ⟨3, ![1, 4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S4096x1024, .f32⟩
  | .hbm, ⟨7, _⟩ => ⟨S4096x1x1024, .f32⟩
  | .hbm, ⟨8, _⟩ => ⟨S1x4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4096x1536 : Shape := ⟨2, ![4096, 1536]⟩
abbrev S4096x1024 : Shape := ⟨2, ![4096, 1024]⟩
abbrev S1x1536x1024 : Shape := ⟨3, ![1, 1536, 1024]⟩
abbrev S4096x512 : Shape := ⟨2, ![4096, 512]⟩
abbrev S1x512x1024 : Shape := ⟨3, ![1, 512, 1024]⟩
abbrev S512x512 : Shape := ⟨2, ![512, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S4096x1536, .bf16⟩
  | .hbm, ⟨3, _⟩ => ⟨S4096x1024, .bf16⟩
  | .hbm, ⟨4, _⟩ => ⟨S1x1536x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x512x1024, .f32⟩
  | .local _ .vmem, ⟨4, _⟩ => ⟨S1x512x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x1536 : Shape := ⟨2, ![4096, 1536]⟩
abbrev S4096x1024 : Shape := ⟨2, ![4096, 1024]⟩
abbrev S_ : Shape := ⟨0, ![]⟩
abbrev S1536x1024 : Shape := ⟨2, ![1536, 1024]⟩
abbrev S1024x1536 : Shape := ⟨2, ![1024, 1536]⟩
abbrev S1536x1x1024 : Shape := ⟨3, ![1536, 1, 1024]⟩
abbrev S1x1536x1024 : Shape := ⟨3, ![1, 1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S_, .f32⟩
  | .hbm, ⟨3, _⟩ => ⟨S1536x1024, .f32⟩
  | .hbm, ⟨4, _⟩ => ⟨S4096x1024, .f32⟩
  | .hbm, ⟨5, _⟩ => ⟨S1024x1536, .f32⟩
  | .hbm, ⟨6, _⟩ => ⟨S1536x1024, .f32⟩
  | .hbm, ⟨7, _⟩ => ⟨S1536x1x1024, .f32⟩
  | .hbm, ⟨8, _⟩ => ⟨S1x1536x1024, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4096x1024 : Shape := ⟨2, ![4096, 1024]⟩
abbrev S1024 : Shape := ⟨1, ![1024]⟩
abbrev S1024x3584 : Shape := ⟨2, ![1024, 3584]⟩
abbrev S3x512 : Shape := ⟨2, ![3, 512]⟩
abbrev S4x1024 : Shape := ⟨2, ![4, 1024]⟩
abbrev S4x256x256 : Shape := ⟨3, ![4, 256, 256]⟩
abbrev S512 : Shape := ⟨1, ![512]⟩
abbrev S1024x4x896 : Shape := ⟨3, ![1024, 4, 896]⟩
abbrev S4x1024x896 : Shape := ⟨3, ![4, 1024, 896]⟩
abbrev S1x1024 : Shape := ⟨2, ![1, 1024]⟩
abbrev S1x512 : Shape := ⟨2, ![1, 512]⟩
abbrev S4096x3584 : Shape := ⟨2, ![4096, 3584]⟩
abbrev S4096x512 : Shape := ⟨2, ![4096, 512]⟩
abbrev S4096x1536 : Shape := ⟨2, ![4096, 1536]⟩
abbrev S256x1024 : Shape := ⟨2, ![256, 1024]⟩
abbrev S256x3584 : Shape := ⟨2, ![256, 3584]⟩
abbrev S256x512 : Shape := ⟨2, ![256, 512]⟩
abbrev S256x1536 : Shape := ⟨2, ![256, 1536]⟩
abbrev S8x512 : Shape := ⟨2, ![8, 512]⟩
abbrev S8x1024 : Shape := ⟨2, ![8, 1024]⟩
abbrev S256 : Shape := ⟨1, ![256]⟩
abbrev S256x1 : Shape := ⟨2, ![256, 1]⟩
abbrev S1x1024x896 : Shape := ⟨3, ![1, 1024, 896]⟩
abbrev S1024x896 : Shape := ⟨2, ![1024, 896]⟩
abbrev S256x896 : Shape := ⟨2, ![256, 896]⟩
abbrev S248x512 : Shape := ⟨2, ![248, 512]⟩
abbrev S248x1024 : Shape := ⟨2, ![248, 1024]⟩
abbrev S256x256 : Shape := ⟨2, ![256, 256]⟩
abbrev S1x256x256 : Shape := ⟨3, ![1, 256, 256]⟩

abbrev nBuf : Space → Nat
  | .hbm => 31
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3584, .f32⟩
  | .hbm, ⟨3, _⟩ => ⟨S3x512, .f32⟩
  | .hbm, ⟨4, _⟩ => ⟨S4x1024, .f32⟩
  | .hbm, ⟨5, _⟩ => ⟨S1024, .f32⟩
  | .hbm, ⟨6, _⟩ => ⟨S4x256x256, .f32⟩
  | .hbm, ⟨7, _⟩ => ⟨S1024, .f32⟩
  | .hbm, ⟨8, _⟩ => ⟨S4x256x256, .f32⟩
  | .hbm, ⟨9, _⟩ => ⟨S1024, .f32⟩
  | .hbm, ⟨10, _⟩ => ⟨S1024, .f32⟩
  | .hbm, ⟨11, _⟩ => ⟨S512, .f32⟩
  | .hbm, ⟨12, _⟩ => ⟨S1024, .f32⟩
  | .hbm, ⟨13, _⟩ => ⟨S1024x3584, .bf16⟩
  | .hbm, ⟨14, _⟩ => ⟨S1024x4x896, .bf16⟩
  | .hbm, ⟨15, _⟩ => ⟨S4x1024x896, .bf16⟩
  | .hbm, ⟨16, _⟩ => ⟨S1x1024, .f32⟩
  | .hbm, ⟨17, _⟩ => ⟨S1x1024, .f32⟩
  | .hbm, ⟨18, _⟩ => ⟨S4x256x256, .bf16⟩
  | .hbm, ⟨19, _⟩ => ⟨S1x1024, .f32⟩
  | .hbm, ⟨20, _⟩ => ⟨S4x256x256, .bf16⟩
  | .hbm, ⟨21, _⟩ => ⟨S1x1024, .f32⟩
  | .hbm, ⟨22, _⟩ => ⟨S1x1024, .f32⟩
  | .hbm, ⟨23, _⟩ => ⟨S1x512, .f32⟩
  | .hbm, ⟨24, _⟩ => ⟨S1x1024, .f32⟩
  | .hbm, ⟨25, _⟩ => ⟨S4096x3584, .f32⟩
  | .hbm, ⟨26, _⟩ => ⟨S4096x1024, .bf16⟩
  | .hbm, ⟨27, _⟩ => ⟨S4096x1024, .f32⟩
  | .hbm, ⟨28, _⟩ => ⟨S4096x1024, .f32⟩
  | .hbm, ⟨29, _⟩ => ⟨S4096x512, .f32⟩
  | .hbm, ⟨30, _⟩ => ⟨S4096x1536, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1024x896, .bf16⟩
  | .local _ .vmem, ⟨4, _⟩ => ⟨S3x512, .f32⟩
  | .local _ .vmem, ⟨5, _⟩ => ⟨S4x1024, .f32⟩
  | .local _ .vmem, ⟨6, _⟩ => ⟨S1x1024, .f32⟩
  | .local _ .vmem, ⟨7, _⟩ => ⟨S4x256x256, .bf16⟩
  | .local _ .vmem, ⟨8, _⟩ => ⟨S1x1024, .f32⟩
  | .local _ .vmem, ⟨9, _⟩ => ⟨S4x256x256, .bf16⟩
  | .local _ .vmem, ⟨10, _⟩ => ⟨S1x1024, .f32⟩
  | .local _ .vmem, ⟨11, _⟩ => ⟨S1x1024, .f32⟩
  | .local _ .vmem, ⟨12, _⟩ => ⟨S1x512, .f32⟩
  | .local _ .vmem, ⟨13, _⟩ => ⟨S1x1024, .f32⟩
  | .local _ .vmem, ⟨14, _⟩ => ⟨S256x3584, .f32⟩
  | .local _ .vmem, ⟨15, _⟩ => ⟨S256x3584, .f32⟩
  | .local _ .vmem, ⟨16, _⟩ => ⟨S256x1024, .bf16⟩
  | .local _ .vmem, ⟨17, _⟩ => ⟨S256x1024, .bf16⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x512, .f32⟩
  | .local _ .vmem, ⟨23, _⟩ => ⟨S256x512, .f32⟩
  | .local _ .vmem, ⟨24, _⟩ => ⟨S256x1536, .bf16⟩
  | .local _ .vmem, ⟨25, _⟩ => ⟨S256x1536, .bf16⟩
  | .local _ .vmem, ⟨26, _⟩ => ⟨S8x512, .f32⟩
  | .local _ .vmem, ⟨27, _⟩ => ⟨S8x1024, .f32⟩
  | .local _ .vmem, ⟨28, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v12_3 : Ref sig .tc := ⟨.hbm, 28, rfl⟩
abbrev main_v12_4 : Ref sig .tc := ⟨.hbm, 29, rfl⟩
abbrev main_v12_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x3584 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1536 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference11Ideal.lean ====
abbrev S4096x1024 : Shape := ⟨2, ![4096, 1024]⟩
abbrev S1024 : Shape := ⟨1, ![1024]⟩
abbrev S1024x3584 : Shape := ⟨2, ![1024, 3584]⟩
abbrev S3x512 : Shape := ⟨2, ![3, 512]⟩
abbrev S4x1024 : Shape := ⟨2, ![4, 1024]⟩
abbrev S4x256x256 : Shape := ⟨3, ![4, 256, 256]⟩
abbrev S512 : Shape := ⟨1, ![512]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3584 : Shape := ⟨2, ![4096, 3584]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3584, .f32⟩
  | .hbm, ⟨3, _⟩ => ⟨S3x512, .f32⟩
  | .hbm, ⟨4, _⟩ => ⟨S4x1024, .f32⟩
  | .hbm, ⟨5, _⟩ => ⟨S1024, .f32⟩
  | .hbm, ⟨6, _⟩ => ⟨S4x256x256, .f32⟩
  | .hbm, ⟨7, _⟩ => ⟨S1024, .f32⟩
  | .hbm, ⟨8, _⟩ => ⟨S4x256x256, .f32⟩
  | .hbm, ⟨9, _⟩ => ⟨S1024, .f32⟩
  | .hbm, ⟨10, _⟩ => ⟨S1024, .f32⟩
  | .hbm, ⟨11, _⟩ => ⟨S512, .f32⟩
  | .hbm, ⟨12, _⟩ => ⟨S1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x3584, .f32⟩
  | .hbm, ⟨30, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩

abbrev nD : Nat := 1
abbrev τ : Topo := Topo.v7x

variable {F : FTy → Type} [FloatOps F]
-- ==== Proof.Tile.lean ====
/- What one grid point of the kernel computes, as functions of its input blocks and of the three weight arrays, for
   any reading of the floats: the named values of the body's two cases (the first point, which also copies the weights
   in and clears the sums; every later point) are these functions, so that both cases are read once. -/
module

public import proofs.«01_k».proof.Proof.Gen.KernelIdeal.Frame
public import Idealize.ShloMosaic.Lib.Pipeline.Value

@[expose] public section

set_option maxRecDepth 16384

noncomputable section

namespace Cert.KernelIdeal.Tile

open Cert.KernelIdeal Cert.KernelIdeal.Gen Idealize.ShloMosaic Idealize.ShloMosaic.TcCoe Idealize.SL.Sem

/-! ## Loads of whole buffers -/

section Loads

variable {sig : RefSig} {κ : Kind} {sp : Space} {e : EltTy} {Val : EltTy → Type}

/-- A load of all of a whole two-dimensional buffer reads its contents. -/
theorem readAt_whole {a b : ℕ} {m : Memref sig κ sp ⟨2, ![a, b]⟩ e} (h : m.IsWhole) (X : (⟨2, ![a, b]⟩ : Shape).Idx → Val e)
    (inb : ∀ k, (![0, 0] : Fin 2 → ℕ) k + (![a, b] : Fin 2 → ℕ) k ≤ (![a, b] : Fin 2 → ℕ) k) :
    View.readAt Val m.view (Rect.unit (s := ⟨2, ![a, b]⟩) ![0, 0] ![a, b] inb).toLoadRect (h.unread X) = X := by
  rw [View.readAt_eq_ld, h.read_unread]
  exact View.ld_unit_zero (S := ⟨2, ![a, b]⟩) (by funext k; fin_cases k <;> rfl) inb X

/-- A load through a rectangle of a whole buffer reads the contents through it. -/
theorem readAt_rect {s : Shape} {m : Memref sig κ sp s e} (h : m.IsWhole) (X : s.Idx → Val e) (r : Rect s) :
    View.readAt Val m.view r.toLoadRect (h.unread X) = View.ld X r := by
  rw [View.readAt_eq_ld, h.read_unread]

theorem mem_whole {s : Shape} (y : s.Idx) : y ∈ (Rect.whole s).set := by rw [Rect.set_whole]; exact Finset.mem_univ y

theorem canon_whole [∀ e, Nonempty (Val e)] {s : Shape} (w : s.Idx → Val e) :
    View.canon [(⟨Rect.whole s, w⟩ : View.Piece Val s e)] = w := by
  funext y
  have e := View.canon_cons_emb (Val := Val) (Rect.whole s) w [] y
  rwa [Rect.emb_whole_apply] at e

/-- A load after one store of the whole buffer reads the stored value. -/
theorem readCov_whole [∀ e, Nonempty (Val e)] {s : Shape} (v : View sig κ sp s e) (w : s.Idx → Val e) (r : Rect s) :
    v.readCov [(⟨Rect.whole s, w⟩ : View.Piece Val s e)] r.toLoadRect = View.ld w r := by
  rw [View.readCov_eq_canon_ld v _ r (fun y => ⟨_, List.mem_singleton_self _, mem_whole y⟩), canon_whole]

/-- What a load reads after any writes over junk. -/
theorem readCov_rect [∀ e, Nonempty (Val e)] {s : Shape} (v : View sig κ sp s e) (L : List (View.Piece Val s e)) (r : Rect s) :
    v.readCov L r.toLoadRect = View.ld (View.canon L) r := View.readCov_eq_canon' v L _

theorem ld_whole {a b : ℕ} (X : (⟨2, ![a, b]⟩ : Shape).Idx → Val e)
    (inb : ∀ k, (![0, 0] : Fin 2 → ℕ) k + (![a, b] : Fin 2 → ℕ) k ≤ (![a, b] : Fin 2 → ℕ) k) :
    View.ld X (Rect.unit (s := ⟨2, ![a, b]⟩) ![0, 0] ![a, b] inb) = X :=
  View.ld_unit_zero (S := ⟨2, ![a, b]⟩) (by funext k; fin_cases k <;> rfl) inb X

theorem canon_whole2 [∀ e, Nonempty (Val e)] {a b : ℕ} (X : (⟨2, ![a, b]⟩ : Shape).Idx → Val e)
    (inb : ∀ k, (![0, 0] : Fin 2 → ℕ) k + (![a, b] : Fin 2 → ℕ) k ≤ (![a, b] : Fin 2 → ℕ) k) :
    View.canon [(⟨Rect.unit (s := ⟨2, ![a, b]⟩) ![0, 0] ![a, b] inb, X⟩ : View.Piece Val _ e)] = X :=
  View.canon_unit_zero (S := ⟨2, ![a, b]⟩) (by funext k; fin_cases k <;> rfl) inb X

/-- What is read after one more write: the write laid over what was there. -/
theorem read_writes_overlay {s : Shape} (v : View sig κ sp s e) (f : v.ty.Contents Val) (r : Rect s) (w : r.shape.Idx → Val e)
    (L : List (View.Piece Val s e)) :
    v.read Val (v.writes Val f (⟨r, w⟩ :: L)) = r.overlay (v.read Val (v.writes Val f L)) w := by
  funext y
  by_cases hy : y ∈ r.set
  · obtain ⟨x, rfl⟩ : ∃ x, r.emb x = y := r.exists_idx_of_mem hy
    rw [View.read_writes_cons_emb, Rect.overlay_emb]
  · rw [View.read_writes_cons_miss (v := v) (f := f) ⟨r, w⟩ L y hy, Rect.overlay_of_not_mem _ _ _ hy]

theorem canon_overlay [∀ e, Nonempty (Val e)] {s : Shape} (r : Rect s) (w : r.shape.Idx → Val e) (L : List (View.Piece Val s e)) :
    View.canon (⟨r, w⟩ :: L) = r.overlay (View.canon L) w := rfl

/-- A rectangle apart from a write reads what was there before it. -/
theorem ld_overlay {s : Shape} (X : s.Idx → Val e) (r q : Rect s) (w : r.shape.Idx → Val e) (h : ∀ x, q.emb x ∉ r.set) :
    View.ld (r.overlay X w) q = View.ld X q := by
  funext x
  exact Rect.overlay_of_not_mem _ _ _ (h x)

end Loads

variable {F : FTy → Type} [FloatOps F]

/-! ## The values of one grid point -/

variable (x0 : Vec F S256x1024 .f32) (x1 : Vec F S256x1536 .bf16) (x2 x3 : Vec F S1x1024 .f32) (x4 : Vec F S256x1024 .f32)
variable (wo : Vec F S1536x1024 .bf16) (w1 : Vec F S4x1024x1024 .bf16) (w2 : Vec F S4096x1024 .bf16)

/-- The four column blocks of the first weight. -/
def sl0 : Vec F S1x1024x1024 .bf16 := View.ld w1 (Rect.unit ![0, 0, 0] S1x1024x1024.size inb_S4x1024x1024_S1x1024x1024_0_0_0)
def sl1 : Vec F S1x1024x1024 .bf16 := View.ld w1 (Rect.unit ![1, 0, 0] S1x1024x1024.size inb_S4x1024x1024_S1x1024x1024_1_0_0)
def sl2 : Vec F S1x1024x1024 .bf16 := View.ld w1 (Rect.unit ![2, 0, 0] S1x1024x1024.size inb_S4x1024x1024_S1x1024x1024_2_0_0)
def sl3 : Vec F S1x1024x1024 .bf16 := View.ld w1 (Rect.unit ![3, 0, 0] S1x1024x1024.size inb_S4x1024x1024_S1x1024x1024_3_0_0)
/-- The normalised first residual, rounded. -/
def tH : FVec F S256x1024 .bf16 := k0_pay11 x0 x1 wo x2
/-- The stores that fill the product of the normalised residual with the first weight, block by block. -/
def tPieces : List (View.Piece (Elt F) S256x4096 .f32) :=
  [⟨Rect.unit ![0, 3072] S256x1024.size inb_S256x4096_S256x1024_0_3072, k0_pay15 (tH x0 x1 x2 wo) (sl3 w1)⟩,
   ⟨Rect.unit ![0, 2048] S256x1024.size inb_S256x4096_S256x1024_0_2048, k0_pay14 (tH x0 x1 x2 wo) (sl2 w1)⟩,
   ⟨Rect.unit ![0, 1024] S256x1024.size inb_S256x4096_S256x1024_0_1024, k0_pay13 (tH x0 x1 x2 wo) (sl1 w1)⟩,
   ⟨Rect.unit ![0, 0] S256x1024.size inb_S256x4096_S256x1024_0_0, k0_pay12 x0 x1 wo x2 (sl0 w1)⟩]
/-- The product itself. -/
def tP : Vec F S256x4096 .f32 := View.canon (tPieces x0 x1 x2 wo w1)
/-- The second residual and the sums of its rows' squares. -/
def tX3 : FVec F S256x1024 .f32 := k0_pay18 (k0_pay7 x0 x1 wo) (tP x0 x1 x2 wo w1) w2
def tS3 : FVec F S256x1 .f32 := k0_pay19 (k0_pay7 x0 x1 wo) (tP x0 x1 x2 wo w1) w2
/-- The reciprocal root mean square of its rows, and it normalised. -/
def tR3 : FVec F S256x1 .f32 := k0_pay21 (tS3 x0 x1 x2 wo w1 w2) k0_pay20
def tXh3 : FVec F S256x1024 .f32 := k0_pay22 (tX3 x0 x1 x2 wo w1 w2) (tS3 x0 x1 x2 wo w1 w2) k0_pay20
/-- The gradient at the normalised second residual, and its rows' products with it. -/
def tD : FVec F S256x1024 .f32 := k0_pay28 (tX3 x0 x1 x2 wo w1 w2) (tS3 x0 x1 x2 wo w1 w2) k0_pay20 x3 x4
def tE : FVec F S256x1 .f32 := k0_pay29 (tX3 x0 x1 x2 wo w1 w2) (tS3 x0 x1 x2 wo w1 w2) k0_pay20 x3 x4
/-- The gradient at the second residual. -/
def tDx3 : FVec F S256x1024 .f32 := k0_pay30 (tR3 x0 x1 x2 wo w1 w2) (tXh3 x0 x1 x2 wo w1 w2) (tD x0 x1 x2 x3 x4 wo w1 w2) (tE x0 x1 x2 x3 x4 wo w1 w2)
/-- The first three blocks of the gradient at the normalised first residual, and the fourth one's left factor. -/
def tG : FVec F S256x1024 .f32 := k0_pay33 (k0_pay16 (tP x0 x1 x2 wo w1)) (tR3 x0 x1 x2 wo w1 w2) (tXh3 x0 x1 x2 wo w1 w2) (tD x0 x1 x2 x3 x4 wo w1 w2) (tE x0 x1 x2 x3 x4 wo w1 w2) w2 (sl0 w1) (sl1 w1) (sl2 w1)
def tL : FVec F S256x1024 .bf16 := k0_pay34 (k0_pay16 (tP x0 x1 x2 wo w1)) (tR3 x0 x1 x2 wo w1 w2) (tXh3 x0 x1 x2 wo w1 w2) (tD x0 x1 x2 x3 x4 wo w1 w2) (tE x0 x1 x2 x3 x4 wo w1 w2) w2
/-- The zero block. -/
def t0 : FVec F S256x1024 .f32 := constant S256x1024 .f32 0x00000000#32

/-- The eight results of one grid point (the last: the three rows of sums laid over what they were). -/
def oZ : Vec F S256x4096 .bf16 := k0_pay17 (tP x0 x1 x2 wo w1)
def oDp : Vec F S256x4096 .bf16 := k0_pay32 (k0_pay16 (tP x0 x1 x2 wo w1)) (tR3 x0 x1 x2 wo w1 w2) (tXh3 x0 x1 x2 wo w1 w2) (tD x0 x1 x2 x3 x4 wo w1 w2) (tE x0 x1 x2 x3 x4 wo w1 w2) w2
def oDx3b : Vec F S256x1024 .bf16 := k0_pay31 (tR3 x0 x1 x2 wo w1 w2) (tXh3 x0 x1 x2 wo w1 w2) (tD x0 x1 x2 x3 x4 wo w1 w2) (tE x0 x1 x2 x3 x4 wo w1 w2)
def oDx2 : Vec F S256x1024 .f32 := k0_pay3 (k0_pay8 x0 x1 wo) (k0_pay9 x0 x1 wo) (k0_pay10 x2) (tDx3 x0 x1 x2 x3 x4 wo w1 w2) (tG x0 x1 x2 x3 x4 wo w1 w2) (tL x0 x1 x2 x3 x4 wo w1 w2) (k0_pay35 (sl3 w1)) t0
def oDx2b : Vec F S256x1024 .bf16 := k0_pay4 (k0_pay8 x0 x1 wo) (k0_pay9 x0 x1 wo) (k0_pay10 x2) (tDx3 x0 x1 x2 x3 x4 wo w1 w2) (tG x0 x1 x2 x3 x4 wo w1 w2) (tL x0 x1 x2 x3 x4 wo w1 w2) (k0_pay35 (sl3 w1)) t0
def oDy : Vec F S256x1536 .f32 := k0_pay5 (k0_pay8 x0 x1 wo) (k0_pay9 x0 x1 wo) (k0_pay10 x2) (tDx3 x0 x1 x2 x3 x4 wo w1 w2) (tG x0 x1 x2 x3 x4 wo w1 w2) (tL x0 x1 x2 x3 x4 wo w1 w2) (k0_pay35 (sl3 w1)) t0 wo

/-- The three rows of sums. -/
abbrev row0 : Rect S8x1024 := Rect.unit ![0, 0] ![1, 1024] inb_S8x1024_S1x1024_0_0
abbrev row1 : Rect S8x1024 := Rect.unit ![1, 0] ![1, 1024] inb_S8x1024_S1x1024_1_0
abbrev row2 : Rect S8x1024 := Rect.unit ![2, 0] ![1, 1024] inb_S8x1024_S1x1024_2_0
/-- The rows of sums after the point, over what they were (`acc`). -/
def oSt (acc : Vec F S8x1024 .f32) : Vec F S8x1024 .f32 :=
  row1.overlay
    (row2.overlay
      (row0.overlay acc
        (k0_pay26 (tX3 x0 x1 x2 wo w1 w2) (tS3 x0 x1 x2 wo w1 w2) k0_pay20 x3 x4 (View.ld acc row0)))
      (k0_pay27 (tX3 x0 x1 x2 wo w1 w2) (tS3 x0 x1 x2 wo w1 w2) k0_pay20 x3 x4 (View.ld acc row2)))
    (k0_pay2 (k0_pay9 x0 x1 wo) (tG x0 x1 x2 x3 x4 wo w1 w2) (tL x0 x1 x2 x3 x4 wo w1 w2) (k0_pay35 (sl3 w1)) t0 (View.ld acc row1))

theorem not_mem_row {a b : ℕ} (hab : a ≠ b) (ia ib) (x : (Rect.unit (s := S8x1024) ![a, 0] ![1, 1024] ia).shape.Idx) :
    (Rect.unit (s := S8x1024) ![a, 0] ![1, 1024] ia).emb x ∉ (Rect.unit (s := S8x1024) ![b, 0] ![1, 1024] ib).set := by
  intro h
  obtain ⟨y, hy⟩ := LoadRect.exists_idx_of_mem _ h
  have h0 := congrArg Fin.val (congrFun hy 0)
  have hx : (x 0).val < 1 := (x 0).isLt
  have hy' : (y 0).val < 1 := (y 0).isLt
  have e1 : ((Rect.unit (s := S8x1024) ![a, 0] ![1, 1024] ia).emb x 0).val = a + 1 * (x 0).val := rfl
  have e2 : ((Rect.unit (s := S8x1024) ![b, 0] ![1, 1024] ib).idx y 0).val = b + 1 * (y 0).val := rfl
  omega

/-! ## The body's named values are these -/

section Named

variable (c : Dev nD) (i : grid0.Coords)

variable (arg1 : Memref sig .tc .vmem S256x1024 .f32) (harg1 : arg1.IsWhole)
  (arg2 : Memref sig .tc .vmem S256x1536 .bf16) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S256x1024 .f32) (harg5 : arg5.IsWhole)
  (arg9 : Memref sig .tc .vmem S256x4096 .bf16) (harg9 : arg9.IsWhole)
  (arg10 : Memref sig .tc .vmem S256x4096 .bf16) (harg10 : arg10.IsWhole)
  (arg11 : Memref sig .tc .vmem S256x1024 .bf16) (harg11 : arg11.IsWhole)
  (arg12 : Memref sig .tc .vmem S256x1024 .bf16) (harg12 : arg12.IsWhole)
  (arg13 : Memref sig .tc .vmem S256x1024 .f32) (harg13 : arg13.IsWhole)
  (arg14 : Memref sig .tc .vmem S256x1024 .bf16) (harg14 : arg14.IsWhole)
  (arg15 : Memref sig .tc .vmem S256x1536 .f32) (harg15 : arg15.IsWhole)
  (arg16 : Memref sig .tc .vmem S8x1024 .f32) (harg16 : arg16.IsWhole)
  (arg17 : Memref sig .tc .vmem S1536x1024 .bf16) (harg17 : arg17.IsWhole)
  (arg18 : Memref sig .tc .vmem S4x1024x1024 .bf16) (harg18 : arg18.IsWhole)
  (arg19 : Memref sig .tc .vmem S4096x1024 .bf16) (harg19 : arg19.IsWhole)
  (arg20 : Memref sig .tc .vmem S256x4096 .f32) (harg20 : arg20.IsWhole)
variable (xo12 : Vec F S8x1024 .f32) (fh0 : HbBuf0 (F := F) c hbM0_0) (fh1 : HbBuf0 (F := F) c hbM0_1) (fh2 : HbBuf0 (F := F) c hbM0_2)

theorem B_cst : kernelRun0_B.sl.cst_84 (F := F) = t0 := rfl

theorem B_sl0 : View.readAt (Elt F) arg18.view (Rect.unit (s := S4x1024x1024) ![0, 0, 0] ![1, 1024, 1024] inb_S4x1024x1024_S1x1024x1024_0_0_0).toLoadRect (harg18.unread w1) = sl0 w1 := readAt_rect _ _ _

theorem B_sl1 : View.readAt (Elt F) arg18.view (Rect.unit (s := S4x1024x1024) ![1, 0, 0] ![1, 1024, 1024] inb_S4x1024x1024_S1x1024x1024_1_0_0).toLoadRect (harg18.unread w1) = sl1 w1 := readAt_rect _ _ _

theorem B_sl2 : View.readAt (Elt F) arg18.view (Rect.unit (s := S4x1024x1024) ![2, 0, 0] ![1, 1024, 1024] inb_S4x1024x1024_S1x1024x1024_2_0_0).toLoadRect (harg18.unread w1) = sl2 w1 := readAt_rect _ _ _

theorem B_sl3 : View.readAt (Elt F) arg18.view (Rect.unit (s := S4x1024x1024) ![3, 0, 0] ![1, 1024, 1024] inb_S4x1024x1024_S1x1024x1024_3_0_0).toLoadRect (harg18.unread w1) = sl3 w1 := readAt_rect _ _ _

theorem B_row0 : View.readAt (Elt F) arg16.view (Rect.unit (s := S8x1024) ![0, 0] ![1, 1024] inb_S8x1024_S1x1024_0_0).toLoadRect (harg16.unread xo12) = View.ld xo12 row0 := readAt_rect _ _ _

theorem B_r : kernelRun0_B.sl.r c arg1 harg1 arg2 harg2 arg17 harg17 x0 x1 wo = k0_pay7 x0 x1 wo := by
  unfold kernelRun0_B.sl.r; simp only [readAt_whole, B_cst, B_sl0, B_sl1, B_sl2, B_sl3, B_row0]

theorem B_r_1 : kernelRun0_B.sl.r_1 c arg1 harg1 arg2 harg2 arg17 harg17 x0 x1 wo = k0_pay8 x0 x1 wo := by
  unfold kernelRun0_B.sl.r_1; simp only [readAt_whole, B_cst, B_sl0, B_sl1, B_sl2, B_sl3, B_row0, B_r]

theorem B_r_2 : kernelRun0_B.sl.r_2 c arg1 harg1 arg2 harg2 arg17 harg17 x0 x1 wo = k0_pay9 x0 x1 wo := by
  unfold kernelRun0_B.sl.r_2; simp only [readAt_whole, B_cst, B_sl0, B_sl1, B_sl2, B_sl3, B_row0, B_r, B_r_1]

theorem B_r_3 : kernelRun0_B.sl.r_3 c arg3 harg3 x2 = k0_pay10 x2 := by
  unfold kernelRun0_B.sl.r_3; simp only [readAt_whole, B_cst, B_sl0, B_sl1, B_sl2, B_sl3, B_row0, B_r, B_r_1, B_r_2]

theorem B_r_4 : kernelRun0_B.sl.r_4 c arg1 harg1 arg2 harg2 arg3 harg3 arg17 harg17 x0 x1 x2 wo = tH x0 x1 x2 wo := by
  unfold kernelRun0_B.sl.r_4 tH; simp only [readAt_whole, B_cst, B_sl0, B_sl1, B_sl2, B_sl3, B_row0, B_r, B_r_1, B_r_2, B_r_3]

theorem B_v49 : kernelRun0_B.sl.v49 c arg1 harg1 arg2 harg2 arg3 harg3 arg17 harg17 arg18 harg18 arg20 x0 x1 x2 wo w1 = tP x0 x1 x2 wo w1 := by
  unfold kernelRun0_B.sl.v49 tP tPieces; rw [readCov_rect, ld_whole]; unfold kernelRun0_B.sl.HS3_4; simp only [readAt_whole, B_cst, B_sl0, B_sl1, B_sl2, B_sl3, B_row0, B_r, B_r_1, B_r_2, B_r_3, B_r_4]

theorem B_r_5 : kernelRun0_B.sl.r_5 c arg1 harg1 arg2 harg2 arg3 harg3 arg17 harg17 arg18 harg18 arg20 x0 x1 x2 wo w1 = k0_pay16 (tP x0 x1 x2 wo w1) := by
  unfold kernelRun0_B.sl.r_5; simp only [readAt_whole, B_cst, B_sl0, B_sl1, B_sl2, B_sl3, B_row0, B_r, B_r_1, B_r_2, B_r_3, B_r_4, B_v49]

theorem B_r_6 : kernelRun0_B.sl.r_6 c arg1 harg1 arg2 harg2 arg3 harg3 arg17 harg17 arg18 harg18 arg19 harg19 arg20 x0 x1 x2 wo w1 w2 = tX3 x0 x1 x2 wo w1 w2 := by
  unfold kernelRun0_B.sl.r_6 tX3; simp only [readAt_whole, B_cst, B_sl0, B_sl1, B_sl2, B_sl3, B_row0, B_r, B_r_1, B_r_2, B_r_3, B_r_4, B_v49, B_r_5]

theorem B_r_7 : kernelRun0_B.sl.r_7 c arg1 harg1 arg2 harg2 arg3 harg3 arg17 harg17 arg18 harg18 arg19 harg19 arg20 x0 x1 x2 wo w1 w2 = tS3 x0 x1 x2 wo w1 w2 := by
  unfold kernelRun0_B.sl.r_7 tS3; simp only [readAt_whole, B_cst, B_sl0, B_sl1, B_sl2, B_sl3, B_row0, B_r, B_r_1, B_r_2, B_r_3, B_r_4, B_v49, B_r_5, B_r_6]

theorem B_r_8 : kernelRun0_B.sl.r_8 c arg1 harg1 arg2 harg2 arg3 harg3 arg17 harg17 arg18 harg18 arg19 harg19 arg20 x0 x1 x2 wo w1 w2 = tR3 x0 x1 x2 wo w1 w2 := by
  unfold kernelRun0_B.sl.r_8 tR3; simp only [readAt_whole, B_cst, B_sl0, B_sl1, B_sl2, B_sl3, B_row0, B_r, B_r_1, B_r_2, B_r_3, B_r_4, B_v49, B_r_5, B_r_6, B_r_7]

theorem B_r_9 : kernelRun0_B.sl.r_9 c arg1 harg1 arg2 harg2 arg3 harg3 arg17 harg17 arg18 harg18 arg19 harg19 arg20 x0 x1 x2 wo w1 w2 = tXh3 x0 x1 x2 wo w1 w2 := by
  unfold kernelRun0_B.sl.r_9 tXh3; simp only [readAt_whole, B_cst, B_sl0, B_sl1, B_sl2, B_sl3, B_row0, B_r, B_r_1, B_r_2, B_r_3, B_r_4, B_v49, B_r_5, B_r_6, B_r_7, B_r_8]

theorem B_r_10 : kernelRun0_B.sl.r_10 c arg1 harg1 arg2 harg2 arg3 harg3 arg4 harg4 arg5 harg5 arg17 harg17 arg18 harg18 arg19 harg19 arg20 x0 x1 x2 x3 x4 wo w1 w2 = tD x0 x1 x2 x3 x4 wo w1 w2 := by
  unfold kernelRun0_B.sl.r_10 tD; simp only [readAt_whole, B_cst, B_sl0, B_sl1, B_sl2, B_sl3, B_row0, B_r, B_r_1, B_r_2, B_r_3, B_r_4, B_v49, B_r_5, B_r_6, B_r_7, B_r_8, B_r_9]

theorem B_r_11 : kernelRun0_B.sl.r_11 c arg1 harg1 arg2 harg2 arg3 harg3 arg4 harg4 arg5 harg5 arg17 harg17 arg18 harg18 arg19 harg19 arg20 x0 x1 x2 x3 x4 wo w1 w2 = tE x0 x1 x2 x3 x4 wo w1 w2 := by
  unfold kernelRun0_B.sl.r_11 tE; simp only [readAt_whole, B_cst, B_sl0, B_sl1, B_sl2, B_sl3, B_row0, B_r, B_r_1, B_r_2, B_r_3, B_r_4, B_v49, B_r_5, B_r_6, B_r_7, B_r_8, B_r_9, B_r_10]

theorem B_r_12 : kernelRun0_B.sl.r_12 c arg1 harg1 arg2 harg2 arg3 harg3 arg4 harg4 arg5 harg5 arg17 harg17 arg18 harg18 arg19 harg19 arg20 x0 x1 x2 x3 x4 wo w1 w2 = tDx3 x0 x1 x2 x3 x4 wo w1 w2 := by
  unfold kernelRun0_B.sl.r_12 tDx3; simp only [readAt_whole, B_cst, B_sl0, B_sl1, B_sl2, B_sl3, B_row0, B_r, B_r_1, B_r_2, B_r_3, B_r_4, B_v49, B_r_5, B_r_6, B_r_7, B_r_8, B_r_9, B_r_10, B_r_11]

theorem B_r_13 : kernelRun0_B.sl.r_13 c arg1 harg1 arg2 harg2 arg3 harg3 arg4 harg4 arg5 harg5 arg17 harg17 arg18 harg18 arg19 harg19 arg20 x0 x1 x2 x3 x4 wo w1 w2 = tG x0 x1 x2 x3 x4 wo w1 w2 := by
  unfold kernelRun0_B.sl.r_13 tG; simp only [readAt_whole, B_cst, B_sl0, B_sl1, B_sl2, B_sl3, B_row0, B_r, B_r_1, B_r_2, B_r_3, B_r_4, B_v49, B_r_5, B_r_6, B_r_7, B_r_8, B_r_9, B_r_10, B_r_11, B_r_12]

theorem B_r_14 : kernelRun0_B.sl.r_14 c arg1 harg1 arg2 harg2 arg3 harg3 arg4 harg4 arg5 harg5 arg17 harg17 arg18 harg18 arg19 harg19 arg20 x0 x1 x2 x3 x4 wo w1 w2 = tL x0 x1 x2 x3 x4 wo w1 w2 := by
  unfold kernelRun0_B.sl.r_14 tL; simp only [readAt_whole, B_cst, B_sl0, B_sl1, B_sl2, B_sl3, B_row0, B_r, B_r_1, B_r_2, B_r_3, B_r_4, B_v49, B_r_5, B_r_6, B_r_7, B_r_8, B_r_9, B_r_10, B_r_11, B_r_12, B_r_13]

theorem B_r_15 : kernelRun0_B.sl.r_15 c arg18 harg18 w1 = k0_pay35 (sl3 w1) := by
  unfold kernelRun0_B.sl.r_15; simp only [readAt_whole, B_cst, B_sl0, B_sl1, B_sl2, B_sl3, B_row0, B_r, B_r_1, B_r_2, B_r_3, B_r_4, B_v49, B_r_5, B_r_6, B_r_7, B_r_8, B_r_9, B_r_10, B_r_11, B_r_12, B_r_13, B_r_14]

theorem B_v89 : kernelRun0_B.sl.v89 c arg16 harg16 xo12 = View.ld xo12 row2 := by
  unfold kernelRun0_B.sl.v89; exact readAt_rect _ _ _

theorem B_v136 : kernelRun0_B.sl.v136 c arg16 harg16 xo12 = View.ld xo12 row1 := by
  unfold kernelRun0_B.sl.v136; exact readAt_rect _ _ _

theorem B_out5 (hc0 : ¬cond0_0 i) : out0_B_5 c i arg1 harg1 arg2 harg2 arg3 harg3 arg4 harg4 arg5 harg5 arg9 harg9 arg10 harg10 arg11 harg11 arg12 harg12 arg13 harg13 arg14 harg14 arg15 harg15 arg16 harg16 arg17 harg17 arg18 harg18 arg19 harg19 arg20 harg20 hc0 x0 x1 x2 x3 x4 xo12 wo w1 w2 fh0 fh1 fh2 = oZ x0 x1 x2 wo w1 := by
  unfold out0_B_5 oZ; rw [View.read_writes_junk_eq_canon]; dsimp only [kernelRun0_B]; rw [canon_whole2]
  simp only [readAt_whole, B_cst, B_sl0, B_sl1, B_sl2, B_sl3, B_row0, B_r, B_r_1, B_r_2, B_r_3, B_r_4, B_v49, B_r_5, B_r_6, B_r_7, B_r_8, B_r_9, B_r_10, B_r_11, B_r_12, B_r_13, B_r_14, B_r_15, B_v89, B_v136]

theorem B_out6 (hc0 : ¬cond0_0 i) : out0_B_6 c i arg1 harg1 arg2 harg2 arg3 harg3 arg4 harg4 arg5 harg5 arg9 harg9 arg10 harg10 arg11 harg11 arg12 harg12 arg13 harg13 arg14 harg14 arg15 harg15 arg16 harg16 arg17 harg17 arg18 harg18 arg19 harg19 arg20 harg20 hc0 x0 x1 x2 x3 x4 xo12 wo w1 w2 fh0 fh1 fh2 = oDp x0 x1 x2 x3 x4 wo w1 w2 := by
  unfold out0_B_6 oDp; rw [View.read_writes_junk_eq_canon]; dsimp only [kernelRun0_B]; rw [canon_whole2]
  simp only [readAt_whole, B_cst, B_sl0, B_sl1, B_sl2, B_sl3, B_row0, B_r, B_r_1, B_r_2, B_r_3, B_r_4, B_v49, B_r_5, B_r_6, B_r_7, B_r_8, B_r_9, B_r_10, B_r_11, B_r_12, B_r_13, B_r_14, B_r_15, B_v89, B_v136]

theorem B_out7 (hc0 : ¬cond0_0 i) : out0_B_7 c i arg1 harg1 arg2 harg2 arg3 harg3 arg4 harg4 arg5 harg5 arg9 harg9 arg10 harg10 arg11 harg11 arg12 harg12 arg13 harg13 arg14 harg14 arg15 harg15 arg16 harg16 arg17 harg17 arg18 harg18 arg19 harg19 arg20 harg20 hc0 x0 x1 x2 x3 x4 xo12 wo w1 w2 fh0 fh1 fh2 = tH x0 x1 x2 wo := by
  unfold out0_B_7 tH; rw [View.read_writes_junk_eq_canon]; dsimp only [kernelRun0_B]; rw [canon_whole2]
  simp only [readAt_whole, B_cst, B_sl0, B_sl1, B_sl2, B_sl3, B_row0, B_r, B_r_1, B_r_2, B_r_3, B_r_4, B_v49, B_r_5, B_r_6, B_r_7, B_r_8, B_r_9, B_r_10, B_r_11, B_r_12, B_r_13, B_r_14, B_r_15, B_v89, B_v136]

theorem B_out8 (hc0 : ¬cond0_0 i) : out0_B_8 c i arg1 harg1 arg2 harg2 arg3 harg3 arg4 harg4 arg5 harg5 arg9 harg9 arg10 harg10 arg11 harg11 arg12 harg12 arg13 harg13 arg14 harg14 arg15 harg15 arg16 harg16 arg17 harg17 arg18 harg18 arg19 harg19 arg20 harg20 hc0 x0 x1 x2 x3 x4 xo12 wo w1 w2 fh0 fh1 fh2 = oDx3b x0 x1 x2 x3 x4 wo w1 w2 := by
  unfold out0_B_8 oDx3b; rw [View.read_writes_junk_eq_canon]; dsimp only [kernelRun0_B]; rw [canon_whole2]
  simp only [readAt_whole, B_cst, B_sl0, B_sl1, B_sl2, B_sl3, B_row0, B_r, B_r_1, B_r_2, B_r_3, B_r_4, B_v49, B_r_5, B_r_6, B_r_7, B_r_8, B_r_9, B_r_10, B_r_11, B_r_12, B_r_13, B_r_14, B_r_15, B_v89, B_v136]

theorem B_out9 (hc0 : ¬cond0_0 i) : out0_B_9 c i arg1 harg1 arg2 harg2 arg3 harg3 arg4 harg4 arg5 harg5 arg9 harg9 arg10 harg10 arg11 harg11 arg12 harg12 arg13 harg13 arg14 harg14 arg15 harg15 arg16 harg16 arg17 harg17 arg18 harg18 arg19 harg19 arg20 harg20 hc0 x0 x1 x2 x3 x4 xo12 wo w1 w2 fh0 fh1 fh2 = oDx2 x0 x1 x2 x3 x4 wo w1 w2 := by
  unfold out0_B_9 oDx2; rw [View.read_writes_junk_eq_canon]; dsimp only [kernelRun0_B]; rw [canon_whole2]
  simp only [readAt_whole, B_cst, B_sl0, B_sl1, B_sl2, B_sl3, B_row0, B_r, B_r_1, B_r_2, B_r_3, B_r_4, B_v49, B_r_5, B_r_6, B_r_7, B_r_8, B_r_9, B_r_10, B_r_11, B_r_12, B_r_13, B_r_14, B_r_15, B_v89, B_v136]

theorem B_out10 (hc0 : ¬cond0_0 i) : out0_B_10 c i arg1 harg1 arg2 harg2 arg3 harg3 arg4 harg4 arg5 harg5 arg9 harg9 arg10 harg10 arg11 harg11 arg12 harg12 arg13 harg13 arg14 harg14 arg15 harg15 arg16 harg16 arg17 harg17 arg18 harg18 arg19 harg19 arg20 harg20 hc0 x0 x1 x2 x3 x4 xo12 wo w1 w2 fh0 fh1 fh2 = oDx2b x0 x1 x2 x3 x4 wo w1 w2 := by
  unfold out0_B_10 oDx2b; rw [View.read_writes_junk_eq_canon]; dsimp only [kernelRun0_B]; rw [canon_whole2]
  simp only [readAt_whole, B_cst, B_sl0, B_sl1, B_sl2, B_sl3, B_row0, B_r, B_r_1, B_r_2, B_r_3, B_r_4, B_v49, B_r_5, B_r_6, B_r_7, B_r_8, B_r_9, B_r_10, B_r_11, B_r_12, B_r_13, B_r_14, B_r_15, B_v89, B_v136]

theorem B_out11 (hc0 : ¬cond0_0 i) : out0_B_11 c i arg1 harg1 arg2 harg2 arg3 harg3 arg4 harg4 arg5 harg5 arg9 harg9 arg10 harg10 arg11 harg11 arg12 harg12 arg13 harg13 arg14 harg14 arg15 harg15 arg16 harg16 arg17 harg17 arg18 harg18 arg19 harg19 arg20 harg20 hc0 x0 x1 x2 x3 x4 xo12 wo w1 w2 fh0 fh1 fh2 = oDy x0 x1 x2 x3 x4 wo w1 w2 := by
  unfold out0_B_11 oDy; rw [View.read_writes_junk_eq_canon]; dsimp only [kernelRun0_B]; rw [canon_whole2]
  simp only [readAt_whole, B_cst, B_sl0, B_sl1, B_sl2, B_sl3, B_row0, B_r, B_r_1, B_r_2, B_r_3, B_r_4, B_v49, B_r_5, B_r_6, B_r_7, B_r_8, B_r_9, B_r_10, B_r_11, B_r_12, B_r_13, B_r_14, B_r_15, B_v89, B_v136]

theorem B_out12 (hc0 : ¬cond0_0 i) : out0_B_12 c i arg1 harg1 arg2 harg2 arg3 harg3 arg4 harg4 arg5 harg5 arg9 harg9 arg10 harg10 arg11 harg11 arg12 harg12 arg13 harg13 arg14 harg14 arg15 harg15 arg16 harg16 arg17 harg17 arg18 harg18 arg19 harg19 arg20 harg20 hc0 x0 x1 x2 x3 x4 xo12 wo w1 w2 fh0 fh1 fh2 = oSt x0 x1 x2 x3 x4 wo w1 w2 xo12 := by
  unfold out0_B_12 oSt; dsimp only [kernelRun0_B]
  rw [read_writes_overlay, read_writes_overlay, read_writes_overlay, View.writes_nil, harg16.read_unread]
  simp only [readAt_whole, B_cst, B_sl0, B_sl1, B_sl2, B_sl3, B_row0, B_r, B_r_1, B_r_2, B_r_3, B_r_4, B_v49, B_r_5, B_r_6, B_r_7, B_r_8, B_r_9, B_r_10, B_r_11, B_r_12, B_r_13, B_r_14, B_r_15, B_v89, B_v136]

theorem A_cst : kernelRun0_A.sl.cst_84 (F := F) = t0 := rfl

theorem A_dma0 : kernelRun0_A.sl.dma0 c wo = wo := rfl

theorem A_dma0_1 : kernelRun0_A.sl.dma0_1 c w1 = w1 := rfl

theorem A_dma0_2 : kernelRun0_A.sl.dma0_2 c w2 = w2 := rfl

theorem A_v6 : kernelRun0_A.sl.v6 c arg17 wo = wo := by
  unfold kernelRun0_A.sl.v6; rw [readCov_whole]; exact ld_whole _ _

theorem A_v159 : kernelRun0_A.sl.v159 c arg17 wo = wo := by
  unfold kernelRun0_A.sl.v159; rw [readCov_whole]; exact ld_whole _ _

theorem A_v55 : kernelRun0_A.sl.v55 c arg19 w2 = w2 := by
  unfold kernelRun0_A.sl.v55; rw [readCov_whole]; exact ld_whole _ _

theorem A_v25 : kernelRun0_A.sl.v25 c arg18 w1 = sl0 w1 := by
  unfold kernelRun0_A.sl.v25; rw [readCov_whole]; rfl

theorem A_v31 : kernelRun0_A.sl.v31 c arg18 w1 = sl1 w1 := by
  unfold kernelRun0_A.sl.v31; rw [readCov_whole]; rfl

theorem A_v37 : kernelRun0_A.sl.v37 c arg18 w1 = sl2 w1 := by
  unfold kernelRun0_A.sl.v37; rw [readCov_whole]; rfl

theorem A_v43 : kernelRun0_A.sl.v43 c arg18 w1 = sl3 w1 := by
  unfold kernelRun0_A.sl.v43; rw [readCov_whole]; rfl

theorem A_r : kernelRun0_A.sl.r c arg1 harg1 arg2 harg2 arg17 x0 x1 wo = k0_pay7 x0 x1 wo := by
  unfold kernelRun0_A.sl.r; simp only [readAt_whole, A_cst, A_dma0, A_dma0_1, A_dma0_2, A_v6, A_v159, A_v55, A_v25, A_v31, A_v37, A_v43]

theorem A_r_1 : kernelRun0_A.sl.r_1 c arg1 harg1 arg2 harg2 arg17 x0 x1 wo = k0_pay8 x0 x1 wo := by
  unfold kernelRun0_A.sl.r_1; simp only [readAt_whole, A_cst, A_dma0, A_dma0_1, A_dma0_2, A_v6, A_v159, A_v55, A_v25, A_v31, A_v37, A_v43, A_r]

theorem A_r_2 : kernelRun0_A.sl.r_2 c arg1 harg1 arg2 harg2 arg17 x0 x1 wo = k0_pay9 x0 x1 wo := by
  unfold kernelRun0_A.sl.r_2; simp only [readAt_whole, A_cst, A_dma0, A_dma0_1, A_dma0_2, A_v6, A_v159, A_v55, A_v25, A_v31, A_v37, A_v43, A_r, A_r_1]

theorem A_r_3 : kernelRun0_A.sl.r_3 c arg3 harg3 x2 = k0_pay10 x2 := by
  unfold kernelRun0_A.sl.r_3; simp only [readAt_whole, A_cst, A_dma0, A_dma0_1, A_dma0_2, A_v6, A_v159, A_v55, A_v25, A_v31, A_v37, A_v43, A_r, A_r_1, A_r_2]

theorem A_r_4 : kernelRun0_A.sl.r_4 c arg1 harg1 arg2 harg2 arg3 harg3 arg17 x0 x1 x2 wo = tH x0 x1 x2 wo := by
  unfold kernelRun0_A.sl.r_4 tH; simp only [readAt_whole, A_cst, A_dma0, A_dma0_1, A_dma0_2, A_v6, A_v159, A_v55, A_v25, A_v31, A_v37, A_v43, A_r, A_r_1, A_r_2, A_r_3]

theorem A_v49 : kernelRun0_A.sl.v49 c arg1 harg1 arg2 harg2 arg3 harg3 arg17 arg18 arg20 x0 x1 x2 wo w1 = tP x0 x1 x2 wo w1 := by
  unfold kernelRun0_A.sl.v49 tP tPieces; rw [readCov_rect, ld_whole]; unfold kernelRun0_A.sl.HS3_4; simp only [readAt_whole, A_cst, A_dma0, A_dma0_1, A_dma0_2, A_v6, A_v159, A_v55, A_v25, A_v31, A_v37, A_v43, A_r, A_r_1, A_r_2, A_r_3, A_r_4]

theorem A_r_5 : kernelRun0_A.sl.r_5 c arg1 harg1 arg2 harg2 arg3 harg3 arg17 arg18 arg20 x0 x1 x2 wo w1 = k0_pay16 (tP x0 x1 x2 wo w1) := by
  unfold kernelRun0_A.sl.r_5; simp only [readAt_whole, A_cst, A_dma0, A_dma0_1, A_dma0_2, A_v6, A_v159, A_v55, A_v25, A_v31, A_v37, A_v43, A_r, A_r_1, A_r_2, A_r_3, A_r_4, A_v49]

theorem A_r_6 : kernelRun0_A.sl.r_6 c arg1 harg1 arg2 harg2 arg3 harg3 arg17 arg18 arg19 arg20 x0 x1 x2 wo w1 w2 = tX3 x0 x1 x2 wo w1 w2 := by
  unfold kernelRun0_A.sl.r_6 tX3; simp only [readAt_whole, A_cst, A_dma0, A_dma0_1, A_dma0_2, A_v6, A_v159, A_v55, A_v25, A_v31, A_v37, A_v43, A_r, A_r_1, A_r_2, A_r_3, A_r_4, A_v49, A_r_5]

theorem A_r_7 : kernelRun0_A.sl.r_7 c arg1 harg1 arg2 harg2 arg3 harg3 arg17 arg18 arg19 arg20 x0 x1 x2 wo w1 w2 = tS3 x0 x1 x2 wo w1 w2 := by
  unfold kernelRun0_A.sl.r_7 tS3; simp only [readAt_whole, A_cst, A_dma0, A_dma0_1, A_dma0_2, A_v6, A_v159, A_v55, A_v25, A_v31, A_v37, A_v43, A_r, A_r_1, A_r_2, A_r_3, A_r_4, A_v49, A_r_5, A_r_6]

theorem A_r_8 : kernelRun0_A.sl.r_8 c arg1 harg1 arg2 harg2 arg3 harg3 arg17 arg18 arg19 arg20 x0 x1 x2 wo w1 w2 = tR3 x0 x1 x2 wo w1 w2 := by
  unfold kernelRun0_A.sl.r_8 tR3; simp only [readAt_whole, A_cst, A_dma0, A_dma0_1, A_dma0_2, A_v6, A_v159, A_v55, A_v25, A_v31, A_v37, A_v43, A_r, A_r_1, A_r_2, A_r_3, A_r_4, A_v49, A_r_5, A_r_6, A_r_7]

theorem A_r_9 : kernelRun0_A.sl.r_9 c arg1 harg1 arg2 harg2 arg3 harg3 arg17 arg18 arg19 arg20 x0 x1 x2 wo w1 w2 = tXh3 x0 x1 x2 wo w1 w2 := by
  unfold kernelRun0_A.sl.r_9 tXh3; simp only [readAt_whole, A_cst, A_dma0, A_dma0_1, A_dma0_2, A_v6, A_v159, A_v55, A_v25, A_v31, A_v37, A_v43, A_r, A_r_1, A_r_2, A_r_3, A_r_4, A_v49, A_r_5, A_r_6, A_r_7, A_r_8]

theorem A_r_10 : kernelRun0_A.sl.r_10 c arg1 harg1 arg2 harg2 arg3 harg3 arg4 harg4 arg5 harg5 arg17 arg18 arg19 arg20 x0 x1 x2 x3 x4 wo w1 w2 = tD x0 x1 x2 x3 x4 wo w1 w2 := by
  unfold kernelRun0_A.sl.r_10 tD; simp only [readAt_whole, A_cst, A_dma0, A_dma0_1, A_dma0_2, A_v6, A_v159, A_v55, A_v25, A_v31, A_v37, A_v43, A_r, A_r_1, A_r_2, A_r_3, A_r_4, A_v49, A_r_5, A_r_6, A_r_7, A_r_8, A_r_9]

theorem A_r_11 : kernelRun0_A.sl.r_11 c arg1 harg1 arg2 harg2 arg3 harg3 arg4 harg4 arg5 harg5 arg17 arg18 arg19 arg20 x0 x1 x2 x3 x4 wo w1 w2 = tE x0 x1 x2 x3 x4 wo w1 w2 := by
  unfold kernelRun0_A.sl.r_11 tE; simp only [readAt_whole, A_cst, A_dma0, A_dma0_1, A_dma0_2, A_v6, A_v159, A_v55, A_v25, A_v31, A_v37, A_v43, A_r, A_r_1, A_r_2, A_r_3, A_r_4, A_v49, A_r_5, A_r_6, A_r_7, A_r_8, A_r_9, A_r_10]

theorem A_r_12 : kernelRun0_A.sl.r_12 c arg1 harg1 arg2 harg2 arg3 harg3 arg4 harg4 arg5 harg5 arg17 arg18 arg19 arg20 x0 x1 x2 x3 x4 wo w1 w2 = tDx3 x0 x1 x2 x3 x4 wo w1 w2 := by
  unfold kernelRun0_A.sl.r_12 tDx3; simp only [readAt_whole, A_cst, A_dma0, A_dma0_1, A_dma0_2, A_v6, A_v159, A_v55, A_v25, A_v31, A_v37, A_v43, A_r, A_r_1, A_r_2, A_r_3, A_r_4, A_v49, A_r_5, A_r_6, A_r_7, A_r_8, A_r_9, A_r_10, A_r_11]

theorem A_r_13 : kernelRun0_A.sl.r_13 c arg1 harg1 arg2 harg2 arg3 harg3 arg4 harg4 arg5 harg5 arg17 arg18 arg19 arg20 x0 x1 x2 x3 x4 wo w1 w2 = tG x0 x1 x2 x3 x4 wo w1 w2 := by
  unfold kernelRun0_A.sl.r_13 tG; simp only [readAt_whole, A_cst, A_dma0, A_dma0_1, A_dma0_2, A_v6, A_v159, A_v55, A_v25, A_v31, A_v37, A_v43, A_r, A_r_1, A_r_2, A_r_3, A_r_4, A_v49, A_r_5, A_r_6, A_r_7, A_r_8, A_r_9, A_r_10, A_r_11, A_r_12]

theorem A_r_14 : kernelRun0_A.sl.r_14 c arg1 harg1 arg2 harg2 arg3 harg3 arg4 harg4 arg5 harg5 arg17 arg18 arg19 arg20 x0 x1 x2 x3 x4 wo w1 w2 = tL x0 x1 x2 x3 x4 wo w1 w2 := by
  unfold kernelRun0_A.sl.r_14 tL; simp only [readAt_whole, A_cst, A_dma0, A_dma0_1, A_dma0_2, A_v6, A_v159, A_v55, A_v25, A_v31, A_v37, A_v43, A_r, A_r_1, A_r_2, A_r_3, A_r_4, A_v49, A_r_5, A_r_6, A_r_7, A_r_8, A_r_9, A_r_10, A_r_11, A_r_12, A_r_13]

theorem A_r_15 : kernelRun0_A.sl.r_15 c arg18 w1 = k0_pay35 (sl3 w1) := by
  unfold kernelRun0_A.sl.r_15; simp only [readAt_whole, A_cst, A_dma0, A_dma0_1, A_dma0_2, A_v6, A_v159, A_v55, A_v25, A_v31, A_v37, A_v43, A_r, A_r_1, A_r_2, A_r_3, A_r_4, A_v49, A_r_5, A_r_6, A_r_7, A_r_8, A_r_9, A_r_10, A_r_11, A_r_12, A_r_13, A_r_14]

theorem A_H12_1 : View.canon (kernelRun0_A.sl.H12_1 (F := F)) = k0_pay6 := by
  unfold kernelRun0_A.sl.H12_1; exact canon_whole2 _ _

theorem A_v82 : kernelRun0_A.sl.v82 c arg16 = View.ld (k0_pay6 (F := F)) row0 := by
  unfold kernelRun0_A.sl.v82; rw [readCov_rect, A_H12_1]

theorem A_v89 : kernelRun0_A.sl.v89 c arg1 harg1 arg2 harg2 arg3 harg3 arg4 harg4 arg5 harg5 arg16 arg17 arg18 arg19 arg20 x0 x1 x2 x3 x4 wo w1 w2 = View.ld (k0_pay6 (F := F)) row2 := by
  unfold kernelRun0_A.sl.v89; rw [readCov_rect]; unfold kernelRun0_A.sl.H12_2; rw [canon_overlay, A_H12_1]
  exact ld_overlay _ _ _ _ (not_mem_row (by decide) _ _)

theorem A_v136 : kernelRun0_A.sl.v136 c arg1 harg1 arg2 harg2 arg3 harg3 arg4 harg4 arg5 harg5 arg16 arg17 arg18 arg19 arg20 x0 x1 x2 x3 x4 wo w1 w2 = View.ld (k0_pay6 (F := F)) row1 := by
  unfold kernelRun0_A.sl.v136; rw [readCov_rect]; unfold kernelRun0_A.sl.H12_3; rw [canon_overlay]
  refine (ld_overlay _ _ _ _ (not_mem_row (by decide) _ _)).trans ?_
  unfold kernelRun0_A.sl.H12_2; rw [canon_overlay, A_H12_1]
  exact ld_overlay _ _ _ _ (not_mem_row (by decide) _ _)

theorem A_out5 (hc0 : cond0_0 i) : out0_A_5 c i arg1 harg1 arg2 harg2 arg3 harg3 arg4 harg4 arg5 harg5 arg9 harg9 arg10 harg10 arg11 harg11 arg12 harg12 arg13 harg13 arg14 harg14 arg15 harg15 arg16 harg16 arg17 harg17 arg18 harg18 arg19 harg19 arg20 harg20 hc0 x0 x1 x2 x3 x4 wo w1 w2 = oZ x0 x1 x2 wo w1 := by
  unfold out0_A_5 oZ; rw [View.read_writes_junk_eq_canon]; dsimp only [kernelRun0_A]; rw [canon_whole2]
  simp only [readAt_whole, A_cst, A_dma0, A_dma0_1, A_dma0_2, A_v6, A_v159, A_v55, A_v25, A_v31, A_v37, A_v43, A_r, A_r_1, A_r_2, A_r_3, A_r_4, A_v49, A_r_5, A_r_6, A_r_7, A_r_8, A_r_9, A_r_10, A_r_11, A_r_12, A_r_13, A_r_14, A_r_15, A_v82, A_v89, A_v136]

theorem A_out6 (hc0 : cond0_0 i) : out0_A_6 c i arg1 harg1 arg2 harg2 arg3 harg3 arg4 harg4 arg5 harg5 arg9 harg9 arg10 harg10 arg11 harg11 arg12 harg12 arg13 harg13 arg14 harg14 arg15 harg15 arg16 harg16 arg17 harg17 arg18 harg18 arg19 harg19 arg20 harg20 hc0 x0 x1 x2 x3 x4 wo w1 w2 = oDp x0 x1 x2 x3 x4 wo w1 w2 := by
  unfold out0_A_6 oDp; rw [View.read_writes_junk_eq_canon]; dsimp only [kernelRun0_A]; rw [canon_whole2]
  simp only [readAt_whole, A_cst, A_dma0, A_dma0_1, A_dma0_2, A_v6, A_v159, A_v55, A_v25, A_v31, A_v37, A_v43, A_r, A_r_1, A_r_2, A_r_3, A_r_4, A_v49, A_r_5, A_r_6, A_r_7, A_r_8, A_r_9, A_r_10, A_r_11, A_r_12, A_r_13, A_r_14, A_r_15, A_v82, A_v89, A_v136]

theorem A_out7 (hc0 : cond0_0 i) : out0_A_7 c i arg1 harg1 arg2 harg2 arg3 harg3 arg4 harg4 arg5 harg5 arg9 harg9 arg10 harg10 arg11 harg11 arg12 harg12 arg13 harg13 arg14 harg14 arg15 harg15 arg16 harg16 arg17 harg17 arg18 harg18 arg19 harg19 arg20 harg20 hc0 x0 x1 x2 x3 x4 wo w1 w2 = tH x0 x1 x2 wo := by
  unfold out0_A_7 tH; rw [View.read_writes_junk_eq_canon]; dsimp only [kernelRun0_A]; rw [canon_whole2]
  simp only [readAt_whole, A_cst, A_dma0, A_dma0_1, A_dma0_2, A_v6, A_v159, A_v55, A_v25, A_v31, A_v37, A_v43, A_r, A_r_1, A_r_2, A_r_3, A_r_4, A_v49, A_r_5, A_r_6, A_r_7, A_r_8, A_r_9, A_r_10, A_r_11, A_r_12, A_r_13, A_r_14, A_r_15, A_v82, A_v89, A_v136]

theorem A_out8 (hc0 : cond0_0 i) : out0_A_8 c i arg1 harg1 arg2 harg2 arg3 harg3 arg4 harg4 arg5 harg5 arg9 harg9 arg10 harg10 arg11 harg11 arg12 harg12 arg13 harg13 arg14 harg14 arg15 harg15 arg16 harg16 arg17 harg17 arg18 harg18 arg19 harg19 arg20 harg20 hc0 x0 x1 x2 x3 x4 wo w1 w2 = oDx3b x0 x1 x2 x3 x4 wo w1 w2 := by
  unfold out0_A_8 oDx3b; rw [View.read_writes_junk_eq_canon]; dsimp only [kernelRun0_A]; rw [canon_whole2]
  simp only [readAt_whole, A_cst, A_dma0, A_dma0_1, A_dma0_2, A_v6, A_v159, A_v55, A_v25, A_v31, A_v37, A_v43, A_r, A_r_1, A_r_2, A_r_3, A_r_4, A_v49, A_r_5, A_r_6, A_r_7, A_r_8, A_r_9, A_r_10, A_r_11, A_r_12, A_r_13, A_r_14, A_r_15, A_v82, A_v89, A_v136]

theorem A_out9 (hc0 : cond0_0 i) : out0_A_9 c i arg1 harg1 arg2 harg2 arg3 harg3 arg4 harg4 arg5 harg5 arg9 harg9 arg10 harg10 arg11 harg11 arg12 harg12 arg13 harg13 arg14 harg14 arg15 harg15 arg16 harg16 arg17 harg17 arg18 harg18 arg19 harg19 arg20 harg20 hc0 x0 x1 x2 x3 x4 wo w1 w2 = oDx2 x0 x1 x2 x3 x4 wo w1 w2 := by
  unfold out0_A_9 oDx2; rw [View.read_writes_junk_eq_canon]; dsimp only [kernelRun0_A]; rw [canon_whole2]
  simp only [readAt_whole, A_cst, A_dma0, A_dma0_1, A_dma0_2, A_v6, A_v159, A_v55, A_v25, A_v31, A_v37, A_v43, A_r, A_r_1, A_r_2, A_r_3, A_r_4, A_v49, A_r_5, A_r_6, A_r_7, A_r_8, A_r_9, A_r_10, A_r_11, A_r_12, A_r_13, A_r_14, A_r_15, A_v82, A_v89, A_v136]

theorem A_out10 (hc0 : cond0_0 i) : out0_A_10 c i arg1 harg1 arg2 harg2 arg3 harg3 arg4 harg4 arg5 harg5 arg9 harg9 arg10 harg10 arg11 harg11 arg12 harg12 arg13 harg13 arg14 harg14 arg15 harg15 arg16 harg16 arg17 harg17 arg18 harg18 arg19 harg19 arg20 harg20 hc0 x0 x1 x2 x3 x4 wo w1 w2 = oDx2b x0 x1 x2 x3 x4 wo w1 w2 := by
  unfold out0_A_10 oDx2b; rw [View.read_writes_junk_eq_canon]; dsimp only [kernelRun0_A]; rw [canon_whole2]
  simp only [readAt_whole, A_cst, A_dma0, A_dma0_1, A_dma0_2, A_v6, A_v159, A_v55, A_v25, A_v31, A_v37, A_v43, A_r, A_r_1, A_r_2, A_r_3, A_r_4, A_v49, A_r_5, A_r_6, A_r_7, A_r_8, A_r_9, A_r_10, A_r_11, A_r_12, A_r_13, A_r_14, A_r_15, A_v82, A_v89, A_v136]

theorem A_out11 (hc0 : cond0_0 i) : out0_A_11 c i arg1 harg1 arg2 harg2 arg3 harg3 arg4 harg4 arg5 harg5 arg9 harg9 arg10 harg10 arg11 harg11 arg12 harg12 arg13 harg13 arg14 harg14 arg15 harg15 arg16 harg16 arg17 harg17 arg18 harg18 arg19 harg19 arg20 harg20 hc0 x0 x1 x2 x3 x4 wo w1 w2 = oDy x0 x1 x2 x3 x4 wo w1 w2 := by
  unfold out0_A_11 oDy; rw [View.read_writes_junk_eq_canon]; dsimp only [kernelRun0_A]; rw [canon_whole2]
  simp only [readAt_whole, A_cst, A_dma0, A_dma0_1, A_dma0_2, A_v6, A_v159, A_v55, A_v25, A_v31, A_v37, A_v43, A_r, A_r_1, A_r_2, A_r_3, A_r_4, A_v49, A_r_5, A_r_6, A_r_7, A_r_8, A_r_9, A_r_10, A_r_11, A_r_12, A_r_13, A_r_14, A_r_15, A_v82, A_v89, A_v136]

theorem A_out12 (hc0 : cond0_0 i) : out0_A_12 c i arg1 harg1 arg2 harg2 arg3 harg3 arg4 harg4 arg5 harg5 arg9 harg9 arg10 harg10 arg11 harg11 arg12 harg12 arg13 harg13 arg14 harg14 arg15 harg15 arg16 harg16 arg17 harg17 arg18 harg18 arg19 harg19 arg20 harg20 hc0 x0 x1 x2 x3 x4 wo w1 w2 = oSt x0 x1 x2 x3 x4 wo w1 w2 k0_pay6 := by
  unfold out0_A_12 oSt; rw [View.read_writes_junk_eq_canon]; dsimp only [kernelRun0_A]
  rw [canon_overlay]; unfold kernelRun0_A.sl.H12_3; rw [canon_overlay]; unfold kernelRun0_A.sl.H12_2; rw [canon_overlay]
  simp only [readAt_whole, A_cst, A_dma0, A_dma0_1, A_dma0_2, A_v6, A_v159, A_v55, A_v25, A_v31, A_v37, A_v43, A_r, A_r_1, A_r_2, A_r_3, A_r_4, A_v49, A_r_5, A_r_6, A_r_7, A_r_8, A_r_9, A_r_10, A_r_11, A_r_12, A_r_13, A_r_14, A_r_15, A_v82, A_v89, A_v136, A_H12_1]

theorem A_sout0 (hc0 : cond0_0 i) : sout0_A_0 c i arg1 harg1 arg2 harg2 arg3 harg3 arg4 harg4 arg5 harg5 arg9 harg9 arg10 harg10 arg11 harg11 arg12 harg12 arg13 harg13 arg14 harg14 arg15 harg15 arg16 harg16 arg17 harg17 arg18 harg18 arg19 harg19 arg20 harg20 hc0 x0 x1 x2 x3 x4 wo w1 w2 = wo := by
  unfold sout0_A_0; rw [View.read_writes_junk_eq_canon]; dsimp only [kernelRun0_A]; rw [canon_whole, A_dma0]

theorem A_sout1 (hc0 : cond0_0 i) : sout0_A_1 c i arg1 harg1 arg2 harg2 arg3 harg3 arg4 harg4 arg5 harg5 arg9 harg9 arg10 harg10 arg11 harg11 arg12 harg12 arg13 harg13 arg14 harg14 arg15 harg15 arg16 harg16 arg17 harg17 arg18 harg18 arg19 harg19 arg20 harg20 hc0 x0 x1 x2 x3 x4 wo w1 w2 = w1 := by
  unfold sout0_A_1; rw [View.read_writes_junk_eq_canon]; dsimp only [kernelRun0_A]; rw [canon_whole, A_dma0_1]

theorem A_sout2 (hc0 : cond0_0 i) : sout0_A_2 c i arg1 harg1 arg2 harg2 arg3 harg3 arg4 harg4 arg5 harg5 arg9 harg9 arg10 harg10 arg11 harg11 arg12 harg12 arg13 harg13 arg14 harg14 arg15 harg15 arg16 harg16 arg17 harg17 arg18 harg18 arg19 harg19 arg20 harg20 hc0 x0 x1 x2 x3 x4 wo w1 w2 = w2 := by
  unfold sout0_A_2; rw [View.read_writes_junk_eq_canon]; dsimp only [kernelRun0_A]; rw [canon_whole, A_dma0_2]

end Named

end Cert.KernelIdeal.Tile

end
-- ==== Proof.Points.lean ====
/- What the whole run leaves: the grid's points one after another (`outs_eq`), and each output's array after the run as
   the blocks its points wrote (`arrW`), for any reading of the floats. -/
module

public import proofs.«01_k».proof.Proof.Tile
public import Idealize.ShloMosaic.Lib.ValueIdx

@[expose] public section

set_option maxRecDepth 16384

noncomputable section

namespace Cert.KernelIdeal.Points

open Cert.KernelIdeal Cert.KernelIdeal.Gen Cert.KernelIdeal.Tile Idealize.ShloMosaic Idealize.ShloMosaic.TcCoe Idealize.SL.Sem
open Idealize.ShloMosaic.Pipeline (Dat)
open Idealize.ShloMosaic.ValueIdx

variable {F : FTy → Type} [FloatOps F]
variable (m : (ℓ : Loc nD τ sig) → Buf (Elt F) ℓ) (ρ : Dev nD → PrngReg)

/-- The blocks of the inputs a point reads, and the three weight arrays. -/
abbrev bx (c : Dev nD) (t : Fin cfg0.N) : Vec F S256x1024 .f32 := iblk m c 0 t
abbrev by' (c : Dev nD) (t : Fin cfg0.N) : Vec F S256x1536 .bf16 := iblk m c 1 t
abbrev bg2 (c : Dev nD) (t : Fin cfg0.N) : Vec F S1x1024 .f32 := iblk m c 2 t
abbrev bgf (c : Dev nD) (t : Fin cfg0.N) : Vec F S1x1024 .f32 := iblk m c 3 t
abbrev btg (c : Dev nD) (t : Fin cfg0.N) : Vec F S256x1024 .f32 := iblk m c 4 t
abbrev awo (c : Dev nD) : Vec F S1536x1024 .bf16 := V m c main_v4
abbrev aw1 (c : Dev nD) : Vec F S4x1024x1024 .bf16 := V m c main_v2
abbrev aw2 (c : Dev nD) : Vec F S4096x1024 .bf16 := V m c main_v5

/-- The sums after point `n`. -/
def stN (c : Dev nD) : (n : ℕ) → n < cfg0.N → Vec F S8x1024 .f32
  | 0, h => oSt (bx m c ⟨0, h⟩) (by' m c ⟨0, h⟩) (bg2 m c ⟨0, h⟩) (bgf m c ⟨0, h⟩) (btg m c ⟨0, h⟩) (awo m c) (aw1 m c) (aw2 m c) k0_pay6
  | n + 1, h => oSt (bx m c ⟨n + 1, h⟩) (by' m c ⟨n + 1, h⟩) (bg2 m c ⟨n + 1, h⟩) (bgf m c ⟨n + 1, h⟩) (btg m c ⟨n + 1, h⟩) (awo m c) (aw1 m c) (aw2 m c) (stN c n (Nat.lt_of_succ_lt h))

/-- What a point leaves in the outputs' buffers and in the weights' own, its sums being `st`. -/
def outs (c : Dev nD) (t : Fin cfg0.N) (st : Vec F S8x1024 .f32) : Vec F S256x4096 .bf16 × Vec F S256x4096 .bf16 × Vec F S256x1024 .bf16 × Vec F S256x1024 .bf16 × Vec F S256x1024 .f32 × Vec F S256x1024 .bf16 × Vec F S256x1536 .f32 × Vec F S8x1024 .f32 × Vec F S1536x1024 .bf16 × Vec F S4x1024x1024 .bf16 × Vec F S4096x1024 .bf16 :=
  (oZ (bx m c t) (by' m c t) (bg2 m c t) (awo m c) (aw1 m c), oDp (bx m c t) (by' m c t) (bg2 m c t) (bgf m c t) (btg m c t) (awo m c) (aw1 m c) (aw2 m c), tH (bx m c t) (by' m c t) (bg2 m c t) (awo m c), oDx3b (bx m c t) (by' m c t) (bg2 m c t) (bgf m c t) (btg m c t) (awo m c) (aw1 m c) (aw2 m c), oDx2 (bx m c t) (by' m c t) (bg2 m c t) (bgf m c t) (btg m c t) (awo m c) (aw1 m c) (aw2 m c), oDx2b (bx m c t) (by' m c t) (bg2 m c t) (bgf m c t) (btg m c t) (awo m c) (aw1 m c) (aw2 m c), oDy (bx m c t) (by' m c t) (bg2 m c t) (bgf m c t) (btg m c t) (awo m c) (aw1 m c) (aw2 m c), st, awo m c, aw1 m c, aw2 m c)

/-- The first point. -/
theorem step_A (c : Dev nD) (t : Fin cfg0.N) (h0 : t.val % 16 = 0) :
    outsAt0 m c t.val t.isLt = outs m c t (oSt (bx m c t) (by' m c t) (bg2 m c t) (bgf m c t) (btg m c t) (awo m c) (aw1 m c) (aw2 m c) k0_pay6) := by
  rw [outsAt0_A m c t h0]
  unfold outs
  refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (?_))))))))))
  · apply A_out5
  · apply A_out6
  · apply A_out7
  · apply A_out8
  · apply A_out9
  · apply A_out10
  · apply A_out11
  · apply A_out12
  · apply A_sout0
  · apply A_sout1
  · apply A_sout2

/-- Every later point, over what the point before it left. -/
theorem step_B (c : Dev nD) (t : Fin cfg0.N) (h0 : ¬t.val % 16 = 0) (acc : Vec F S8x1024 .f32)
    (e7 : (outsAt0 m c (t.val - 1) (Nat.lt_of_le_of_lt (Nat.sub_le _ _) t.isLt)).2.2.2.2.2.2.2.1 = acc)
    (e8 : (outsAt0 m c (t.val - 1) (Nat.lt_of_le_of_lt (Nat.sub_le _ _) t.isLt)).2.2.2.2.2.2.2.2.1 = awo m c)
    (e9 : (outsAt0 m c (t.val - 1) (Nat.lt_of_le_of_lt (Nat.sub_le _ _) t.isLt)).2.2.2.2.2.2.2.2.2.1 = aw1 m c)
    (e10 : (outsAt0 m c (t.val - 1) (Nat.lt_of_le_of_lt (Nat.sub_le _ _) t.isLt)).2.2.2.2.2.2.2.2.2.2 = aw2 m c) :
    outsAt0 m c t.val t.isLt = outs m c t (oSt (bx m c t) (by' m c t) (bg2 m c t) (bgf m c t) (btg m c t) (awo m c) (aw1 m c) (aw2 m c) acc) := by
  rw [outsAt0_B m c t h0, e7, e8, e9, e10]
  unfold outs
  refine congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (congrArg₂ Prod.mk ?_ (?_))))))))))
  · apply B_out5
  · apply B_out6
  · apply B_out7
  · apply B_out8
  · apply B_out9
  · apply B_out10
  · apply B_out11
  · apply B_out12
  · rfl
  · rfl
  · rfl

/-- What every point leaves. -/
theorem outs_eq (c : Dev nD) : ∀ (n : ℕ) (hn : n < cfg0.N), outsAt0 m c n hn = outs m c ⟨n, hn⟩ (stN m c n hn)
  | 0, hn => step_A m c ⟨0, hn⟩ rfl
  | n + 1, hn => by
    have ih := outs_eq c n (Nat.lt_of_succ_lt hn)
    have hN : n + 1 < 16 := lt_of_lt_of_eq hn (show cfg0.N = 16 from N_0)
    refine step_B m c ⟨n + 1, hn⟩ (by dsimp only; omega) (stN m c n (Nat.lt_of_succ_lt hn)) ?_ ?_ ?_ ?_
    · exact congrArg (fun o => o.2.2.2.2.2.2.2.1) ih
    · exact congrArg (fun o => o.2.2.2.2.2.2.2.2.1) ih
    · exact congrArg (fun o => o.2.2.2.2.2.2.2.2.2.1) ih
    · exact congrArg (fun o => o.2.2.2.2.2.2.2.2.2.2) ih

/-- Row `r` of point `t`'s block is row `256 t + r` of the array. -/
def tok (t : Fin cfg0.N) (r : Fin 256) : Fin 4096 :=
  ⟨t.val * 256 + r.val, by have h : t.val < 16 := lt_of_lt_of_eq t.isLt (show cfg0.N = 16 from N_0); have := r.isLt; omega⟩

theorem tok_surj (i : Fin 4096) : ∃ (t : Fin cfg0.N) (r : Fin 256), tok t r = i :=
  ⟨⟨i.val / 256, by rw [show cfg0.N = 16 from N_0]; have := i.isLt; omega⟩, ⟨i.val % 256, Nat.mod_lt _ (by decide)⟩,
    Fin.ext (by show i.val / 256 * 256 + i.val % 256 = i.val; omega)⟩

theorem idx0 : ∀ t : Fin cfg0.N, win0_0.index t (0 : Fin 2) = t.val ∧ win0_0.index t (1 : Fin 2) = 0 :=
  (by decide +kernel : ∀ t : Fin grid0.N, _)

theorem emb0 (t : Fin cfg0.N) (r : Fin 256) (j : Fin 1024) : ((cfg0.win 0).blk t).view.emb (ix2 r j) = ix2 (tok t r) j := by
  obtain ⟨e0, e1⟩ := idx0 t
  funext a; apply Fin.ext
  match a with
  | ⟨0, _⟩ => show win0_0.index t (0 : Fin 2) * 256 + 1 * r.val = t.val * 256 + r.val; rw [e0]; omega
  | ⟨1, _⟩ => show win0_0.index t (1 : Fin 2) * 1024 + 1 * j.val = j.val; rw [e1]; omega

theorem idx1 : ∀ t : Fin cfg0.N, win0_1.index t (0 : Fin 2) = t.val ∧ win0_1.index t (1 : Fin 2) = 0 :=
  (by decide +kernel : ∀ t : Fin grid0.N, _)

theorem emb1 (t : Fin cfg0.N) (r : Fin 256) (j : Fin 1536) : ((cfg0.win 1).blk t).view.emb (ix2 r j) = ix2 (tok t r) j := by
  obtain ⟨e0, e1⟩ := idx1 t
  funext a; apply Fin.ext
  match a with
  | ⟨0, _⟩ => show win0_1.index t (0 : Fin 2) * 256 + 1 * r.val = t.val * 256 + r.val; rw [e0]; omega
  | ⟨1, _⟩ => show win0_1.index t (1 : Fin 2) * 1536 + 1 * j.val = j.val; rw [e1]; omega

theorem idx2 : ∀ t : Fin cfg0.N, win0_2.index t (0 : Fin 2) = 0 ∧ win0_2.index t (1 : Fin 2) = 0 :=
  (by decide +kernel : ∀ t : Fin grid0.N, _)

theorem emb2 (t : Fin cfg0.N) (r : Fin 1) (j : Fin 1024) : ((cfg0.win 2).blk t).view.emb (ix2 r j) = ix2 r j := by
  obtain ⟨e0, e1⟩ := idx2 t
  funext a; apply Fin.ext
  match a with
  | ⟨0, _⟩ => show win0_2.index t (0 : Fin 2) * 1 + 1 * r.val = r.val; rw [e0]; omega
  | ⟨1, _⟩ => show win0_2.index t (1 : Fin 2) * 1024 + 1 * j.val = j.val; rw [e1]; omega

theorem idx3 : ∀ t : Fin cfg0.N, win0_3.index t (0 : Fin 2) = 0 ∧ win0_3.index t (1 : Fin 2) = 0 :=
  (by decide +kernel : ∀ t : Fin grid0.N, _)

theorem emb3 (t : Fin cfg0.N) (r : Fin 1) (j : Fin 1024) : ((cfg0.win 3).blk t).view.emb (ix2 r j) = ix2 r j := by
  obtain ⟨e0, e1⟩ := idx3 t
  funext a; apply Fin.ext
  match a with
  | ⟨0, _⟩ => show win0_3.index t (0 : Fin 2) * 1 + 1 * r.val = r.val; rw [e0]; omega
  | ⟨1, _⟩ => show win0_3.index t (1 : Fin 2) * 1024 + 1 * j.val = j.val; rw [e1]; omega

theorem idx4 : ∀ t : Fin cfg0.N, win0_4.index t (0 : Fin 2) = t.val ∧ win0_4.index t (1 : Fin 2) = 0 :=
  (by decide +kernel : ∀ t : Fin grid0.N, _)

theorem emb4 (t : Fin cfg0.N) (r : Fin 256) (j : Fin 1024) : ((cfg0.win 4).blk t).view.emb (ix2 r j) = ix2 (tok t r) j := by
  obtain ⟨e0, e1⟩ := idx4 t
  funext a; apply Fin.ext
  match a with
  | ⟨0, _⟩ => show win0_4.index t (0 : Fin 2) * 256 + 1 * r.val = t.val * 256 + r.val; rw [e0]; omega
  | ⟨1, _⟩ => show win0_4.index t (1 : Fin 2) * 1024 + 1 * j.val = j.val; rw [e1]; omega

theorem idx5 : ∀ t : Fin cfg0.N, win0_5.index t (0 : Fin 2) = t.val ∧ win0_5.index t (1 : Fin 2) = 0 :=
  (by decide +kernel : ∀ t : Fin grid0.N, _)

theorem emb5 (t : Fin cfg0.N) (r : Fin 256) (j : Fin 4096) : ((cfg0.win 5).blk t).view.emb (ix2 r j) = ix2 (tok t r) j := by
  obtain ⟨e0, e1⟩ := idx5 t
  funext a; apply Fin.ext
  match a with
  | ⟨0, _⟩ => show win0_5.index t (0 : Fin 2) * 256 + 1 * r.val = t.val * 256 + r.val; rw [e0]; omega
  | ⟨1, _⟩ => show win0_5.index t (1 : Fin 2) * 4096 + 1 * j.val = j.val; rw [e1]; omega

theorem idx6 : ∀ t : Fin cfg0.N, win0_6.index t (0 : Fin 2) = t.val ∧ win0_6.index t (1 : Fin 2) = 0 :=
  (by decide +kernel : ∀ t : Fin grid0.N, _)

theorem emb6 (t : Fin cfg0.N) (r : Fin 256) (j : Fin 4096) : ((cfg0.win 6).blk t).view.emb (ix2 r j) = ix2 (tok t r) j := by
  obtain ⟨e0, e1⟩ := idx6 t
  funext a; apply Fin.ext
  match a with
  | ⟨0, _⟩ => show win0_6.index t (0 : Fin 2) * 256 + 1 * r.val = t.val * 256 + r.val; rw [e0]; omega
  | ⟨1, _⟩ => show win0_6.index t (1 : Fin 2) * 4096 + 1 * j.val = j.val; rw [e1]; omega

theorem idx7 : ∀ t : Fin cfg0.N, win0_7.index t (0 : Fin 2) = t.val ∧ win0_7.index t (1 : Fin 2) = 0 :=
  (by decide +kernel : ∀ t : Fin grid0.N, _)

theorem emb7 (t : Fin cfg0.N) (r : Fin 256) (j : Fin 1024) : ((cfg0.win 7).blk t).view.emb (ix2 r j) = ix2 (tok t r) j := by
  obtain ⟨e0, e1⟩ := idx7 t
  funext a; apply Fin.ext
  match a with
  | ⟨0, _⟩ => show win0_7.index t (0 : Fin 2) * 256 + 1 * r.val = t.val * 256 + r.val; rw [e0]; omega
  | ⟨1, _⟩ => show win0_7.index t (1 : Fin 2) * 1024 + 1 * j.val = j.val; rw [e1]; omega

theorem idx8 : ∀ t : Fin cfg0.N, win0_8.index t (0 : Fin 2) = t.val ∧ win0_8.index t (1 : Fin 2) = 0 :=
  (by decide +kernel : ∀ t : Fin grid0.N, _)

theorem emb8 (t : Fin cfg0.N) (r : Fin 256) (j : Fin 1024) : ((cfg0.win 8).blk t).view.emb (ix2 r j) = ix2 (tok t r) j := by
  obtain ⟨e0, e1⟩ := idx8 t
  funext a; apply Fin.ext
  match a with
  | ⟨0, _⟩ => show win0_8.index t (0 : Fin 2) * 256 + 1 * r.val = t.val * 256 + r.val; rw [e0]; omega
  | ⟨1, _⟩ => show win0_8.index t (1 : Fin 2) * 1024 + 1 * j.val = j.val; rw [e1]; omega

theorem idx9 : ∀ t : Fin cfg0.N, win0_9.index t (0 : Fin 2) = t.val ∧ win0_9.index t (1 : Fin 2) = 0 :=
  (by decide +kernel : ∀ t : Fin grid0.N, _)

theorem emb9 (t : Fin cfg0.N) (r : Fin 256) (j : Fin 1024) : ((cfg0.win 9).blk t).view.emb (ix2 r j) = ix2 (tok t r) j := by
  obtain ⟨e0, e1⟩ := idx9 t
  funext a; apply Fin.ext
  match a with
  | ⟨0, _⟩ => show win0_9.index t (0 : Fin 2) * 256 + 1 * r.val = t.val * 256 + r.val; rw [e0]; omega
  | ⟨1, _⟩ => show win0_9.index t (1 : Fin 2) * 1024 + 1 * j.val = j.val; rw [e1]; omega

theorem idx10 : ∀ t : Fin cfg0.N, win0_10.index t (0 : Fin 2) = t.val ∧ win0_10.index t (1 : Fin 2) = 0 :=
  (by decide +kernel : ∀ t : Fin grid0.N, _)

theorem emb10 (t : Fin cfg0.N) (r : Fin 256) (j : Fin 1024) : ((cfg0.win 10).blk t).view.emb (ix2 r j) = ix2 (tok t r) j := by
  obtain ⟨e0, e1⟩ := idx10 t
  funext a; apply Fin.ext
  match a with
  | ⟨0, _⟩ => show win0_10.index t (0 : Fin 2) * 256 + 1 * r.val = t.val * 256 + r.val; rw [e0]; omega
  | ⟨1, _⟩ => show win0_10.index t (1 : Fin 2) * 1024 + 1 * j.val = j.val; rw [e1]; omega

theorem idx11 : ∀ t : Fin cfg0.N, win0_11.index t (0 : Fin 2) = t.val ∧ win0_11.index t (1 : Fin 2) = 0 :=
  (by decide +kernel : ∀ t : Fin grid0.N, _)

theorem emb11 (t : Fin cfg0.N) (r : Fin 256) (j : Fin 1536) : ((cfg0.win 11).blk t).view.emb (ix2 r j) = ix2 (tok t r) j := by
  obtain ⟨e0, e1⟩ := idx11 t
  funext a; apply Fin.ext
  match a with
  | ⟨0, _⟩ => show win0_11.index t (0 : Fin 2) * 256 + 1 * r.val = t.val * 256 + r.val; rw [e0]; omega
  | ⟨1, _⟩ => show win0_11.index t (1 : Fin 2) * 1536 + 1 * j.val = j.val; rw [e1]; omega

theorem idx12 : ∀ t : Fin cfg0.N, win0_12.index t (0 : Fin 2) = 0 ∧ win0_12.index t (1 : Fin 2) = 0 :=
  (by decide +kernel : ∀ t : Fin grid0.N, _)

theorem emb12 (t : Fin cfg0.N) (r : Fin 8) (j : Fin 1024) : ((cfg0.win 12).blk t).view.emb (ix2 r j) = ix2 r j := by
  obtain ⟨e0, e1⟩ := idx12 t
  funext a; apply Fin.ext
  match a with
  | ⟨0, _⟩ => show win0_12.index t (0 : Fin 2) * 8 + 1 * r.val = r.val; rw [e0]; omega
  | ⟨1, _⟩ => show win0_12.index t (1 : Fin 2) * 1024 + 1 * j.val = j.val; rw [e1]; omega

theorem bx_apply (c : Dev nD) (t : Fin cfg0.N) (r : Fin 256) (j : Fin 1024) : bx m c t (ix2 r j) = V m c main_arg0 (ix2 (tok t r) j) := by
  show V m c main_arg0 (((cfg0.win 0).blk t).view.emb (ix2 r j)) = _
  rw [emb0]

theorem by'_apply (c : Dev nD) (t : Fin cfg0.N) (r : Fin 256) (j : Fin 1536) : by' m c t (ix2 r j) = V m c main_v3 (ix2 (tok t r) j) := by
  show V m c main_v3 (((cfg0.win 1).blk t).view.emb (ix2 r j)) = _
  rw [emb1]

theorem bg2_apply (c : Dev nD) (t : Fin cfg0.N) (r : Fin 1) (j : Fin 1024) : bg2 m c t (ix2 r j) = V m c main_v6 (ix2 r j) := by
  show V m c main_v6 (((cfg0.win 2).blk t).view.emb (ix2 r j)) = _
  rw [emb2]

theorem bgf_apply (c : Dev nD) (t : Fin cfg0.N) (r : Fin 1) (j : Fin 1024) : bgf m c t (ix2 r j) = V m c main_v7 (ix2 r j) := by
  show V m c main_v7 (((cfg0.win 3).blk t).view.emb (ix2 r j)) = _
  rw [emb3]

theorem btg_apply (c : Dev nD) (t : Fin cfg0.N) (r : Fin 256) (j : Fin 1024) : btg m c t (ix2 r j) = V m c main_arg7 (ix2 (tok t r) j) := by
  show V m c main_arg7 (((cfg0.win 4).blk t).view.emb (ix2 r j)) = _
  rw [emb4]

theorem flushed5 (c : Dev nD) (t : Fin cfg0.N) : (dats m 0 c).flushed 5 t = oZ (bx m c t) (by' m c t) (bg2 m c t) (awo m c) (aw1 m c) := by
  show (cfg0.win 5).cut (grid0.coords t) ((dats m 0 c).after 5 t) = _
  rw [after0_5, outs_eq]; rfl

/-- The output's array after the run is `G` when every point's block is `G`'s. -/
theorem arr5 (c : Dev nD) (G : Vec F ⟨2, ![4096, 4096]⟩ .bf16)
    (hG : ∀ t : Fin cfg0.N, ∀ (r : Fin 256) (j : Fin 4096), (oZ (bx m c t) (by' m c t) (bg2 m c t) (awo m c) (aw1 m c)) (ix2 r j) = G (ix2 (tok t r) j)) :
    (dats m 0 c).arrAt 5 cfg0.N = G := by
  refine (dats m 0 c).arrAt_eq_of_cover 5 G (fun t _ => ?_) (fun i => ?_)
  · rw [flushed5]
    funext y
    obtain ⟨r, j, rfl⟩ : ∃ (r : Fin 256) (j : Fin 4096), y = ix2 r j := ⟨y 0, y 1, eq_ix2 y⟩
    rw [hG t r j, View.read_apply, emb5]; rfl
  · obtain ⟨p, j, rfl⟩ : ∃ (p : Fin 4096) (j : Fin 4096), i = ix2 p j := ⟨i 0, i 1, eq_ix2 i⟩
    obtain ⟨t, r, rfl⟩ := tok_surj p
    exact ⟨t, flush0_5 t, emb5 t r j ▸ ((cfg0.win 5).blk t).view.emb_mem_set (ix2 r j)⟩

theorem flushed6 (c : Dev nD) (t : Fin cfg0.N) : (dats m 0 c).flushed 6 t = oDp (bx m c t) (by' m c t) (bg2 m c t) (bgf m c t) (btg m c t) (awo m c) (aw1 m c) (aw2 m c) := by
  show (cfg0.win 6).cut (grid0.coords t) ((dats m 0 c).after 6 t) = _
  rw [after0_6, outs_eq]; rfl

/-- The output's array after the run is `G` when every point's block is `G`'s. -/
theorem arr6 (c : Dev nD) (G : Vec F ⟨2, ![4096, 4096]⟩ .bf16)
    (hG : ∀ t : Fin cfg0.N, ∀ (r : Fin 256) (j : Fin 4096), (oDp (bx m c t) (by' m c t) (bg2 m c t) (bgf m c t) (btg m c t) (awo m c) (aw1 m c) (aw2 m c)) (ix2 r j) = G (ix2 (tok t r) j)) :
    (dats m 0 c).arrAt 6 cfg0.N = G := by
  refine (dats m 0 c).arrAt_eq_of_cover 6 G (fun t _ => ?_) (fun i => ?_)
  · rw [flushed6]
    funext y
    obtain ⟨r, j, rfl⟩ : ∃ (r : Fin 256) (j : Fin 4096), y = ix2 r j := ⟨y 0, y 1, eq_ix2 y⟩
    rw [hG t r j, View.read_apply, emb6]; rfl
  · obtain ⟨p, j, rfl⟩ : ∃ (p : Fin 4096) (j : Fin 4096), i = ix2 p j := ⟨i 0, i 1, eq_ix2 i⟩
    obtain ⟨t, r, rfl⟩ := tok_surj p
    exact ⟨t, flush0_6 t, emb6 t r j ▸ ((cfg0.win 6).blk t).view.emb_mem_set (ix2 r j)⟩

theorem flushed7 (c : Dev nD) (t : Fin cfg0.N) : (dats m 0 c).flushed 7 t = tH (bx m c t) (by' m c t) (bg2 m c t) (awo m c) := by
  show (cfg0.win 7).cut (grid0.coords t) ((dats m 0 c).after 7 t) = _
  rw [after0_7, outs_eq]; rfl

/-- The output's array after the run is `G` when every point's block is `G`'s. -/
theorem arr7 (c : Dev nD) (G : Vec F ⟨2, ![4096, 1024]⟩ .bf16)
    (hG : ∀ t : Fin cfg0.N, ∀ (r : Fin 256) (j : Fin 1024), (tH (bx m c t) (by' m c t) (bg2 m c t) (awo m c)) (ix2 r j) = G (ix2 (tok t r) j)) :
    (dats m 0 c).arrAt 7 cfg0.N = G := by
  refine (dats m 0 c).arrAt_eq_of_cover 7 G (fun t _ => ?_) (fun i => ?_)
  · rw [flushed7]
    funext y
    obtain ⟨r, j, rfl⟩ : ∃ (r : Fin 256) (j : Fin 1024), y = ix2 r j := ⟨y 0, y 1, eq_ix2 y⟩
    rw [hG t r j, View.read_apply, emb7]; rfl
  · obtain ⟨p, j, rfl⟩ : ∃ (p : Fin 4096) (j : Fin 1024), i = ix2 p j := ⟨i 0, i 1, eq_ix2 i⟩
    obtain ⟨t, r, rfl⟩ := tok_surj p
    exact ⟨t, flush0_7 t, emb7 t r j ▸ ((cfg0.win 7).blk t).view.emb_mem_set (ix2 r j)⟩

theorem flushed8 (c : Dev nD) (t : Fin cfg0.N) : (dats m 0 c).flushed 8 t = oDx3b (bx m c t) (by' m c t) (bg2 m c t) (bgf m c t) (btg m c t) (awo m c) (aw1 m c) (aw2 m c) := by
  show (cfg0.win 8).cut (grid0.coords t) ((dats m 0 c).after 8 t) = _
  rw [after0_8, outs_eq]; rfl

/-- The output's array after the run is `G` when every point's block is `G`'s. -/
theorem arr8 (c : Dev nD) (G : Vec F ⟨2, ![4096, 1024]⟩ .bf16)
    (hG : ∀ t : Fin cfg0.N, ∀ (r : Fin 256) (j : Fin 1024), (oDx3b (bx m c t) (by' m c t) (bg2 m c t) (bgf m c t) (btg m c t) (awo m c) (aw1 m c) (aw2 m c)) (ix2 r j) = G (ix2 (tok t r) j)) :
    (dats m 0 c).arrAt 8 cfg0.N = G := by
  refine (dats m 0 c).arrAt_eq_of_cover 8 G (fun t _ => ?_) (fun i => ?_)
  · rw [flushed8]
    funext y
    obtain ⟨r, j, rfl⟩ : ∃ (r : Fin 256) (j : Fin 1024), y = ix2 r j := ⟨y 0, y 1, eq_ix2 y⟩
    rw [hG t r j, View.read_apply, emb8]; rfl
  · obtain ⟨p, j, rfl⟩ : ∃ (p : Fin 4096) (j : Fin 1024), i = ix2 p j := ⟨i 0, i 1, eq_ix2 i⟩
    obtain ⟨t, r, rfl⟩ := tok_surj p
    exact ⟨t, flush0_8 t, emb8 t r j ▸ ((cfg0.win 8).blk t).view.emb_mem_set (ix2 r j)⟩

theorem flushed9 (c : Dev nD) (t : Fin cfg0.N) : (dats m 0 c).flushed 9 t = oDx2 (bx m c t) (by' m c t) (bg2 m c t) (bgf m c t) (btg m c t) (awo m c) (aw1 m c) (aw2 m c) := by
  show (cfg0.win 9).cut (grid0.coords t) ((dats m 0 c).after 9 t) = _
  rw [after0_9, outs_eq]; rfl

/-- The output's array after the run is `G` when every point's block is `G`'s. -/
theorem arr9 (c : Dev nD) (G : Vec F ⟨2, ![4096, 1024]⟩ .f32)
    (hG : ∀ t : Fin cfg0.N, ∀ (r : Fin 256) (j : Fin 1024), (oDx2 (bx m c t) (by' m c t) (bg2 m c t) (bgf m c t) (btg m c t) (awo m c) (aw1 m c) (aw2 m c)) (ix2 r j) = G (ix2 (tok t r) j)) :
    (dats m 0 c).arrAt 9 cfg0.N = G := by
  refine (dats m 0 c).arrAt_eq_of_cover 9 G (fun t _ => ?_) (fun i => ?_)
  · rw [flushed9]
    funext y
    obtain ⟨r, j, rfl⟩ : ∃ (r : Fin 256) (j : Fin 1024), y = ix2 r j := ⟨y 0, y 1, eq_ix2 y⟩
    rw [hG t r j, View.read_apply, emb9]; rfl
  · obtain ⟨p, j, rfl⟩ : ∃ (p : Fin 4096) (j : Fin 1024), i = ix2 p j := ⟨i 0, i 1, eq_ix2 i⟩
    obtain ⟨t, r, rfl⟩ := tok_surj p
    exact ⟨t, flush0_9 t, emb9 t r j ▸ ((cfg0.win 9).blk t).view.emb_mem_set (ix2 r j)⟩

theorem flushed10 (c : Dev nD) (t : Fin cfg0.N) : (dats m 0 c).flushed 10 t = oDx2b (bx m c t) (by' m c t) (bg2 m c t) (bgf m c t) (btg m c t) (awo m c) (aw1 m c) (aw2 m c) := by
  show (cfg0.win 10).cut (grid0.coords t) ((dats m 0 c).after 10 t) = _
  rw [after0_10, outs_eq]; rfl

/-- The output's array after the run is `G` when every point's block is `G`'s. -/
theorem arr10 (c : Dev nD) (G : Vec F ⟨2, ![4096, 1024]⟩ .bf16)
    (hG : ∀ t : Fin cfg0.N, ∀ (r : Fin 256) (j : Fin 1024), (oDx2b (bx m c t) (by' m c t) (bg2 m c t) (bgf m c t) (btg m c t) (awo m c) (aw1 m c) (aw2 m c)) (ix2 r j) = G (ix2 (tok t r) j)) :
    (dats m 0 c).arrAt 10 cfg0.N = G := by
  refine (dats m 0 c).arrAt_eq_of_cover 10 G (fun t _ => ?_) (fun i => ?_)
  · rw [flushed10]
    funext y
    obtain ⟨r, j, rfl⟩ : ∃ (r : Fin 256) (j : Fin 1024), y = ix2 r j := ⟨y 0, y 1, eq_ix2 y⟩
    rw [hG t r j, View.read_apply, emb10]; rfl
  · obtain ⟨p, j, rfl⟩ : ∃ (p : Fin 4096) (j : Fin 1024), i = ix2 p j := ⟨i 0, i 1, eq_ix2 i⟩
    obtain ⟨t, r, rfl⟩ := tok_surj p
    exact ⟨t, flush0_10 t, emb10 t r j ▸ ((cfg0.win 10).blk t).view.emb_mem_set (ix2 r j)⟩

theorem flushed11 (c : Dev nD) (t : Fin cfg0.N) : (dats m 0 c).flushed 11 t = oDy (bx m c t) (by' m c t) (bg2 m c t) (bgf m c t) (btg m c t) (awo m c) (aw1 m c) (aw2 m c) := by
  show (cfg0.win 11).cut (grid0.coords t) ((dats m 0 c).after 11 t) = _
  rw [after0_11, outs_eq]; rfl

/-- The output's array after the run is `G` when every point's block is `G`'s. -/
theorem arr11 (c : Dev nD) (G : Vec F ⟨2, ![4096, 1536]⟩ .f32)
    (hG : ∀ t : Fin cfg0.N, ∀ (r : Fin 256) (j : Fin 1536), (oDy (bx m c t) (by' m c t) (bg2 m c t) (bgf m c t) (btg m c t) (awo m c) (aw1 m c) (aw2 m c)) (ix2 r j) = G (ix2 (tok t r) j)) :
    (dats m 0 c).arrAt 11 cfg0.N = G := by
  refine (dats m 0 c).arrAt_eq_of_cover 11 G (fun t _ => ?_) (fun i => ?_)
  · rw [flushed11]
    funext y
    obtain ⟨r, j, rfl⟩ : ∃ (r : Fin 256) (j : Fin 1536), y = ix2 r j := ⟨y 0, y 1, eq_ix2 y⟩
    rw [hG t r j, View.read_apply, emb11]; rfl
  · obtain ⟨p, j, rfl⟩ : ∃ (p : Fin 4096) (j : Fin 1536), i = ix2 p j := ⟨i 0, i 1, eq_ix2 i⟩
    obtain ⟨t, r, rfl⟩ := tok_surj p
    exact ⟨t, flush0_11 t, emb11 t r j ▸ ((cfg0.win 11).blk t).view.emb_mem_set (ix2 r j)⟩

theorem flushed12 (c : Dev nD) (t : Fin cfg0.N) : (dats m 0 c).flushed 12 t = stN m c t.val t.isLt := by
  show (cfg0.win 12).cut (grid0.coords t) ((dats m 0 c).after 12 t) = _
  rw [after0_12, outs_eq]; rfl

/-- The last point. -/
abbrev tl : Fin cfg0.N := ⟨15, by rw [show cfg0.N = 16 from N_0]; decide⟩

/-- The sums' array after the run is what the last point left. -/
theorem arr12 (c : Dev nD) (G : Vec F ⟨2, ![8, 1024]⟩ .f32)
    (hG : ∀ (r : Fin 8) (j : Fin 1024), stN m c 15 tl.isLt (ix2 r j) = G (ix2 r j)) :
    (dats m 0 c).arrAt 12 cfg0.N = G := by
  refine (dats m 0 c).arrAt_eq_of_cover 12 G (fun t hf => ?_) (fun i => ?_)
  · have h15 := (flush0_12 t).mp hf
    have hN : t.val < 16 := lt_of_lt_of_eq t.isLt (show cfg0.N = 16 from N_0)
    obtain rfl : t = tl := Fin.ext (by show t.val = 15; omega)
    rw [flushed12]
    funext y
    obtain ⟨r, j, rfl⟩ : ∃ (r : Fin 8) (j : Fin 1024), y = ix2 r j := ⟨y 0, y 1, eq_ix2 y⟩
    rw [View.read_apply, emb12]
    exact hG r j
  · obtain ⟨r, j, rfl⟩ : ∃ (r : Fin 8) (j : Fin 1024), i = ix2 r j := ⟨i 0, i 1, eq_ix2 i⟩
    exact ⟨tl, (flush0_12 tl).mpr rfl, emb12 tl r j ▸ ((cfg0.win 12).blk tl).view.emb_mem_set (ix2 r j)⟩

/-- The run: the eight outputs' arrays are these, and the arguments are kept. -/
theorem run_arrays : θ_run defs (onTc (τ := τ) (main (F := F))) ⟨m, fun _ => 0, ρ⟩ fun r => ∀ c : Dev nD,
r.2.mem ((c : Thread nD τ).loc main_v8_0) = (dats m 0 c).arrAt 5 cfg0.N
      ∧ r.2.mem ((c : Thread nD τ).loc main_v8_1) = (dats m 0 c).arrAt 6 cfg0.N
      ∧ r.2.mem ((c : Thread nD τ).loc main_v8_2) = (dats m 0 c).arrAt 7 cfg0.N
      ∧ r.2.mem ((c : Thread nD τ).loc main_v8_3) = (dats m 0 c).arrAt 8 cfg0.N
      ∧ r.2.mem ((c : Thread nD τ).loc main_v8_4) = (dats m 0 c).arrAt 9 cfg0.N
      ∧ r.2.mem ((c : Thread nD τ).loc main_v8_5) = (dats m 0 c).arrAt 10 cfg0.N
      ∧ r.2.mem ((c : Thread nD τ).loc main_v8_6) = (dats m 0 c).arrAt 11 cfg0.N
      ∧ r.2.mem ((c : Thread nD τ).loc main_v8_7) = (dats m 0 c).arrAt 12 cfg0.N :=
  (θ_run defs _ _).mono (fun r h c => ⟨(h c).1 5, (h c).1 6, (h c).1 7, (h c).1 8, (h c).1 9, (h c).1 10, (h c).1 11, (h c).1 12⟩) (run_main m ρ)

end Cert.KernelIdeal.Points

end
-- ==== Proof.Rows.lean ====
module
public import Idealize.ShloMosaic.Lib.Pointwise
public import Mathlib.Analysis.SpecialFunctions.Pow.Real
public import Mathlib.Tactic.Positivity
public import Mathlib.Tactic.FieldSimp

/-! # One token's row, over the extended reals

What the two-layer MLP with the loss head computes for one token, forward and backward, written
with the operations of the extended reals alone. The kernel's blocks and the reference's whole
arrays are both shown to hold these numbers. The second half gives the laws of the extended reals
that the agreement takes, and the law of a norm's backward pass, in which a row with an infinite
entry has the reciprocal root zero. -/

@[expose] public section

noncomputable section

namespace Cert.Rows

open Idealize.ShloMosaic

/-- The weights: the output projection, the two norms' gains, the two matrices of the MLP. -/
structure Wts where
  wo : Fin 1536 → Fin 1024 → EReal
  g2 : Fin 1024 → EReal
  w1 : Fin 1024 → Fin 4096 → EReal
  w2 : Fin 4096 → Fin 1024 → EReal
  gf : Fin 1024 → EReal

/-- One token's inputs: the residual stream, the mixer's output, the target. -/
structure Row where
  x : Fin 1024 → EReal
  y : Fin 1536 → EReal
  t : Fin 1024 → EReal

/-- The small number under the root: `1e-6` rounded to single precision. -/
def eps : ℝ := 8796093 / 8796093022208

theorem eps_pos : 0 < eps := by unfold eps; norm_num

/-- The mean square with the small number. -/
def ms (v : Fin 1024 → EReal) : EReal := Ideal.div (∑ j, v j * v j) ((1024 : ℝ) : EReal) + ((eps : ℝ) : EReal)

/-- The reciprocal root mean square. -/
def inv (v : Fin 1024 → EReal) : EReal := Ideal.rsqrt (ms v)

/-- The normalised row. -/
def nrm (v : Fin 1024 → EReal) (j : Fin 1024) : EReal := v j * inv v

/-- The cotangent `d` of the normalised row, pulled back to the row. -/
def back (v d : Fin 1024 → EReal) (j : Fin 1024) : EReal :=
  inv v * (d j - nrm v j * Ideal.div (∑ l, d l * nrm v l) ((1024 : ℝ) : EReal))

section
variable (W : Wts) (T : Row)

def x2 (j : Fin 1024) : EReal := T.x j + ∑ k, T.y k * W.wo k j
def h2 (j : Fin 1024) : EReal := nrm (x2 W T) j * W.g2 j
def p (k : Fin 4096) : EReal := ∑ i, h2 W T i * W.w1 i k
def z (k : Fin 4096) : EReal := max (p W T k) 0 * max (p W T k) 0
def x3 (j : Fin 1024) : EReal := x2 W T j + ∑ k, z W T k * W.w2 k j
def err (j : Fin 1024) : EReal := nrm (x3 W T) j * W.gf j - T.t j
def dout (j : Fin 1024) : EReal := err W T j * ((1 / 1024 : ℝ) : EReal)
def dxh3 (j : Fin 1024) : EReal := dout W T j * W.gf j
def dx3 (j : Fin 1024) : EReal := back (x3 W T) (dxh3 W T) j
def dp (k : Fin 4096) : EReal := (∑ j, dx3 W T j * W.w2 k j) * (((2 : ℝ) : EReal) * max (p W T k) 0)
def dh2 (i : Fin 1024) : EReal := ∑ k, dp W T k * W.w1 i k
def dxh2 (j : Fin 1024) : EReal := dh2 W T j * W.g2 j
def dx2 (j : Fin 1024) : EReal := dx3 W T j + back (x2 W T) (dxh2 W T) j
def dy (k : Fin 1536) : EReal := ∑ j, dx2 W T j * W.wo k j
/-- One token's share of the loss: half the mean square of its error. -/
def loss : EReal := ((1 / 2048 : ℝ) : EReal) * ∑ j, err W T j * err W T j
/-- One token's share of the gradients of the two gains. -/
def dgf (j : Fin 1024) : EReal := dout W T j * nrm (x3 W T) j
def dg2 (j : Fin 1024) : EReal := dh2 W T j * nrm (x2 W T) j
end

/-- The eight rows of sums: the gains' gradients, the loss in every column, and rows of zeros,
of the tokens `T i`. -/
def sums {ι : Type} [Fintype ι] (W : Wts) (T : ι → Row) (r : Fin 8) (j : Fin 1024) : EReal :=
  if r = 0 then ∑ i, dgf W (T i) j else if r = 1 then ∑ i, dg2 W (T i) j
  else if r = 2 then ∑ i, loss W (T i) else 0

/-! ## Laws of the extended reals -/

theorem mul_add_real {c : ℝ} (h : 0 ≤ c) (a b : EReal) : (c : EReal) * (a + b) = (c : EReal) * a + (c : EReal) * b :=
  EReal.left_distrib_of_nonneg_of_ne_top (EReal.coe_nonneg.mpr h) (EReal.coe_ne_top c) a b

/-- A real number that is not negative goes into a sum, whatever its terms are. -/
theorem mul_sum_real {ι : Type} [Fintype ι] {c : ℝ} (h : 0 ≤ c) (f : ι → EReal) :
    (c : EReal) * ∑ i, f i = ∑ i, (c : EReal) * f i := by
  classical
  induction (Finset.univ : Finset ι) using Finset.induction_on with
  | empty => simp
  | insert a s ha ih => rw [Finset.sum_insert ha, Finset.sum_insert ha, mul_add_real h, ih]

theorem sum_coe {ι : Type} [Fintype ι] (f : ι → ℝ) :
    ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

theorem sq_nonneg (x : EReal) : 0 ≤ x * x := by
  rcases le_total 0 x with h | h
  · exact mul_nonneg h h
  · rw [← neg_mul_neg]
    exact mul_nonneg (EReal.neg_nonneg.mpr h) (EReal.neg_nonneg.mpr h)

theorem sq_top {x : EReal} (h : x = ⊤ ∨ x = ⊥) : x * x = ⊤ := by
  rcases h with rfl | rfl <;> rfl

/-- Twice the same is the double. -/
theorem add_self (x : EReal) : x + x = ((2 : ℝ) : EReal) * x := by
  induction x with
  | bot => rw [EReal.coe_mul_bot_of_pos (by norm_num)]; rfl
  | top => rw [EReal.coe_mul_top_of_pos (by norm_num)]; rfl
  | coe a => rw [← EReal.coe_add, ← EReal.coe_mul, two_mul]

theorem div1024 (x : EReal) : Ideal.div x ((1024 : ℝ) : EReal) = x * ((1 / 1024 : ℝ) : EReal) :=
  Ideal.div_coe (by norm_num) x

/-- A row with an infinite entry has an infinite mean square; of a row of real numbers it is a
positive real number. -/
theorem ms_cases (v : Fin 1024 → EReal) :
    ms v = ⊤ ∨ ∃ (u : Fin 1024 → ℝ) (a : ℝ), 0 < a ∧ (∀ j, v j = u j) ∧ ms v = a := by
  by_cases h : ∃ j, v j = ⊤ ∨ v j = ⊥
  · left
    obtain ⟨j, hj⟩ := h
    have e : ∑ j, v j * v j = ⊤ := by
      rw [eq_top_iff, ← sq_top hj]
      exact Finset.single_le_sum (f := fun j => v j * v j) (fun i _ => sq_nonneg (v i)) (Finset.mem_univ j)
    rw [ms, e, div1024, EReal.top_mul_coe_of_pos (by norm_num)]
    rfl
  · right
    have hv : ∀ j, v j = ((v j).toReal : EReal) := fun j =>
      (EReal.coe_toReal (fun e => h ⟨j, .inl e⟩) (fun e => h ⟨j, .inr e⟩)).symm
    refine ⟨fun j => (v j).toReal, (∑ j, (v j).toReal * (v j).toReal) * (1 / 1024) + eps, ?_, hv, ?_⟩
    · have h0 : 0 ≤ ∑ j, (v j).toReal * (v j).toReal := Finset.sum_nonneg fun j _ => mul_self_nonneg _
      have := eps_pos
      positivity
    · have e : ∑ j, v j * v j = ((∑ j, (v j).toReal * (v j).toReal : ℝ) : EReal) := by
        rw [← sum_coe]
        exact Finset.sum_congr rfl fun j _ => by rw [EReal.coe_mul, ← hv]
      rw [ms, e, div1024, ← EReal.coe_mul, ← EReal.coe_add]

theorem inv_real {v : Fin 1024 → EReal} {a : ℝ} (h : 0 < a) (e : ms v = a) : inv v = (((√a)⁻¹ : ℝ) : EReal) := by
  rw [inv, e, Ideal.rsqrt_coe, if_neg h.not_gt, if_neg h.ne']

/-- The transposed lines of a norm are its pull-back: the two equal halves over the cube of the
root mean square. -/
theorem norm_back (v d : Fin 1024 → EReal) (j : Fin 1024) :
    d j * inv v + v j * Ideal.div ((∑ l, v l * d l) * (((-(1 / 2) : ℝ) : EReal) * Ideal.div (inv v) (ms v))) ((1024 : ℝ) : EReal)
      + Ideal.div ((∑ l, v l * d l) * (((-(1 / 2) : ℝ) : EReal) * Ideal.div (inv v) (ms v))) ((1024 : ℝ) : EReal) * v j = back v d j := by
  rcases ms_cases v with h | ⟨u, a, ha, hv, h⟩
  · have h0 : inv v = 0 := by rw [inv, h]; rfl
    have h1 : Ideal.div (inv v) (ms v) = 0 := by rw [h0, h, Ideal.div, if_neg EReal.top_ne_zero, zero_mul]
    rw [h1, back, h0]
    simp only [mul_zero, zero_mul, div1024, add_zero]
  · have hr : 0 ≤ (√a)⁻¹ := by positivity
    have hi := inv_real ha h
    have e1 : Ideal.div (inv v) (ms v) = (((√a)⁻¹ * (√a)⁻¹ * (√a)⁻¹ : ℝ) : EReal) := by
      rw [hi, h, Ideal.div_coe ha.ne', ← EReal.coe_mul, mul_assoc, ← mul_inv, Real.mul_self_sqrt ha.le, one_div]
    have e2 : ∑ l, d l * nrm v l = (((√a)⁻¹ : ℝ) : EReal) * ∑ l, v l * d l := by
      rw [mul_sum_real hr]
      exact Finset.sum_congr rfl fun l _ => by rw [nrm, hi, mul_comm (v l) (d l), ← mul_assoc, mul_comm]
    rw [e1, back, e2, nrm, hi, hv j]
    generalize ∑ l, v l * d l = S
    generalize (√a)⁻¹ = r at *
    generalize u j = b
    generalize d j = D
    rw [sub_eq_add_neg, mul_add_real hr, mul_comm _ D, add_assoc, mul_comm _ (b : EReal), add_self, div1024, div1024, mul_neg]
    refine congrArg _ ?_
    have e3 : ((2 : ℝ) : EReal) * ((b : EReal) * (S * (((-(1 / 2) : ℝ) : EReal) * ((r * r * r : ℝ) : EReal)) * ((1 / 1024 : ℝ) : EReal)))
        = S * ((2 * b * -(1 / 2) * (r * r * r) * (1 / 1024) : ℝ) : EReal) := by
      simp only [EReal.coe_mul]; ac_rfl
    have e4 : (r : EReal) * ((b : EReal) * (r : EReal) * ((r : EReal) * S * ((1 / 1024 : ℝ) : EReal)))
        = S * ((b * (r * r * r) * (1 / 1024) : ℝ) : EReal) := by
      simp only [EReal.coe_mul]; ac_rfl
    rw [e3, e4, ← mul_neg, ← EReal.coe_neg]
    refine congrArg (S * ·) (congrArg _ ?_)
    ring

theorem lit1024 : Ideal.ofBits .f32 0x44800000#32 = ((1024 : ℝ) : EReal) := by
  simp [Ideal.ofBits, Ideal.ieee, -EReal.coe_mul, -EReal.coe_neg]; norm_num
theorem lit_eps : Ideal.ofBits .f32 0x358637BD#32 = ((eps : ℝ) : EReal) := by
  simp [Ideal.ofBits, Ideal.ieee, eps, -EReal.coe_mul]; norm_num
theorem lit_inv1024 : Ideal.ofBits .f32 0x3A800000#32 = ((1 / 1024 : ℝ) : EReal) := by
  simp [Ideal.ofBits, Ideal.ieee, -EReal.coe_mul, -EReal.coe_neg]; norm_num
theorem lit_inv2048 : Ideal.ofBits .f32 0x3A000000#32 = ((1 / 2048 : ℝ) : EReal) := by
  simp [Ideal.ofBits, Ideal.ieee, -EReal.coe_mul, -EReal.coe_neg]; norm_num
theorem lit2 : Ideal.ofBits .f32 0x40000000#32 = ((2 : ℝ) : EReal) := by
  simp [Ideal.ofBits, Ideal.ieee, -EReal.coe_mul, -EReal.coe_neg]; norm_num
theorem lit_half : Ideal.ofBits .f32 0x3F000000#32 = ((1 / 2 : ℝ) : EReal) := by
  simp [Ideal.ofBits, Ideal.ieee, -EReal.coe_mul, -EReal.coe_neg]; norm_num
theorem lit_neg_half : Ideal.ofBits .f32 0xBF000000#32 = ((-(1 / 2) : ℝ) : EReal) := by
  simp [Ideal.ofBits, Ideal.ieee, -EReal.coe_mul, -EReal.coe_neg]; norm_num

end Cert.Rows
end
-- ==== Proof.KVal.lean ====
/- What a grid point's blocks hold when the inputs' blocks hold the tokens' rows: the row functions of `Rows`, token by
   token. The product with the first weight is filled four blocks of columns at a time, and the gradient at the normalised
   residual is summed over the same four blocks. -/
module

public import proofs.«01_k».proof.Proof.Points
public import proofs.«01_k».proof.Proof.Rows
public import Idealize.ShloMosaic.Lib.Pointwise

@[expose] public section

set_option maxRecDepth 16384

noncomputable section

namespace Cert.KernelIdeal.KVal

open Cert.KernelIdeal Cert.KernelIdeal.Gen Cert.KernelIdeal.Tile Idealize.ShloMosaic Cert.Rows

/-- Column `k` of the `g`-th of four blocks. -/
def col (g : Fin 4) (k : Fin 1024) : Fin 4096 := ⟨g.val * 1024 + k.val, by omega⟩

/-- The inputs' blocks hold the tokens' rows `T` and the weights `W`. -/
structure Reads (W : Wts) (T : Fin 256 → Row) (x0 : Vec Ideal S256x1024 .f32) (x1 : Vec Ideal S256x1536 .bf16) (x2 x3 : Vec Ideal S1x1024 .f32) (x4 : Vec Ideal S256x1024 .f32) (wo : Vec Ideal S1536x1024 .bf16) (w1 : Vec Ideal S4x1024x1024 .bf16) (w2 : Vec Ideal S4096x1024 .bf16) : Prop where
  x : ∀ r j, x0 (ix2 r j) = (T r).x j
  y : ∀ r j, x1 (ix2 r j) = (T r).y j
  t : ∀ r j, x4 (ix2 r j) = (T r).t j
  g2 : ∀ (r : Fin 1) j, x2 (ix2 r j) = W.g2 j
  gf : ∀ (r : Fin 1) j, x3 (ix2 r j) = W.gf j
  wo : ∀ k j, wo (ix2 k j) = W.wo k j
  w1 : ∀ g i k, w1 (ix3 g i k) = W.w1 i (col g k)
  w2 : ∀ k j, w2 (ix2 k j) = W.w2 k j

variable {W : Wts} {T : Fin 256 → Row} {x0 : Vec Ideal S256x1024 .f32} {x1 : Vec Ideal S256x1536 .bf16} {x2 x3 : Vec Ideal S1x1024 .f32} {x4 : Vec Ideal S256x1024 .f32} {wo : Vec Ideal S1536x1024 .bf16} {w1 : Vec Ideal S4x1024x1024 .bf16} {w2 : Vec Ideal S4096x1024 .bf16}
variable (H : Reads W T x0 x1 x2 x3 x4 wo w1 w2)
include H

theorem pay7 (r : Fin 256) (j : Fin 1024) : k0_pay7 x0 x1 wo (ix2 r j) = Rows.x2 W (T r) j := by
  unfold k0_pay7
  pointwise
  simp only [H.x, H.y, H.wo]
  rfl

theorem pay8 (r : Fin 256) : k0_pay8 x0 x1 wo (ix2 r 0) = inv (Rows.x2 W (T r)) := by
  unfold k0_pay8
  pointwise
  simp only [pay7 H, lit1024, lit_eps]
  rfl

theorem pay9 (r : Fin 256) (j : Fin 1024) : k0_pay9 x0 x1 wo (ix2 r j) = nrm (Rows.x2 W (T r)) j := by
  unfold k0_pay9
  pointwise
  simp only [pay7 H, pay8 H]
  rfl

theorem pay10 (r : Fin 1) (j : Fin 1024) : k0_pay10 x2 (ix2 r j) = W.g2 j := by
  unfold k0_pay10
  pointwise
  simp only [H.g2]

theorem h (r : Fin 256) (j : Fin 1024) : tH x0 x1 x2 wo (ix2 r j) = h2 W (T r) j := by
  unfold tH k0_pay11
  pointwise
  simp only [pay9 H, pay10 H]
  rfl

theorem sl0_apply (i k : Fin 1024) : sl0 w1 (ix3 0 i k) = W.w1 i (col 0 k) := by
  refine Eq.trans (congrArg w1 ?_) (H.w1 0 i k)
  funext a; fin_cases a <;> exact Fin.ext (by simp [Rect.emb, Rect.unit, ix3])
theorem sl1_apply (i k : Fin 1024) : sl1 w1 (ix3 0 i k) = W.w1 i (col 1 k) := by
  refine Eq.trans (congrArg w1 ?_) (H.w1 1 i k)
  funext a; fin_cases a <;> exact Fin.ext (by simp [Rect.emb, Rect.unit, ix3])
theorem sl2_apply (i k : Fin 1024) : sl2 w1 (ix3 0 i k) = W.w1 i (col 2 k) := by
  refine Eq.trans (congrArg w1 ?_) (H.w1 2 i k)
  funext a; fin_cases a <;> exact Fin.ext (by simp [Rect.emb, Rect.unit, ix3])
theorem sl3_apply (i k : Fin 1024) : sl3 w1 (ix3 0 i k) = W.w1 i (col 3 k) := by
  refine Eq.trans (congrArg w1 ?_) (H.w1 3 i k)
  funext a; fin_cases a <;> exact Fin.ext (by simp [Rect.emb, Rect.unit, ix3])

theorem pay12 (r : Fin 256) (k : Fin 1024) : k0_pay12 x0 x1 wo x2 (sl0 w1) (ix2 r k) = p W (T r) (col 0 k) := by
  have h0 : ∀ r j, k0_pay11 x0 x1 wo x2 (ix2 r j) = _ := h H
  unfold k0_pay12
  pointwise
  simp only [h0, sl0_apply H]
  rfl
theorem pay13 (r : Fin 256) (k : Fin 1024) : k0_pay13 (tH x0 x1 x2 wo) (sl1 w1) (ix2 r k) = p W (T r) (col 1 k) := by
  unfold k0_pay13
  pointwise
  simp only [h H, sl1_apply H]
  rfl
theorem pay14 (r : Fin 256) (k : Fin 1024) : k0_pay14 (tH x0 x1 x2 wo) (sl2 w1) (ix2 r k) = p W (T r) (col 2 k) := by
  unfold k0_pay14
  pointwise
  simp only [h H, sl2_apply H]
  rfl
theorem pay15 (r : Fin 256) (k : Fin 1024) : k0_pay15 (tH x0 x1 x2 wo) (sl3 w1) (ix2 r k) = p W (T r) (col 3 k) := by
  unfold k0_pay15
  pointwise
  simp only [h H, sl3_apply H]
  rfl

theorem tP_apply (r : Fin 256) (k : Fin 4096) : tP x0 x1 x2 wo w1 (ix2 r k) = p W (T r) k := by
  refine View.canon_apply_of_pieces (fun y : S256x4096.Idx => (p W (T (y 0)) (y 1))) _ ?_ (ix2 r k) (View.cover_of_tiledL (tPieces x0 x1 x2 wo w1) S256x1024.size rfl _)
  intro q hq x
  simp only [tPieces, List.mem_cons, List.not_mem_nil, or_false] at hq
  rcases hq with rfl | rfl | rfl | rfl
  · refine (congrArg _ (eq_ix2 x)).trans ((pay15 H (x 0) (x 1)).trans ?_)
    refine congrArg₂ (fun a b => p W (T a) b) (Fin.ext ?_) (Fin.ext ?_)
    · show (x 0).val = 0 + 1 * (x 0).val; omega
    · show 3 * 1024 + (x 1).val = 3072 + 1 * (x 1).val; omega
  · refine (congrArg _ (eq_ix2 x)).trans ((pay14 H (x 0) (x 1)).trans ?_)
    refine congrArg₂ (fun a b => p W (T a) b) (Fin.ext ?_) (Fin.ext ?_)
    · show (x 0).val = 0 + 1 * (x 0).val; omega
    · show 2 * 1024 + (x 1).val = 2048 + 1 * (x 1).val; omega
  · refine (congrArg _ (eq_ix2 x)).trans ((pay13 H (x 0) (x 1)).trans ?_)
    refine congrArg₂ (fun a b => p W (T a) b) (Fin.ext ?_) (Fin.ext ?_)
    · show (x 0).val = 0 + 1 * (x 0).val; omega
    · show 1 * 1024 + (x 1).val = 1024 + 1 * (x 1).val; omega
  · refine (congrArg _ (eq_ix2 x)).trans ((pay12 H (x 0) (x 1)).trans ?_)
    refine congrArg₂ (fun a b => p W (T a) b) (Fin.ext ?_) (Fin.ext ?_)
    · show (x 0).val = 0 + 1 * (x 0).val; omega
    · show 0 * 1024 + (x 1).val = 0 + 1 * (x 1).val; omega

theorem pay16 (r : Fin 256) (k : Fin 4096) : k0_pay16 (tP x0 x1 x2 wo w1) (ix2 r k) = max (p W (T r) k) 0 := by
  unfold k0_pay16
  pointwise
  simp only [tP_apply H]

theorem z_apply (r : Fin 256) (k : Fin 4096) : oZ x0 x1 x2 wo w1 (ix2 r k) = z W (T r) k := by
  unfold oZ k0_pay17
  pointwise
  simp only [pay16 H]
  rfl

theorem x3_apply (r : Fin 256) (j : Fin 1024) : tX3 x0 x1 x2 wo w1 w2 (ix2 r j) = Rows.x3 W (T r) j := by
  have hz : ∀ r k, k0_pay17 (tP x0 x1 x2 wo w1) (ix2 r k) = _ := z_apply H
  unfold tX3 k0_pay18
  pointwise
  simp only [hz, pay7 H, H.w2]
  rfl

theorem s3_apply (r : Fin 256) : tS3 x0 x1 x2 wo w1 w2 (ix2 r 0) = ∑ j, Rows.x3 W (T r) j * Rows.x3 W (T r) j := by
  have hx : ∀ r j, k0_pay18 (k0_pay7 x0 x1 wo) (tP x0 x1 x2 wo w1) w2 (ix2 r j) = _ := x3_apply H
  unfold tS3 k0_pay19
  pointwise
  simp only [hx]

theorem r3_apply (r : Fin 256) : tR3 x0 x1 x2 wo w1 w2 (ix2 r 0) = inv (Rows.x3 W (T r)) := by
  unfold tR3 k0_pay21 k0_pay20
  pointwise
  simp only [s3_apply H, lit1024, lit_eps]
  rfl

theorem xh3_apply (r : Fin 256) (j : Fin 1024) : tXh3 x0 x1 x2 wo w1 w2 (ix2 r j) = nrm (Rows.x3 W (T r)) j := by
  have hr : ∀ r, k0_pay21 (tS3 x0 x1 x2 wo w1 w2) k0_pay20 (ix2 r 0) = _ := r3_apply H
  unfold tXh3 k0_pay22
  pointwise
  simp only [hr, x3_apply H]
  rfl

theorem pay23 (r : Fin 1) (j : Fin 1024) : k0_pay23 x3 (ix2 r j) = W.gf j := by
  unfold k0_pay23
  pointwise
  simp only [H.gf]

theorem pay24 (r : Fin 256) (j : Fin 1024) : k0_pay24 (tX3 x0 x1 x2 wo w1 w2) (tS3 x0 x1 x2 wo w1 w2) k0_pay20 x3 x4 (ix2 r j) = err W (T r) j := by
  have hr : ∀ r j, k0_pay22 (tX3 x0 x1 x2 wo w1 w2) (tS3 x0 x1 x2 wo w1 w2) k0_pay20 (ix2 r j) = _ := xh3_apply H
  unfold k0_pay24
  pointwise
  simp only [hr, pay23 H, H.t]
  rfl

theorem pay25 (r : Fin 256) (j : Fin 1024) : k0_pay25 (tX3 x0 x1 x2 wo w1 w2) (tS3 x0 x1 x2 wo w1 w2) k0_pay20 x3 x4 (ix2 r j) = dout W (T r) j := by
  unfold k0_pay25
  pointwise
  simp only [pay24 H, lit_inv1024]
  rfl

theorem d_apply (r : Fin 256) (j : Fin 1024) : tD x0 x1 x2 x3 x4 wo w1 w2 (ix2 r j) = dxh3 W (T r) j := by
  unfold tD k0_pay28
  pointwise
  simp only [pay25 H, pay23 H]
  rfl

theorem e_apply (r : Fin 256) : tE x0 x1 x2 x3 x4 wo w1 w2 (ix2 r 0) = ∑ j, dxh3 W (T r) j * nrm (Rows.x3 W (T r)) j := by
  have hr : ∀ r j, k0_pay22 (tX3 x0 x1 x2 wo w1 w2) (tS3 x0 x1 x2 wo w1 w2) k0_pay20 (ix2 r j) = _ := xh3_apply H
  have hd : ∀ r j, k0_pay28 (tX3 x0 x1 x2 wo w1 w2) (tS3 x0 x1 x2 wo w1 w2) k0_pay20 x3 x4 (ix2 r j) = _ := d_apply H
  unfold tE k0_pay29
  pointwise
  simp only [hr, hd]

theorem dx3_apply (r : Fin 256) (j : Fin 1024) : tDx3 x0 x1 x2 x3 x4 wo w1 w2 (ix2 r j) = dx3 W (T r) j := by
  unfold tDx3 k0_pay30
  pointwise
  simp only [r3_apply H, xh3_apply H, d_apply H, e_apply H, lit1024]
  rfl

theorem dx3b_apply (r : Fin 256) (j : Fin 1024) : oDx3b x0 x1 x2 x3 x4 wo w1 w2 (ix2 r j) = dx3 W (T r) j := by
  have hd : ∀ r j, k0_pay30 (tR3 x0 x1 x2 wo w1 w2) (tXh3 x0 x1 x2 wo w1 w2) (tD x0 x1 x2 x3 x4 wo w1 w2) (tE x0 x1 x2 x3 x4 wo w1 w2) (ix2 r j) = _ := dx3_apply H
  unfold oDx3b k0_pay31
  pointwise
  simp only [hd]

theorem dp_apply (r : Fin 256) (k : Fin 4096) : oDp x0 x1 x2 x3 x4 wo w1 w2 (ix2 r k) = dp W (T r) k := by
  have hd : ∀ r j, k0_pay31 (tR3 x0 x1 x2 wo w1 w2) (tXh3 x0 x1 x2 wo w1 w2) (tD x0 x1 x2 x3 x4 wo w1 w2) (tE x0 x1 x2 x3 x4 wo w1 w2) (ix2 r j) = _ := dx3b_apply H
  unfold oDp k0_pay32
  pointwise
  simp only [hd, pay16 H, H.w2, lit2]
  rfl

theorem g_apply (r : Fin 256) (i : Fin 1024) : tG x0 x1 x2 x3 x4 wo w1 w2 (ix2 r i) = ∑ k, dp W (T r) (col 0 k) * W.w1 i (col 0 k) + ∑ k, dp W (T r) (col 1 k) * W.w1 i (col 1 k) + ∑ k, dp W (T r) (col 2 k) * W.w1 i (col 2 k) := by
  have hd : ∀ r k, k0_pay32 (k0_pay16 (tP x0 x1 x2 wo w1)) (tR3 x0 x1 x2 wo w1 w2) (tXh3 x0 x1 x2 wo w1 w2) (tD x0 x1 x2 x3 x4 wo w1 w2) (tE x0 x1 x2 x3 x4 wo w1 w2) w2 (ix2 r k) = _ := dp_apply H
  unfold tG k0_pay33
  pointwise
  simp only [hd, sl0_apply H, sl1_apply H, sl2_apply H]
  refine congrArg₂ (· + ·) (congrArg₂ (· + ·) ?_ rfl) rfl
  refine Finset.sum_congr rfl fun k _ => congrArg₂ (· * ·) (congrArg _ (Fin.ext ?_)) rfl
  show k.val = 0 * 1024 + k.val
  omega

theorem l_apply (r : Fin 256) (k : Fin 1024) : tL x0 x1 x2 x3 x4 wo w1 w2 (ix2 r k) = dp W (T r) (col 3 k) := by
  have hd : ∀ r k, k0_pay32 (k0_pay16 (tP x0 x1 x2 wo w1)) (tR3 x0 x1 x2 wo w1 w2) (tXh3 x0 x1 x2 wo w1 w2) (tD x0 x1 x2 x3 x4 wo w1 w2) (tE x0 x1 x2 x3 x4 wo w1 w2) w2 (ix2 r k) = _ := dp_apply H
  unfold tL k0_pay34
  pointwise
  simp only [hd]
  rfl

theorem pay35 (i k : Fin 1024) : k0_pay35 (sl3 w1) (ix2 i k) = W.w1 i (col 3 k) := by
  unfold k0_pay35
  pointwise
  simp only [sl3_apply H]

omit H in
/-- A sum over the columns is the sum of the four blocks' sums. -/
theorem sum_col (f : Fin 4096 → EReal) : ∑ k, f k = ∑ k, f (col 0 k) + ∑ k, f (col 1 k) + ∑ k, f (col 2 k) + ∑ k, f (col 3 k) := by
  have e : ∑ k, f k = ∑ q : Fin 4 × Fin 1024, f (col q.1 q.2) := by
    refine (Fintype.sum_equiv (finProdFinEquiv (m := 4) (n := 1024)) _ _ fun q => congrArg f (Fin.ext ?_)).symm
    show q.1.val * 1024 + q.2.val = q.2.val + 1024 * q.1.val
    omega
  rw [e, Fintype.sum_prod_type, Fin.sum_univ_four]

theorem dh2_apply (r : Fin 256) (i : Fin 1024) : k0_pay1 (tG x0 x1 x2 x3 x4 wo w1 w2) (tL x0 x1 x2 x3 x4 wo w1 w2) (k0_pay35 (sl3 w1)) t0 (ix2 r i) = dh2 W (T r) i := by
  unfold k0_pay1 t0
  pointwise
  simp only [g_apply H, l_apply H, pay35 H]
  rw [Rows.dh2, sum_col]

theorem dx2_apply (r : Fin 256) (j : Fin 1024) : oDx2 x0 x1 x2 x3 x4 wo w1 w2 (ix2 r j) = dx2 W (T r) j := by
  unfold oDx2 k0_pay3
  pointwise
  simp only [pay8 H, pay9 H, pay10 H, dh2_apply H, dx3_apply H, lit1024]
  rfl

theorem dx2b_apply (r : Fin 256) (j : Fin 1024) : oDx2b x0 x1 x2 x3 x4 wo w1 w2 (ix2 r j) = dx2 W (T r) j := by
  have hd : ∀ r j, k0_pay3 (k0_pay8 x0 x1 wo) (k0_pay9 x0 x1 wo) (k0_pay10 x2) (tDx3 x0 x1 x2 x3 x4 wo w1 w2) (tG x0 x1 x2 x3 x4 wo w1 w2) (tL x0 x1 x2 x3 x4 wo w1 w2) (k0_pay35 (sl3 w1)) t0 (ix2 r j) = _ := dx2_apply H
  unfold oDx2b k0_pay4
  pointwise
  simp only [hd]

theorem dy_apply (r : Fin 256) (k : Fin 1536) : oDy x0 x1 x2 x3 x4 wo w1 w2 (ix2 r k) = dy W (T r) k := by
  have hd : ∀ r j, k0_pay4 (k0_pay8 x0 x1 wo) (k0_pay9 x0 x1 wo) (k0_pay10 x2) (tDx3 x0 x1 x2 x3 x4 wo w1 w2) (tG x0 x1 x2 x3 x4 wo w1 w2) (tL x0 x1 x2 x3 x4 wo w1 w2) (k0_pay35 (sl3 w1)) t0 (ix2 r j) = _ := dx2b_apply H
  unfold oDy k0_pay5
  pointwise
  simp only [hd, H.wo]
  rfl

/-- The three rows of sums: what a point adds to each. -/
theorem pay26 (a : Vec Ideal S1x1024 .f32) (r : Fin 1) (j : Fin 1024) : k0_pay26 (tX3 x0 x1 x2 wo w1 w2) (tS3 x0 x1 x2 wo w1 w2) k0_pay20 x3 x4 a (ix2 r j) = a (ix2 r j) + (∑ i, dgf W (T i) j) := by
  have hr : ∀ r j, k0_pay22 (tX3 x0 x1 x2 wo w1 w2) (tS3 x0 x1 x2 wo w1 w2) k0_pay20 (ix2 r j) = _ := xh3_apply H
  unfold k0_pay26
  pointwise
  simp only [hr, pay25 H]
  rfl

theorem pay2 (a : Vec Ideal S1x1024 .f32) (r : Fin 1) (j : Fin 1024) : k0_pay2 (k0_pay9 x0 x1 wo) (tG x0 x1 x2 x3 x4 wo w1 w2) (tL x0 x1 x2 x3 x4 wo w1 w2) (k0_pay35 (sl3 w1)) t0 a (ix2 r j) = a (ix2 r j) + (∑ i, dg2 W (T i) j) := by
  unfold k0_pay2
  pointwise
  simp only [dh2_apply H, pay9 H]
  rfl

theorem pay27 (a : Vec Ideal S1x1024 .f32) (r : Fin 1) (j : Fin 1024) : k0_pay27 (tX3 x0 x1 x2 wo w1 w2) (tS3 x0 x1 x2 wo w1 w2) k0_pay20 x3 x4 a (ix2 r j) = a (ix2 r j) + (∑ i, loss W (T i)) := by
  unfold k0_pay27
  pointwise
  simp only [pay24 H, lit_inv2048]
  refine congrArg _ ?_
  rw [mul_sum_real (by norm_num)]
  rfl

omit H in
theorem overlay_ne {X : Vec Ideal S8x1024 .f32} {a : ℕ} (ia) (w : (Rect.unit (s := S8x1024) ![a, 0] ![1, 1024] ia).shape.Idx → EReal) (r : Fin 8) (j : Fin 1024) (h : r.val ≠ a) :
    (Rect.unit (s := S8x1024) ![a, 0] ![1, 1024] ia).overlay X w (ix2 r j) = X (ix2 r j) := by
  refine Rect.overlay_of_not_mem _ _ _ fun hm => h ?_
  obtain ⟨y, hy⟩ := LoadRect.exists_idx_of_mem _ hm
  have h0 : a + 1 * (y 0).val = r.val := congrArg Fin.val (congrFun hy 0)
  have hy' : (y 0).val < 1 := (y 0).isLt
  omega

omit H in
theorem emb_row {a : ℕ} (ia) (r : Fin 8) (j : Fin 1024) (h : r.val = a) :
    (Rect.unit (s := S8x1024) ![a, 0] ![1, 1024] ia).emb (ix2 (0 : Fin 1) j) = ix2 r j := by
  funext b; apply Fin.ext
  match b with
  | ⟨0, _⟩ => show a + 1 * 0 = r.val; omega
  | ⟨1, _⟩ => show 0 + 1 * j.val = j.val; omega

omit H in
theorem overlay_eq {X : Vec Ideal S8x1024 .f32} {a : ℕ} (ia) (w : (Rect.unit (s := S8x1024) ![a, 0] ![1, 1024] ia).shape.Idx → EReal) (r : Fin 8) (j : Fin 1024) (h : r.val = a) :
    (Rect.unit (s := S8x1024) ![a, 0] ![1, 1024] ia).overlay X w (ix2 r j) = w (ix2 (0 : Fin 1) j) := by
  rw [← emb_row ia r j h]
  exact Rect.overlay_emb _ _ _ _

omit H in
theorem ld_row {X : Vec Ideal S8x1024 .f32} {a : ℕ} (ia) (r : Fin 8) (j : Fin 1024) (h : r.val = a) :
    View.ld X (Rect.unit (s := S8x1024) ![a, 0] ![1, 1024] ia) (ix2 (0 : Fin 1) j) = X (ix2 r j) :=
  congrArg X (emb_row ia r j h)

/-- A point adds its tokens' sums to the rows of sums. -/
theorem st_apply (acc : Vec Ideal S8x1024 .f32) (A : Fin 8 → Fin 1024 → EReal) (hA : ∀ r j, acc (ix2 r j) = A r j) (r : Fin 8) (j : Fin 1024) :
    oSt x0 x1 x2 x3 x4 wo w1 w2 acc (ix2 r j) = A r j + sums W T r j := by
  unfold oSt row0 row1 row2 sums
  by_cases h1 : r = 1
  · rw [overlay_eq _ _ _ _ (by rw [h1]; rfl), if_neg (by rw [h1]; decide), if_pos h1]
    refine (pay2 H _ 0 j).trans ?_
    rw [ld_row _ r j (by rw [h1]; rfl), hA]
  rw [overlay_ne (a := 1) _ _ _ _ (fun h => h1 (Fin.ext h))]
  by_cases h2 : r = 2
  · rw [overlay_eq _ _ _ _ (by rw [h2]; rfl), if_neg (by rw [h2]; decide), if_neg h1, if_pos h2]
    refine (pay27 H _ 0 j).trans ?_
    rw [ld_row _ r j (by rw [h2]; rfl), hA]
  rw [overlay_ne (a := 2) _ _ _ _ (fun h => h2 (Fin.ext h))]
  by_cases h0 : r = 0
  · rw [overlay_eq _ _ _ _ (by rw [h0]; rfl), if_pos h0]
    refine (pay26 H _ 0 j).trans ?_
    rw [ld_row _ r j (by rw [h0]; rfl), hA]
  rw [overlay_ne (a := 0) _ _ _ _ (fun h => h0 (Fin.ext h)), if_neg h0, if_neg h1, if_neg h2, add_zero, hA]

end Cert.KernelIdeal.KVal
end
-- ==== Proof.KRun.lean ====
/- The kernel's run: the arrays at the region's entry hold the tokens' rows and the weights, so each
   result's array holds the row functions of `Rows`, and the rows of sums hold the sums over all the tokens. -/
module

public import proofs.«01_k».proof.Proof.KVal
public import Idealize.ShloMosaic.Lib.StableHlo.ReadAt

@[expose] public section

set_option maxRecDepth 16384

noncomputable section

namespace Cert.KernelIdeal.KRun

open Cert.KernelIdeal Cert.KernelIdeal.Gen Cert.KernelIdeal.Tile Cert.KernelIdeal.Points Cert.KernelIdeal.KVal Idealize.ShloMosaic Idealize.ShloMosaic.TcCoe Idealize.SL.Sem Cert.Rows

variable (m : (ℓ : Loc nD τ sig) → Buf (Elt Ideal) ℓ) (ρ : Dev nD → PrngReg)

/-- The launch memory's weights on a device. -/
def weights (c : Dev nD) : Wts where
  wo k j := (m ((c : Thread nD τ).loc main_arg2) : Vec Ideal S1536x1024 .f32) (ix2 k j)
  g2 j := (m ((c : Thread nD τ).loc main_arg3) : Vec Ideal S1024 .f32) (ix1 j)
  w1 i k := (m ((c : Thread nD τ).loc main_arg4) : Vec Ideal S1024x4096 .f32) (ix2 i k)
  w2 k j := (m ((c : Thread nD τ).loc main_arg5) : Vec Ideal S4096x1024 .f32) (ix2 k j)
  gf j := (m ((c : Thread nD τ).loc main_arg6) : Vec Ideal S1024 .f32) (ix1 j)

/-- The launch memory's tokens on a device. -/
def tokens (c : Dev nD) (i : Fin 4096) : Row where
  x j := (m ((c : Thread nD τ).loc main_arg0) : Vec Ideal S4096x1024 .f32) (ix2 i j)
  y j := (m ((c : Thread nD τ).loc main_arg1) : Vec Ideal S4096x1536 .f32) (ix2 i j)
  t j := (m ((c : Thread nD τ).loc main_arg7) : Vec Ideal S4096x1024 .f32) (ix2 i j)

/-- The launch memory's arguments hold the tokens' rows `T` and the weights `W`. -/
structure Launched (c : Dev nD) (W : Wts) (T : Fin 4096 → Row) : Prop where
  x : ∀ i j, (m ((c : Thread nD τ).loc main_arg0) : Vec Ideal S4096x1024 .f32) (ix2 i j) = (T i).x j
  y : ∀ i j, (m ((c : Thread nD τ).loc main_arg1) : Vec Ideal S4096x1536 .f32) (ix2 i j) = (T i).y j
  wo : ∀ k j, (m ((c : Thread nD τ).loc main_arg2) : Vec Ideal S1536x1024 .f32) (ix2 k j) = W.wo k j
  g2 : ∀ j, (m ((c : Thread nD τ).loc main_arg3) : Vec Ideal S1024 .f32) (ix1 j) = W.g2 j
  w1 : ∀ i k, (m ((c : Thread nD τ).loc main_arg4) : Vec Ideal S1024x4096 .f32) (ix2 i k) = W.w1 i k
  w2 : ∀ k j, (m ((c : Thread nD τ).loc main_arg5) : Vec Ideal S4096x1024 .f32) (ix2 k j) = W.w2 k j
  gf : ∀ j, (m ((c : Thread nD τ).loc main_arg6) : Vec Ideal S1024 .f32) (ix1 j) = W.gf j
  t : ∀ i j, (m ((c : Thread nD τ).loc main_arg7) : Vec Ideal S4096x1024 .f32) (ix2 i j) = (T i).t j

theorem launched (c : Dev nD) : Launched m c (weights m c) (tokens m c) :=
  ⟨fun _ _ => rfl, fun _ _ => rfl, fun _ _ => rfl, fun _ => rfl, fun _ _ => rfl, fun _ _ => rfl, fun _ => rfl, fun _ _ => rfl⟩

theorem V_v3 (c : Dev nD) (i : Fin 4096) (j : Fin 1536) : (V m c main_v3 : Vec Ideal S4096x1536 .bf16) (ix2 i j) = (m ((c : Thread nD τ).loc main_arg1) : Vec Ideal S4096x1536 .f32) (ix2 i j) := by
  unfold V
  after_reads_at
theorem V_v4 (c : Dev nD) (k : Fin 1536) (j : Fin 1024) : (V m c main_v4 : Vec Ideal S1536x1024 .bf16) (ix2 k j) = (m ((c : Thread nD τ).loc main_arg2) : Vec Ideal S1536x1024 .f32) (ix2 k j) := by
  unfold V
  after_reads_at
theorem V_v5 (c : Dev nD) (k : Fin 4096) (j : Fin 1024) : (V m c main_v5 : Vec Ideal S4096x1024 .bf16) (ix2 k j) = (m ((c : Thread nD τ).loc main_arg5) : Vec Ideal S4096x1024 .f32) (ix2 k j) := by
  unfold V
  after_reads_at
theorem V_v6 (c : Dev nD) (r : Fin 1) (j : Fin 1024) : (V m c main_v6 : Vec Ideal S1x1024 .f32) (ix2 r j) = (m ((c : Thread nD τ).loc main_arg3) : Vec Ideal S1024 .f32) (ix1 j) := by
  unfold V
  after_reads_at
theorem V_v7 (c : Dev nD) (r : Fin 1) (j : Fin 1024) : (V m c main_v7 : Vec Ideal S1x1024 .f32) (ix2 r j) = (m ((c : Thread nD τ).loc main_arg6) : Vec Ideal S1024 .f32) (ix1 j) := by
  unfold V
  after_reads_at
theorem V_v2 (c : Dev nD) (g : Fin 4) (i k : Fin 1024) : (V m c main_v2 : Vec Ideal S4x1024x1024 .bf16) (ix3 g i k) = (m ((c : Thread nD τ).loc main_arg4) : Vec Ideal S1024x4096 .f32) (ix2 i (col g k)) := by
  unfold V
  after_reads_at
  rfl

variable {c : Dev nD} {W : Wts} {T : Fin 4096 → Row} (L : Launched m c W T)
include L

/-- What each grid point reads. -/
theorem reads (t : Fin cfg0.N) : Reads W (fun r => T (tok t r)) (bx m c t) (by' m c t) (bg2 m c t) (bgf m c t) (btg m c t) (awo m c) (aw1 m c) (aw2 m c) where
  x r j := (bx_apply m c t r j).trans ((congrFun (V_main_arg0 m c) _).trans (L.x _ j))
  y r j := (by'_apply m c t r j).trans ((V_v3 m c _ j).trans (L.y _ j))
  t r j := (btg_apply m c t r j).trans ((congrFun (V_main_arg7 m c) _).trans (L.t _ j))
  g2 r j := (bg2_apply m c t r j).trans ((V_v6 m c r j).trans (L.g2 j))
  gf r j := (bgf_apply m c t r j).trans ((V_v7 m c r j).trans (L.gf j))
  wo k j := (V_v4 m c k j).trans (L.wo k j)
  w1 g i k := (V_v2 m c g i k).trans (L.w1 i (col g k))
  w2 k j := (V_v5 m c k j).trans (L.w2 k j)

omit L in
/-- The sums of point `t`'s tokens (zero beyond the grid). -/
def part (W : Wts) (T : Fin 4096 → Row) (r : Fin 8) (j : Fin 1024) (t : ℕ) : EReal :=
  if h : t < cfg0.N then sums W (fun q => T (tok ⟨t, h⟩ q)) r j else 0

theorem st_sum : ∀ (n : ℕ) (hn : n < cfg0.N) (r : Fin 8) (j : Fin 1024),
    stN m c n hn (ix2 r j) = ∑ t ∈ Finset.range (n + 1), part W T r j t
  | 0, hn, r, j => by
    rw [stN, st_apply (reads m L ⟨0, hn⟩) _ (fun _ _ => 0) (fun r j => by unfold k0_pay6; pointwise), Finset.sum_range_one, part, dif_pos hn, zero_add]
  | n + 1, hn, r, j => by
    rw [stN, st_apply (reads m L ⟨n + 1, hn⟩) _ _ (st_sum n (Nat.lt_of_succ_lt hn)), Finset.sum_range_succ _ (n + 1), part, dif_pos hn]

omit L in
/-- A sum over the tokens is the sum over the points of the sums over their blocks. -/
theorem sum_tok (f : Fin 4096 → EReal) : ∑ i, f i = ∑ t : Fin cfg0.N, ∑ r : Fin 256, f (tok t r) := by
  have e : ∑ i, f i = ∑ q : Fin cfg0.N × Fin 256, f (tok q.1 q.2) := by
    refine (Fintype.sum_equiv ((finProdFinEquiv (m := cfg0.N) (n := 256)).trans (finCongr (by rw [show cfg0.N = 16 from N_0]))) _ _ fun q => congrArg f (Fin.ext ?_)).symm
    show q.1.val * 256 + q.2.val = q.2.val + 256 * q.1.val
    omega
  rw [e, Fintype.sum_prod_type]

omit L in
theorem part_sum (r : Fin 8) (j : Fin 1024) : ∑ t ∈ Finset.range 16, part W T r j t = sums W T r j := by
  have e : ∑ t ∈ Finset.range 16, part W T r j t = ∑ t : Fin cfg0.N, sums W (fun q => T (tok t q)) r j := by
    rw [← show cfg0.N = 16 from N_0, Finset.sum_range]
    exact Finset.sum_congr rfl fun t _ => dif_pos t.isLt
  rw [e]
  unfold sums
  by_cases h0 : r = 0
  · simp only [if_pos h0]; exact (sum_tok fun i => dgf W (T i) j).symm
  by_cases h1 : r = 1
  · simp only [if_neg h0, if_pos h1]; exact (sum_tok fun i => dg2 W (T i) j).symm
  by_cases h2 : r = 2
  · simp only [if_neg h0, if_neg h1, if_pos h2]; exact (sum_tok fun i => loss W (T i)).symm
  simp only [if_neg h0, if_neg h1, if_neg h2, Finset.sum_const_zero]

/-- The eight results. -/
theorem arrZ : (dats m 0 c).arrAt 5 cfg0.N = fun i : S4096x4096.Idx => (z W (T (i 0)) (i 1)) :=
  arr5 m c _ fun t r j => z_apply (reads m L t) r j
theorem arrDp : (dats m 0 c).arrAt 6 cfg0.N = fun i : S4096x4096.Idx => (dp W (T (i 0)) (i 1)) :=
  arr6 m c _ fun t r j => dp_apply (reads m L t) r j
theorem arrH : (dats m 0 c).arrAt 7 cfg0.N = fun i : S4096x1024.Idx => (h2 W (T (i 0)) (i 1)) :=
  arr7 m c _ fun t r j => h (reads m L t) r j
theorem arrDx3 : (dats m 0 c).arrAt 8 cfg0.N = fun i : S4096x1024.Idx => (dx3 W (T (i 0)) (i 1)) :=
  arr8 m c _ fun t r j => dx3b_apply (reads m L t) r j
theorem arrDx2 : (dats m 0 c).arrAt 9 cfg0.N = fun i : S4096x1024.Idx => (dx2 W (T (i 0)) (i 1)) :=
  arr9 m c _ fun t r j => dx2_apply (reads m L t) r j
theorem arrDx2b : (dats m 0 c).arrAt 10 cfg0.N = fun i : S4096x1024.Idx => (dx2 W (T (i 0)) (i 1)) :=
  arr10 m c _ fun t r j => dx2b_apply (reads m L t) r j
theorem arrDy : (dats m 0 c).arrAt 11 cfg0.N = fun i : S4096x1536.Idx => (dy W (T (i 0)) (i 1)) :=
  arr11 m c _ fun t r j => dy_apply (reads m L t) r j
theorem arrSt : (dats m 0 c).arrAt 12 cfg0.N = fun i : S8x1024.Idx => (sums W T (i 0) (i 1)) :=
  arr12 m c _ fun r j => (st_sum m L 15 tl.isLt r j).trans (part_sum r j)

omit L in
/-- The whole run on launch memories whose arguments hold `T c` and `W c`: the results' arrays, and the arguments kept. -/
theorem run (W : Dev nD → Wts) (T : Dev nD → Fin 4096 → Row) (L : ∀ c, Launched m c (W c) (T c)) :
    θ_run defs (onTc (τ := τ) (main (F := Ideal))) ⟨m, fun _ => 0, ρ⟩ fun r => ∀ c : Dev nD,
      r.2.mem ((c : Thread nD τ).loc main_v8_4) = (fun i : S4096x1024.Idx => (dx2 (W c) (T c (i 0)) (i 1)))
      ∧ r.2.mem ((c : Thread nD τ).loc main_v8_6) = (fun i : S4096x1536.Idx => (dy (W c) (T c (i 0)) (i 1)))
      ∧ r.2.mem ((c : Thread nD τ).loc main_v8_7) = (fun i : S8x1024.Idx => (sums (W c) (T c) (i 0) (i 1)))
      ∧ r.2.mem ((c : Thread nD τ).loc main_v8_2) = (fun i : S4096x1024.Idx => (h2 (W c) (T c (i 0)) (i 1)))
      ∧ r.2.mem ((c : Thread nD τ).loc main_v8_0) = (fun i : S4096x4096.Idx => (z (W c) (T c (i 0)) (i 1)))
      ∧ r.2.mem ((c : Thread nD τ).loc main_v8_1) = (fun i : S4096x4096.Idx => (dp (W c) (T c (i 0)) (i 1)))
      ∧ r.2.mem ((c : Thread nD τ).loc main_v8_3) = (fun i : S4096x1024.Idx => (dx3 (W c) (T c (i 0)) (i 1)))
      ∧ r.2.mem ((c : Thread nD τ).loc main_v8_5) = (fun i : S4096x1024.Idx => (dx2 (W c) (T c (i 0)) (i 1)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c =>
    ⟨((h c).1 9).trans (arrDx2 m (L c)), ((h c).1 11).trans (arrDy m (L c)), ((h c).1 12).trans (arrSt m (L c)), ((h c).1 7).trans (arrH m (L c)),
     ((h c).1 5).trans (arrZ m (L c)), ((h c).1 6).trans (arrDp m (L c)), ((h c).1 8).trans (arrDx3 m (L c)), ((h c).1 10).trans (arrDx2b m (L c)),
     ((h c).1 0).trans (((dats m 0 c).arrAt_in 0 rfl _).trans ((A_eq m c 0).trans (V_main_arg0 m c))),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c),
     ((h c).2 main_arg6 (Pipeline.mem_restRefs_of main_arg6 (by decide) (by decide))).trans (V_main_arg6 m c),
     ((h c).1 4).trans (((dats m 0 c).arrAt_in 4 rfl _).trans ((A_eq m c 4).trans (V_main_arg7 m c)))⟩) (run_main m ρ)

end Cert.KernelIdeal.KRun
end
-- ==== Proof.RVal.lean ====
/- What the reference's arrays hold: the row functions of `Rows`, token by token. Its backward lines are
   the transposes of the forward ones, so a norm's cotangent comes as two equal halves over the cube of the root mean
   square, and the square's as a choice by the sign: both are shown equal to the row functions. -/
module

public import proofs.«01_k».proof.Proof.Gen.ReferenceIdeal.Read
public import proofs.«01_k».proof.Proof.Rows
public import Idealize.ShloMosaic.Lib.Pointwise

@[expose] public section

set_option maxRecDepth 16384

noncomputable section

namespace Cert.ReferenceIdeal.RVal

open Cert.ReferenceIdeal Cert.ReferenceIdeal.Gen Cert.ReferenceIdeal.Read Idealize.ShloMosaic Idealize.ShloMosaic.TcCoe Idealize.SL.Sem Idealize.ShloMosaic.StableHlo Cert.Rows

/-- The arguments hold the tokens' rows `T` and the weights `W`. -/
structure Args (W : Wts) (T : Fin 4096 → Row) (x0 : Vec Ideal S4096x1024 .f32) (x1 : Vec Ideal S4096x1536 .f32) (x2 : Vec Ideal S1536x1024 .f32) (x3 : Vec Ideal S1024 .f32) (x4 : Vec Ideal S1024x4096 .f32) (x5 : Vec Ideal S4096x1024 .f32) (x6 : Vec Ideal S1024 .f32) (x7 : Vec Ideal S4096x1024 .f32) : Prop where
  x : ∀ i j, x0 (ix2 i j) = (T i).x j
  y : ∀ i j, x1 (ix2 i j) = (T i).y j
  wo : ∀ k j, x2 (ix2 k j) = W.wo k j
  g2 : ∀ j, x3 (ix1 j) = W.g2 j
  w1 : ∀ i k, x4 (ix2 i k) = W.w1 i k
  w2 : ∀ k j, x5 (ix2 k j) = W.w2 k j
  gf : ∀ j, x6 (ix1 j) = W.gf j
  t : ∀ i j, x7 (ix2 i j) = (T i).t j

variable {W : Wts} {T : Fin 4096 → Row} {x0 : Vec Ideal S4096x1024 .f32} {x1 : Vec Ideal S4096x1536 .f32} {x2 : Vec Ideal S1536x1024 .f32} {x3 : Vec Ideal S1024 .f32} {x4 : Vec Ideal S1024x4096 .f32} {x5 : Vec Ideal S4096x1024 .f32} {x6 : Vec Ideal S1024 .f32} {x7 : Vec Ideal S4096x1024 .f32}
variable (H : Args W T x0 x1 x2 x3 x4 x5 x6 x7)
include H

theorem v3 (i : Fin 4096) (j : Fin 1024) : val_main_v3 (F := Ideal) x0 x1 x2 (ix2 i j) = Rows.x2 W (T i) j := by
  unfold val_main_v3 val_main_v2
  pointwise
  simp only [H.x, H.y, H.wo]
  rfl

theorem v10 (i : Fin 4096) : val_main_v10 (F := Ideal) x0 x1 x2 (ix2 i 0) = ms (Rows.x2 W (T i)) := by
  unfold val_main_v10 val_main_v9 val_main_v8 val_main_v7 val_main_v6 val_main_v5 val_main_v4 val_main_cst_1 val_main_cst_2 val_main_cst_3
  pointwise
  simp only [v3 H, lit1024, lit_eps]
  rfl

theorem v11 (i : Fin 4096) : val_main_v11 (F := Ideal) x0 x1 x2 (ix2 i 0) = inv (Rows.x2 W (T i)) := by
  unfold val_main_v11
  pointwise
  simp only [v10 H]
  rfl

theorem v14 (i : Fin 4096) : val_main_v14 (F := Ideal) x0 x1 x2 (ix2 i 0) = ((-(1 / 2) : ℝ) : EReal) * Ideal.div (inv (Rows.x2 W (T i))) (ms (Rows.x2 W (T i))) := by
  unfold val_main_v14 val_main_v13 val_main_v12 val_main_cst_4
  pointwise
  simp only [v10 H, v11 H, lit_neg_half]

theorem v16 (i : Fin 4096) (j : Fin 1024) : val_main_v16 (F := Ideal) x0 x1 x2 (ix2 i j) = nrm (Rows.x2 W (T i)) j := by
  unfold val_main_v16 val_main_v15
  pointwise
  simp only [v3 H, v11 H]
  rfl

theorem v19 (i : Fin 4096) (j : Fin 1024) : val_main_v19 (F := Ideal) x0 x1 x2 x3 (ix2 i j) = h2 W (T i) j := by
  unfold val_main_v19 val_main_v18 val_main_v17
  pointwise
  simp only [v16 H, H.g2]
  rfl

theorem v21 (i : Fin 4096) (k : Fin 4096) : val_main_v21 (F := Ideal) x0 x1 x2 x3 x4 (ix2 i k) = p W (T i) k := by
  unfold val_main_v21 val_main_v20 val_main_v0 val_main_cst
  pointwise
  simp only [v19 H, H.w1]
  rfl

theorem v22 (i : Fin 4096) (k : Fin 4096) : val_main_v22 (F := Ideal) x0 x1 x2 x3 x4 (ix2 i k) = max (p W (T i) k) 0 := by
  unfold val_main_v22 val_main_call0_v0 val_main_call0_cst
  pointwise
  simp only [v21 H]

theorem v26 (i : Fin 4096) (k : Fin 4096) : val_main_v26 (F := Ideal) x0 x1 x2 x3 x4 (ix2 i k) = z W (T i) k := by
  unfold val_main_v26
  pointwise
  simp only [v22 H]
  rfl

theorem v28 (i : Fin 4096) (k : Fin 4096) : val_main_v28 (F := Ideal) x0 x1 x2 x3 x4 (ix2 i k) = ((2 : ℝ) : EReal) * max (p W (T i) k) 0 := by
  unfold val_main_v28 val_main_v27 val_main_cst_7
  pointwise
  simp only [v22 H, lit2]

theorem v31 (i : Fin 4096) (j : Fin 1024) : val_main_v31 (F := Ideal) x0 x1 x2 x3 x4 x5 (ix2 i j) = Rows.x3 W (T i) j := by
  unfold val_main_v31 val_main_v30 val_main_v29 val_main_v1 val_main_cst_0
  pointwise
  simp only [v3 H, v26 H, H.w2]
  rfl

theorem v38 (i : Fin 4096) : val_main_v38 (F := Ideal) x0 x1 x2 x3 x4 x5 (ix2 i 0) = ms (Rows.x3 W (T i)) := by
  unfold val_main_v38 val_main_v37 val_main_v36 val_main_v35 val_main_v34 val_main_v33 val_main_v32 val_main_cst_8 val_main_cst_9 val_main_cst_10
  pointwise
  simp only [v31 H, lit1024, lit_eps]
  rfl

theorem v39 (i : Fin 4096) : val_main_v39 (F := Ideal) x0 x1 x2 x3 x4 x5 (ix2 i 0) = inv (Rows.x3 W (T i)) := by
  unfold val_main_v39
  pointwise
  simp only [v38 H]
  rfl

theorem v42 (i : Fin 4096) : val_main_v42 (F := Ideal) x0 x1 x2 x3 x4 x5 (ix2 i 0) = ((-(1 / 2) : ℝ) : EReal) * Ideal.div (inv (Rows.x3 W (T i))) (ms (Rows.x3 W (T i))) := by
  unfold val_main_v42 val_main_v41 val_main_v40 val_main_cst_11
  pointwise
  simp only [v38 H, v39 H, lit_neg_half]

theorem v44 (i : Fin 4096) (j : Fin 1024) : val_main_v44 (F := Ideal) x0 x1 x2 x3 x4 x5 (ix2 i j) = nrm (Rows.x3 W (T i)) j := by
  unfold val_main_v44 val_main_v43
  pointwise
  simp only [v31 H, v39 H]
  rfl

theorem v48 (i : Fin 4096) (j : Fin 1024) : val_main_v48 (F := Ideal) x0 x1 x2 x3 x4 x5 x6 x7 (ix2 i j) = err W (T i) j := by
  unfold val_main_v48 val_main_v47 val_main_v46 val_main_v45
  pointwise
  simp only [v44 H, H.gf, H.t]
  rfl

/-- The loss: half the mean square of each token's error, summed over the tokens. -/
theorem v56 (i : S_.Idx) : val_main_v56 (F := Ideal) x0 x1 x2 x3 x4 x5 x6 x7 i = ∑ i, loss W (T i) := by
  unfold val_main_v56 val_main_v55 val_main_v54 val_main_v53 val_main_v52 val_main_v49 val_main_cst_13 val_main_cst_14 val_main_cst_15 val_main_cst_16
  pointwise
  simp only [v48 H, lit1024, lit_half]
  rw [mul_sum_real (by norm_num)]
  refine Finset.sum_congr rfl fun i _ => ?_
  rw [loss, div1024, mul_comm _ ((1 / 1024 : ℝ) : EReal), ← mul_assoc, ← EReal.coe_mul]
  refine congrArg (· * _) (congrArg _ ?_)
  norm_num

/-- The cotangent of the head: the error over the width. -/
theorem v62 (i : Fin 4096) (j : Fin 1024) : val_main_v62 (F := Ideal) x0 x1 x2 x3 x4 x5 x6 x7 (ix2 i j) = dout W (T i) j := by
  unfold val_main_v62 val_main_v61 val_main_v60 val_main_v59 val_main_v58 val_main_v57 val_main_v51 val_main_v50 val_main_cst_12 val_main_cst_17 val_main_cst_18 val_main_cst_19
  pointwise
  simp only [v48 H, lit1024, lit_half, lit2, mul_one]
  rw [dout, div1024, mul_comm, mul_comm ((2 : ℝ) : EReal), mul_assoc, ← EReal.coe_mul, ← EReal.coe_mul]
  refine congrArg (fun q : ℝ => err W (T i) j * (q : EReal)) ?_
  norm_num

theorem v67 (i : Fin 4096) (j : Fin 1024) : val_main_v67 (F := Ideal) x0 x1 x2 x3 x4 x5 x6 x7 (ix2 i j) = dxh3 W (T i) j := by
  unfold val_main_v67 val_main_v66 val_main_v45
  pointwise
  simp only [v62 H, H.gf]
  rfl

theorem v78 (i : Fin 4096) (j : Fin 1024) : val_main_v78 (F := Ideal) x0 x1 x2 x3 x4 x5 x6 x7 (ix2 i j)
    = Ideal.div ((∑ l, Rows.x3 W (T i) l * dxh3 W (T i) l) * (((-(1 / 2) : ℝ) : EReal) * Ideal.div (inv (Rows.x3 W (T i))) (ms (Rows.x3 W (T i))))) ((1024 : ℝ) : EReal) := by
  unfold val_main_v78 val_main_v77 val_main_v76 val_main_v75 val_main_v74 val_main_v71 val_main_v70 val_main_v69 val_main_cst_22 val_main_cst_23 val_main_cst_24
  pointwise
  simp only [Fin.sum_univ_one, v31 H, v42 H, v67 H, lit1024]

theorem v82 (i : Fin 4096) (j : Fin 1024) : val_main_v82 (F := Ideal) x0 x1 x2 x3 x4 x5 x6 x7 (ix2 i j) = dx3 W (T i) j := by
  unfold val_main_v82 val_main_v81 val_main_v80 val_main_v79 val_main_v73 val_main_v72
  pointwise
  simp only [v31 H, v39 H, v67 H, v78 H, norm_back]
  rfl

theorem v86 (i : Fin 4096) (k : Fin 4096) : val_main_v86 (F := Ideal) x0 x1 x2 x3 x4 x5 x6 x7 (ix2 i k) = dp W (T i) k := by
  unfold val_main_v86 val_main_v85 val_main_v84 val_main_v83 val_main_v24 val_main_v23 val_main_cst_5 val_main_cst_25
  pointwise
  simp only [v21 H, v28 H, v82 H, H.w2]
  by_cases hp : 0 < p W (T i) k
  · rw [if_pos hp]
    rfl
  · rw [if_neg hp, dp, max_eq_right (not_lt.mp hp), mul_zero, mul_zero]

theorem v87 (i : Fin 4096) (j : Fin 1024) : val_main_v87 (F := Ideal) x0 x1 x2 x3 x4 x5 x6 x7 (ix2 i j) = dh2 W (T i) j := by
  unfold val_main_v87
  pointwise
  simp only [v86 H, H.w1]
  rfl

theorem v92 (i : Fin 4096) (j : Fin 1024) : val_main_v92 (F := Ideal) x0 x1 x2 x3 x4 x5 x6 x7 (ix2 i j) = dxh2 W (T i) j := by
  unfold val_main_v92 val_main_v91 val_main_v17
  pointwise
  simp only [v87 H, H.g2]
  rfl

theorem v104 (i : Fin 4096) (j : Fin 1024) : val_main_v104 (F := Ideal) x0 x1 x2 x3 x4 x5 x6 x7 (ix2 i j)
    = Ideal.div ((∑ l, Rows.x2 W (T i) l * dxh2 W (T i) l) * (((-(1 / 2) : ℝ) : EReal) * Ideal.div (inv (Rows.x2 W (T i))) (ms (Rows.x2 W (T i))))) ((1024 : ℝ) : EReal) := by
  unfold val_main_v104 val_main_v103 val_main_v102 val_main_v101 val_main_v100 val_main_v96 val_main_v95 val_main_v94 val_main_cst_28 val_main_cst_29 val_main_cst_30
  pointwise
  simp only [Fin.sum_univ_one, v3 H, v14 H, v92 H, lit1024]

theorem v108 (i : Fin 4096) (j : Fin 1024) : val_main_v108 (F := Ideal) x0 x1 x2 x3 x4 x5 x6 x7 (ix2 i j) = dx2 W (T i) j := by
  unfold val_main_v108 val_main_v107 val_main_v106 val_main_v105 val_main_v99 val_main_v98 val_main_v97
  pointwise
  simp only [v3 H, v11 H, v82 H, v92 H, v104 H]
  rw [dx2, ← norm_back, add_assoc, add_assoc, add_assoc]

theorem v109 (i : Fin 4096) (k : Fin 1536) : val_main_v109 (F := Ideal) x0 x1 x2 x3 x4 x5 x6 x7 (ix2 i k) = dy W (T i) k := by
  unfold val_main_v109
  pointwise
  simp only [v108 H, H.wo]
  rfl

theorem v121 (i : Fin 4096) (j : Fin 1024) : val_main_v121 (F := Ideal) x0 x1 x2 x3 (ix2 i j) = h2 W (T i) j := by
  unfold val_main_v121
  pointwise
  exact v19 H i j
theorem v122 (i : Fin 4096) (k : Fin 4096) : val_main_v122 (F := Ideal) x0 x1 x2 x3 x4 (ix2 i k) = z W (T i) k := by
  unfold val_main_v122
  pointwise
  exact v26 H i k
theorem v123 (i : Fin 4096) (k : Fin 4096) : val_main_v123 (F := Ideal) x0 x1 x2 x3 x4 x5 x6 x7 (ix2 i k) = dp W (T i) k := by
  unfold val_main_v123
  pointwise
  exact v86 H i k
theorem v124 (i : Fin 4096) (j : Fin 1024) : val_main_v124 (F := Ideal) x0 x1 x2 x3 x4 x5 x6 x7 (ix2 i j) = dx3 W (T i) j := by
  unfold val_main_v124
  pointwise
  exact v82 H i j
theorem v125 (i : Fin 4096) (j : Fin 1024) : val_main_v125 (F := Ideal) x0 x1 x2 x3 x4 x5 x6 x7 (ix2 i j) = dx2 W (T i) j := by
  unfold val_main_v125
  pointwise
  exact v108 H i j

/-- The rows of the sums. -/
theorem v112 (r : Fin 1) (j : Fin 1024) : val_main_v112 (F := Ideal) x0 x1 x2 x3 x4 x5 x6 x7 (ix2 r j) = ∑ i, dgf W (T i) j := by
  unfold val_main_v112 val_main_v68 val_main_v65 val_main_v64 val_main_v63 val_main_cst_20 val_main_cst_21
  pointwise
  simp only [Fin.sum_univ_one, v44 H, v62 H]
  exact Finset.sum_congr rfl fun i _ => mul_comm _ _
theorem v113 (r : Fin 1) (j : Fin 1024) : val_main_v113 (F := Ideal) x0 x1 x2 x3 x4 x5 x6 x7 (ix2 r j) = ∑ i, dg2 W (T i) j := by
  unfold val_main_v113 val_main_v93 val_main_v90 val_main_v89 val_main_v88 val_main_cst_26 val_main_cst_27
  pointwise
  simp only [Fin.sum_univ_one, v16 H, v87 H]
  exact Finset.sum_congr rfl fun i _ => mul_comm _ _
theorem v114 (r : Fin 1) (j : Fin 1024) : val_main_v114 (F := Ideal) x0 x1 x2 x3 x4 x5 x6 x7 (ix2 r j) = ∑ i, loss W (T i) := by
  unfold val_main_v114 val_main_v110
  pointwise
  exact v56 H _

omit H in
/-- A row of zeros. -/
theorem v111 (j : S1024.Idx) : val_main_v111 (F := Ideal) j = 0 := by
  unfold val_main_v111 val_main_cst_31
  pointwise

theorem v120 (r : Fin 8) (j : Fin 1024) : val_main_v120 (F := Ideal) x0 x1 x2 x3 x4 x5 x6 x7 (ix2 r j) = sums W T r j := by
  unfold val_main_v120
  pointwise
  unfold sums
  by_cases h0 : r = 0
  · subst h0; exact v112 H _ j
  by_cases h1 : r = 1
  · subst h1; exact v113 H _ j
  by_cases h2 : r = 2
  · subst h2; exact v114 H _ j
  have e0 : r.val ≠ 0 := fun e => h0 (Fin.ext e)
  have e1 : r.val ≠ 1 := fun e => h1 (Fin.ext e)
  have e2 : r.val ≠ 2 := fun e => h2 (Fin.ext e)
  rw [if_neg h0, if_neg h1, if_neg h2, dif_neg (by omega), dif_neg (by omega), dif_neg (by omega)]
  unfold val_main_v115 val_main_v116 val_main_v117 val_main_v118 val_main_v119
  pointwise
  simp only [v111, dite_eq_ite, ite_self]

end Cert.ReferenceIdeal.RVal
end
-- ==== Proof.Adam.lean ====
/- AdamW's update of one array from its gradient, written once for every shape: the first moment, the second moment and the
   step. Each is pointwise, so that a block of the update is the update of the blocks. -/
module

public import Idealize.ShloMosaic.PureOps.Ideal
public import Idealize.ShloMosaic.PureOps.Vector

@[expose] public section

noncomputable section

namespace Cert.Adam

open Idealize.ShloMosaic

variable {F : FTy → Type} [FloatOps F] {s : Shape}

/-- The first moment: nine tenths of the old one and a tenth of the gradient. -/
def newM (g m : FVec F s .f32) : FVec F s .f32 :=
  addf (mulf (broadcast s (Scalar.ofBits .f32 0x3F666666#32)) m) (mulf (broadcast s (Scalar.ofBits .f32 0x3DCCCCCD#32)) g)

/-- The second moment: 0.999 of the old one and 0.001 of the gradient's square. -/
def newV (g v : FVec F s .f32) : FVec F s .f32 :=
  addf (mulf (broadcast s (Scalar.ofBits .f32 0x3F7FBE77#32)) v) (mulf (broadcast s (Scalar.ofBits .f32 0x3A83126F#32)) (mulf g g))

/-- The step: the first moment over the root of the second, both with their bias corrected, and the decay of the weight. -/
def delta (w g m v : FVec F s .f32) : FVec F s .f32 :=
  mulf (broadcast s (Scalar.ofBits .f32 0xBA83126F#32))
    (addf (divf (divf (newM g m) (broadcast s (Scalar.ofBits .f32 0x3F26BD02#32)))
        (addf (sqrt (divf (newV g v) (broadcast s (Scalar.ofBits .f32 0x3C231ACC#32)))) (broadcast s (Scalar.ofBits .f32 0x322BCC77#32))))
      (mulf (broadcast s (Scalar.ofBits .f32 0x3C23D70A#32)) w))

end Cert.Adam

end
-- ==== Proof.Big2.lean ====
/- The AdamW call of the MLP's first weight: the 1024 rows go through the chip in blocks of 256, and every block written is that block of the
   whole array's update (module `Adam`). The reference updates the whole array at once, with the same numbers. -/
module

public import proofs.«01_k».proof.Proof.Adam
public import proofs.«01_k».proof.Defs
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem Cert.Adam

namespace Cert.Kernel2Ideal.Big

open Cert.Kernel2Ideal Cert.Kernel2Ideal.Gen

variable (m : (ℓ : Loc nD τ sig) → Buf (Elt Ideal) ℓ) (ρ : Dev nD → PrngReg)

theorem hz : (![0, 0] : Fin 2 → Nat) = fun _ => 0 := funext fun a => by fin_cases a <;> rfl

/-- What the call leaves in result 0: the gradient itself. -/
abbrev grad (c : Dev nD) : Buf (Elt Ideal) ((c : Thread nD τ).loc main_v0_0) :=
  m ((c : Thread nD τ).loc main_arg1)

/-- A block written to result 0 is that block of the whole. -/
theorem flushed4 (c : Dev nD) (t : Fin cfg0.N) : (dats m 0 c).flushed 4 t = (win0_4.blk t).view.read (Elt Ideal) (grad m c) := by
  rw [Value.flushed4]
  unfold out0_4
  rw [View.canon_unit_zero hz, View.ld_unit_zero hz]
  rfl

/-- The rows of a block of result 0. -/
theorem mem_blk4 (t : Fin cfg0.N) (i : S1024x1024.Idx) :
    i ∈ ((cfg0.win 4).blk t).view.set ↔ t.val * 256 ≤ (i 0 : Nat) ∧ (i 0 : Nat) < t.val * 256 + 256 := by
  show i ∈ ((View.whole main_v0_0).slice (win0_4.rect t)).set ↔ _
  rw [View.set_slice_whole, Rect.mem_set_unit]
  have h1 : (i 1 : Nat) < 1024 := (i 1).isLt
  have e : win0_4.index t 0 * win0_4.size 0 = t.val * 256 ∧ win0_4.xsize (grid0.coords t) 0 = 256
      ∧ win0_4.index t 1 * win0_4.size 1 = 0 ∧ win0_4.xsize (grid0.coords t) 1 = 1024 := by
    rcases fin_N0 t with rfl | rfl | rfl | rfl <;> decide +kernel
  refine ⟨fun h => ?_, fun h a => ?_⟩
  · have : win0_4.index t 0 * win0_4.size 0 ≤ (i 0 : Nat) ∧ (i 0 : Nat) < win0_4.index t 0 * win0_4.size 0 + win0_4.xsize (grid0.coords t) 0 := h 0
    rw [e.1, e.2.1] at this; exact this
  · match a with
    | ⟨0, _⟩ => show win0_4.index t 0 * win0_4.size 0 ≤ (i 0 : Nat) ∧ (i 0 : Nat) < win0_4.index t 0 * win0_4.size 0 + win0_4.xsize (grid0.coords t) 0
                rw [e.1, e.2.1]; exact h
    | ⟨1, _⟩ => show win0_4.index t 1 * win0_4.size 1 ≤ (i 1 : Nat) ∧ (i 1 : Nat) < win0_4.index t 1 * win0_4.size 1 + win0_4.xsize (grid0.coords t) 1
                rw [e.2.2.1, e.2.2.2]; omega

/-- The blocks of result 0 cover its array. -/
theorem cover4 (i : S1024x1024.Idx) : ∃ t : Fin cfg0.N, (cfg0.win 4).flush t = true ∧ i ∈ ((cfg0.win 4).blk t).view.set := by
  have h0 : (i 0 : Nat) < 1024 := (i 0).isLt
  have hN : cfg0.N = 4 := N_0
  refine ⟨⟨(i 0 : Nat) / 256, by omega⟩, flush0_4 _, ?_⟩
  rw [mem_blk4]
  dsimp only
  omega

/-- What the call leaves in result 1: the weight's step. -/
abbrev step (c : Dev nD) : Buf (Elt Ideal) ((c : Thread nD τ).loc main_v0_1) :=
  delta (F := Ideal) (s := S1024x1024) (m ((c : Thread nD τ).loc main_arg0)) (m ((c : Thread nD τ).loc main_arg1)) (m ((c : Thread nD τ).loc main_arg2)) (m ((c : Thread nD τ).loc main_arg3))

/-- A block written to result 1 is that block of the whole. -/
theorem flushed5 (c : Dev nD) (t : Fin cfg0.N) : (dats m 0 c).flushed 5 t = (win0_5.blk t).view.read (Elt Ideal) (step m c) := by
  rw [Value.flushed5]
  unfold out0_5
  rw [View.canon_unit_zero hz, View.ld_unit_zero hz, View.ld_unit_zero hz, View.ld_unit_zero hz, View.ld_unit_zero hz]
  rfl

/-- The rows of a block of result 1. -/
theorem mem_blk5 (t : Fin cfg0.N) (i : S1024x1024.Idx) :
    i ∈ ((cfg0.win 5).blk t).view.set ↔ t.val * 256 ≤ (i 0 : Nat) ∧ (i 0 : Nat) < t.val * 256 + 256 := by
  show i ∈ ((View.whole main_v0_1).slice (win0_5.rect t)).set ↔ _
  rw [View.set_slice_whole, Rect.mem_set_unit]
  have h1 : (i 1 : Nat) < 1024 := (i 1).isLt
  have e : win0_5.index t 0 * win0_5.size 0 = t.val * 256 ∧ win0_5.xsize (grid0.coords t) 0 = 256
      ∧ win0_5.index t 1 * win0_5.size 1 = 0 ∧ win0_5.xsize (grid0.coords t) 1 = 1024 := by
    rcases fin_N0 t with rfl | rfl | rfl | rfl <;> decide +kernel
  refine ⟨fun h => ?_, fun h a => ?_⟩
  · have : win0_5.index t 0 * win0_5.size 0 ≤ (i 0 : Nat) ∧ (i 0 : Nat) < win0_5.index t 0 * win0_5.size 0 + win0_5.xsize (grid0.coords t) 0 := h 0
    rw [e.1, e.2.1] at this; exact this
  · match a with
    | ⟨0, _⟩ => show win0_5.index t 0 * win0_5.size 0 ≤ (i 0 : Nat) ∧ (i 0 : Nat) < win0_5.index t 0 * win0_5.size 0 + win0_5.xsize (grid0.coords t) 0
                rw [e.1, e.2.1]; exact h
    | ⟨1, _⟩ => show win0_5.index t 1 * win0_5.size 1 ≤ (i 1 : Nat) ∧ (i 1 : Nat) < win0_5.index t 1 * win0_5.size 1 + win0_5.xsize (grid0.coords t) 1
                rw [e.2.2.1, e.2.2.2]; omega

/-- The blocks of result 1 cover its array. -/
theorem cover5 (i : S1024x1024.Idx) : ∃ t : Fin cfg0.N, (cfg0.win 5).flush t = true ∧ i ∈ ((cfg0.win 5).blk t).view.set := by
  have h0 : (i 0 : Nat) < 1024 := (i 0).isLt
  have hN : cfg0.N = 4 := N_0
  refine ⟨⟨(i 0 : Nat) / 256, by omega⟩, flush0_5 _, ?_⟩
  rw [mem_blk5]
  dsimp only
  omega

/-- What the call leaves in result 2: the first moment. -/
abbrev mom1 (c : Dev nD) : Buf (Elt Ideal) ((c : Thread nD τ).loc main_v0_2) :=
  newM (F := Ideal) (s := S1024x1024) (m ((c : Thread nD τ).loc main_arg1)) (m ((c : Thread nD τ).loc main_arg2))

/-- A block written to result 2 is that block of the whole. -/
theorem flushed6 (c : Dev nD) (t : Fin cfg0.N) : (dats m 0 c).flushed 6 t = (win0_6.blk t).view.read (Elt Ideal) (mom1 m c) := by
  rw [Value.flushed6]
  unfold out0_6
  rw [View.canon_unit_zero hz, View.ld_unit_zero hz, View.ld_unit_zero hz]
  rfl

/-- The rows of a block of result 2. -/
theorem mem_blk6 (t : Fin cfg0.N) (i : S1024x1024.Idx) :
    i ∈ ((cfg0.win 6).blk t).view.set ↔ t.val * 256 ≤ (i 0 : Nat) ∧ (i 0 : Nat) < t.val * 256 + 256 := by
  show i ∈ ((View.whole main_v0_2).slice (win0_6.rect t)).set ↔ _
  rw [View.set_slice_whole, Rect.mem_set_unit]
  have h1 : (i 1 : Nat) < 1024 := (i 1).isLt
  have e : win0_6.index t 0 * win0_6.size 0 = t.val * 256 ∧ win0_6.xsize (grid0.coords t) 0 = 256
      ∧ win0_6.index t 1 * win0_6.size 1 = 0 ∧ win0_6.xsize (grid0.coords t) 1 = 1024 := by
    rcases fin_N0 t with rfl | rfl | rfl | rfl <;> decide +kernel
  refine ⟨fun h => ?_, fun h a => ?_⟩
  · have : win0_6.index t 0 * win0_6.size 0 ≤ (i 0 : Nat) ∧ (i 0 : Nat) < win0_6.index t 0 * win0_6.size 0 + win0_6.xsize (grid0.coords t) 0 := h 0
    rw [e.1, e.2.1] at this; exact this
  · match a with
    | ⟨0, _⟩ => show win0_6.index t 0 * win0_6.size 0 ≤ (i 0 : Nat) ∧ (i 0 : Nat) < win0_6.index t 0 * win0_6.size 0 + win0_6.xsize (grid0.coords t) 0
                rw [e.1, e.2.1]; exact h
    | ⟨1, _⟩ => show win0_6.index t 1 * win0_6.size 1 ≤ (i 1 : Nat) ∧ (i 1 : Nat) < win0_6.index t 1 * win0_6.size 1 + win0_6.xsize (grid0.coords t) 1
                rw [e.2.2.1, e.2.2.2]; omega

/-- The blocks of result 2 cover its array. -/
theorem cover6 (i : S1024x1024.Idx) : ∃ t : Fin cfg0.N, (cfg0.win 6).flush t = true ∧ i ∈ ((cfg0.win 6).blk t).view.set := by
  have h0 : (i 0 : Nat) < 1024 := (i 0).isLt
  have hN : cfg0.N = 4 := N_0
  refine ⟨⟨(i 0 : Nat) / 256, by omega⟩, flush0_6 _, ?_⟩
  rw [mem_blk6]
  dsimp only
  omega

/-- What the call leaves in result 3: the second moment. -/
abbrev mom2 (c : Dev nD) : Buf (Elt Ideal) ((c : Thread nD τ).loc main_v0_3) :=
  newV (F := Ideal) (s := S1024x1024) (m ((c : Thread nD τ).loc main_arg1)) (m ((c : Thread nD τ).loc main_arg3))

/-- A block written to result 3 is that block of the whole. -/
theorem flushed7 (c : Dev nD) (t : Fin cfg0.N) : (dats m 0 c).flushed 7 t = (win0_7.blk t).view.read (Elt Ideal) (mom2 m c) := by
  rw [Value.flushed7]
  unfold out0_7
  rw [View.canon_unit_zero hz, View.ld_unit_zero hz, View.ld_unit_zero hz]
  rfl

/-- The rows of a block of result 3. -/
theorem mem_blk7 (t : Fin cfg0.N) (i : S1024x1024.Idx) :
    i ∈ ((cfg0.win 7).blk t).view.set ↔ t.val * 256 ≤ (i 0 : Nat) ∧ (i 0 : Nat) < t.val * 256 + 256 := by
  show i ∈ ((View.whole main_v0_3).slice (win0_7.rect t)).set ↔ _
  rw [View.set_slice_whole, Rect.mem_set_unit]
  have h1 : (i 1 : Nat) < 1024 := (i 1).isLt
  have e : win0_7.index t 0 * win0_7.size 0 = t.val * 256 ∧ win0_7.xsize (grid0.coords t) 0 = 256
      ∧ win0_7.index t 1 * win0_7.size 1 = 0 ∧ win0_7.xsize (grid0.coords t) 1 = 1024 := by
    rcases fin_N0 t with rfl | rfl | rfl | rfl <;> decide +kernel
  refine ⟨fun h => ?_, fun h a => ?_⟩
  · have : win0_7.index t 0 * win0_7.size 0 ≤ (i 0 : Nat) ∧ (i 0 : Nat) < win0_7.index t 0 * win0_7.size 0 + win0_7.xsize (grid0.coords t) 0 := h 0
    rw [e.1, e.2.1] at this; exact this
  · match a with
    | ⟨0, _⟩ => show win0_7.index t 0 * win0_7.size 0 ≤ (i 0 : Nat) ∧ (i 0 : Nat) < win0_7.index t 0 * win0_7.size 0 + win0_7.xsize (grid0.coords t) 0
                rw [e.1, e.2.1]; exact h
    | ⟨1, _⟩ => show win0_7.index t 1 * win0_7.size 1 ≤ (i 1 : Nat) ∧ (i 1 : Nat) < win0_7.index t 1 * win0_7.size 1 + win0_7.xsize (grid0.coords t) 1
                rw [e.2.2.1, e.2.2.2]; omega

/-- The blocks of result 3 cover its array. -/
theorem cover7 (i : S1024x1024.Idx) : ∃ t : Fin cfg0.N, (cfg0.win 7).flush t = true ∧ i ∈ ((cfg0.win 7).blk t).view.set := by
  have h0 : (i 0 : Nat) < 1024 := (i 0).isLt
  have hN : cfg0.N = 4 := N_0
  refine ⟨⟨(i 0 : Nat) / 256, by omega⟩, flush0_7 _, ?_⟩
  rw [mem_blk7]
  dsimp only
  omega

/-- The call's run: each result is the whole array's, the arguments are unchanged. -/
theorem run : θ_run (defs (F := Ideal)) (onTc (τ := τ) (main (F := Ideal))) ⟨m, fun _ => 0, ρ⟩ fun r => ∀ c : Dev nD,
      r.2.mem ((c : Thread nD τ).loc main_v0_0) = grad m c
      ∧ r.2.mem ((c : Thread nD τ).loc main_v0_1) = step m c
      ∧ r.2.mem ((c : Thread nD τ).loc main_v0_2) = mom1 m c
      ∧ r.2.mem ((c : Thread nD τ).loc main_v0_3) = mom2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h4, h5, h6, h7, hargs⟩ := h c
    exact ⟨h4.trans ((dats m 0 c).arrAt_eq_of_cover 4 (grad m c) (fun t _ => flushed4 m c t) cover4),
      h5.trans ((dats m 0 c).arrAt_eq_of_cover 5 (step m c) (fun t _ => flushed5 m c t) cover5),
      h6.trans ((dats m 0 c).arrAt_eq_of_cover 6 (mom1 m c) (fun t _ => flushed6 m c t) cover6),
      h7.trans ((dats m 0 c).arrAt_eq_of_cover 7 (mom2 m c) (fun t _ => flushed7 m c t) cover7), hargs⟩) (Value.run_blocks m ρ)

end Cert.Kernel2Ideal.Big

namespace Cert.Big2

/-- The reference declares no semaphore, so its run's end has none raised. -/
theorem frame_reference : Cert.quiescent_Reference2Ideal (hReference2Ideal := Cert.Reference2Ideal.Gen.facts) :=
  fun m g _ => (θ_run Cert.Reference2Ideal.defs _ _).mono (fun r h => ⟨fun c => (h c).2.2.2.2, sem_eq_zero_of_no_sems rfl r.2⟩) (Cert.Reference2Ideal.Value.run m g)

/-- The call and the reference leave the same arrays, for any arguments. -/
theorem algebraic : Cert.algebraic_Kernel2Ideal_Reference2Ideal (hKernel2Ideal := Cert.Kernel2Ideal.Gen.facts) (hReference2Ideal := Cert.Reference2Ideal.Gen.facts) := by
  intro m g m' g' _ hag
  refine ⟨_, _, _, _, Cert.Kernel2Ideal.Big.run m g, (θ_run Cert.Reference2Ideal.defs _ _).mono (fun r h c => ?_) (Cert.Reference2Ideal.Value.run m' g')⟩
  obtain ⟨h0, h1, h2, h3⟩ := hag c
  obtain ⟨r0, r1, r2, r3, hargs⟩ := h c
  refine ⟨r0.trans h1, r1.trans ?_, r2.trans ?_, r3.trans ?_, hargs⟩
  · rw [h0, h1, h2, h3]; rfl
  · rw [h1, h2]; rfl
  · rw [h1, h3]; rfl

end Cert.Big2

end
-- ==== Proof.Big3.lean ====
/- The AdamW call of the output projection: the 384 rows go through the chip in blocks of 192, and every block written is that block of the
   whole array's update (module `Adam`). The reference updates the whole array at once, with the same numbers. -/
module

public import proofs.«01_k».proof.Proof.Adam
public import proofs.«01_k».proof.Defs
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem Cert.Adam

namespace Cert.Kernel3Ideal.Big

open Cert.Kernel3Ideal Cert.Kernel3Ideal.Gen

variable (m : (ℓ : Loc nD τ sig) → Buf (Elt Ideal) ℓ) (ρ : Dev nD → PrngReg)

theorem hz : (![0, 0] : Fin 2 → Nat) = fun _ => 0 := funext fun a => by fin_cases a <;> rfl

/-- What the call leaves in result 0: the gradient itself. -/
abbrev grad (c : Dev nD) : Buf (Elt Ideal) ((c : Thread nD τ).loc main_v0_0) :=
  m ((c : Thread nD τ).loc main_arg1)

/-- A block written to result 0 is that block of the whole. -/
theorem flushed4 (c : Dev nD) (t : Fin cfg0.N) : (dats m 0 c).flushed 4 t = (win0_4.blk t).view.read (Elt Ideal) (grad m c) := by
  rw [Value.flushed4]
  unfold out0_4
  rw [View.canon_unit_zero hz, View.ld_unit_zero hz]
  rfl

/-- The rows of a block of result 0. -/
theorem mem_blk4 (t : Fin cfg0.N) (i : S384x1024.Idx) :
    i ∈ ((cfg0.win 4).blk t).view.set ↔ t.val * 192 ≤ (i 0 : Nat) ∧ (i 0 : Nat) < t.val * 192 + 192 := by
  show i ∈ ((View.whole main_v0_0).slice (win0_4.rect t)).set ↔ _
  rw [View.set_slice_whole, Rect.mem_set_unit]
  have h1 : (i 1 : Nat) < 1024 := (i 1).isLt
  have e : win0_4.index t 0 * win0_4.size 0 = t.val * 192 ∧ win0_4.xsize (grid0.coords t) 0 = 192
      ∧ win0_4.index t 1 * win0_4.size 1 = 0 ∧ win0_4.xsize (grid0.coords t) 1 = 1024 := by
    rcases fin_N0 t with rfl | rfl <;> decide +kernel
  refine ⟨fun h => ?_, fun h a => ?_⟩
  · have : win0_4.index t 0 * win0_4.size 0 ≤ (i 0 : Nat) ∧ (i 0 : Nat) < win0_4.index t 0 * win0_4.size 0 + win0_4.xsize (grid0.coords t) 0 := h 0
    rw [e.1, e.2.1] at this; exact this
  · match a with
    | ⟨0, _⟩ => show win0_4.index t 0 * win0_4.size 0 ≤ (i 0 : Nat) ∧ (i 0 : Nat) < win0_4.index t 0 * win0_4.size 0 + win0_4.xsize (grid0.coords t) 0
                rw [e.1, e.2.1]; exact h
    | ⟨1, _⟩ => show win0_4.index t 1 * win0_4.size 1 ≤ (i 1 : Nat) ∧ (i 1 : Nat) < win0_4.index t 1 * win0_4.size 1 + win0_4.xsize (grid0.coords t) 1
                rw [e.2.2.1, e.2.2.2]; omega

/-- The blocks of result 0 cover its array. -/
theorem cover4 (i : S384x1024.Idx) : ∃ t : Fin cfg0.N, (cfg0.win 4).flush t = true ∧ i ∈ ((cfg0.win 4).blk t).view.set := by
  have h0 : (i 0 : Nat) < 384 := (i 0).isLt
  have hN : cfg0.N = 2 := N_0
  refine ⟨⟨(i 0 : Nat) / 192, by omega⟩, flush0_4 _, ?_⟩
  rw [mem_blk4]
  dsimp only
  omega

/-- What the call leaves in result 1: the weight's step. -/
abbrev step (c : Dev nD) : Buf (Elt Ideal) ((c : Thread nD τ).loc main_v0_1) :=
  delta (F := Ideal) (s := S384x1024) (m ((c : Thread nD τ).loc main_arg0)) (m ((c : Thread nD τ).loc main_arg1)) (m ((c : Thread nD τ).loc main_arg2)) (m ((c : Thread nD τ).loc main_arg3))

/-- A block written to result 1 is that block of the whole. -/
theorem flushed5 (c : Dev nD) (t : Fin cfg0.N) : (dats m 0 c).flushed 5 t = (win0_5.blk t).view.read (Elt Ideal) (step m c) := by
  rw [Value.flushed5]
  unfold out0_5
  rw [View.canon_unit_zero hz, View.ld_unit_zero hz, View.ld_unit_zero hz, View.ld_unit_zero hz, View.ld_unit_zero hz]
  rfl

/-- The rows of a block of result 1. -/
theorem mem_blk5 (t : Fin cfg0.N) (i : S384x1024.Idx) :
    i ∈ ((cfg0.win 5).blk t).view.set ↔ t.val * 192 ≤ (i 0 : Nat) ∧ (i 0 : Nat) < t.val * 192 + 192 := by
  show i ∈ ((View.whole main_v0_1).slice (win0_5.rect t)).set ↔ _
  rw [View.set_slice_whole, Rect.mem_set_unit]
  have h1 : (i 1 : Nat) < 1024 := (i 1).isLt
  have e : win0_5.index t 0 * win0_5.size 0 = t.val * 192 ∧ win0_5.xsize (grid0.coords t) 0 = 192
      ∧ win0_5.index t 1 * win0_5.size 1 = 0 ∧ win0_5.xsize (grid0.coords t) 1 = 1024 := by
    rcases fin_N0 t with rfl | rfl <;> decide +kernel
  refine ⟨fun h => ?_, fun h a => ?_⟩
  · have : win0_5.index t 0 * win0_5.size 0 ≤ (i 0 : Nat) ∧ (i 0 : Nat) < win0_5.index t 0 * win0_5.size 0 + win0_5.xsize (grid0.coords t) 0 := h 0
    rw [e.1, e.2.1] at this; exact this
  · match a with
    | ⟨0, _⟩ => show win0_5.index t 0 * win0_5.size 0 ≤ (i 0 : Nat) ∧ (i 0 : Nat) < win0_5.index t 0 * win0_5.size 0 + win0_5.xsize (grid0.coords t) 0
                rw [e.1, e.2.1]; exact h
    | ⟨1, _⟩ => show win0_5.index t 1 * win0_5.size 1 ≤ (i 1 : Nat) ∧ (i 1 : Nat) < win0_5.index t 1 * win0_5.size 1 + win0_5.xsize (grid0.coords t) 1
                rw [e.2.2.1, e.2.2.2]; omega

/-- The blocks of result 1 cover its array. -/
theorem cover5 (i : S384x1024.Idx) : ∃ t : Fin cfg0.N, (cfg0.win 5).flush t = true ∧ i ∈ ((cfg0.win 5).blk t).view.set := by
  have h0 : (i 0 : Nat) < 384 := (i 0).isLt
  have hN : cfg0.N = 2 := N_0
  refine ⟨⟨(i 0 : Nat) / 192, by omega⟩, flush0_5 _, ?_⟩
  rw [mem_blk5]
  dsimp only
  omega

/-- What the call leaves in result 2: the first moment. -/
abbrev mom1 (c : Dev nD) : Buf (Elt Ideal) ((c : Thread nD τ).loc main_v0_2) :=
  newM (F := Ideal) (s := S384x1024) (m ((c : Thread nD τ).loc main_arg1)) (m ((c : Thread nD τ).loc main_arg2))

/-- A block written to result 2 is that block of the whole. -/
theorem flushed6 (c : Dev nD) (t : Fin cfg0.N) : (dats m 0 c).flushed 6 t = (win0_6.blk t).view.read (Elt Ideal) (mom1 m c) := by
  rw [Value.flushed6]
  unfold out0_6
  rw [View.canon_unit_zero hz, View.ld_unit_zero hz, View.ld_unit_zero hz]
  rfl

/-- The rows of a block of result 2. -/
theorem mem_blk6 (t : Fin cfg0.N) (i : S384x1024.Idx) :
    i ∈ ((cfg0.win 6).blk t).view.set ↔ t.val * 192 ≤ (i 0 : Nat) ∧ (i 0 : Nat) < t.val * 192 + 192 := by
  show i ∈ ((View.whole main_v0_2).slice (win0_6.rect t)).set ↔ _
  rw [View.set_slice_whole, Rect.mem_set_unit]
  have h1 : (i 1 : Nat) < 1024 := (i 1).isLt
  have e : win0_6.index t 0 * win0_6.size 0 = t.val * 192 ∧ win0_6.xsize (grid0.coords t) 0 = 192
      ∧ win0_6.index t 1 * win0_6.size 1 = 0 ∧ win0_6.xsize (grid0.coords t) 1 = 1024 := by
    rcases fin_N0 t with rfl | rfl <;> decide +kernel
  refine ⟨fun h => ?_, fun h a => ?_⟩
  · have : win0_6.index t 0 * win0_6.size 0 ≤ (i 0 : Nat) ∧ (i 0 : Nat) < win0_6.index t 0 * win0_6.size 0 + win0_6.xsize (grid0.coords t) 0 := h 0
    rw [e.1, e.2.1] at this; exact this
  · match a with
    | ⟨0, _⟩ => show win0_6.index t 0 * win0_6.size 0 ≤ (i 0 : Nat) ∧ (i 0 : Nat) < win0_6.index t 0 * win0_6.size 0 + win0_6.xsize (grid0.coords t) 0
                rw [e.1, e.2.1]; exact h
    | ⟨1, _⟩ => show win0_6.index t 1 * win0_6.size 1 ≤ (i 1 : Nat) ∧ (i 1 : Nat) < win0_6.index t 1 * win0_6.size 1 + win0_6.xsize (grid0.coords t) 1
                rw [e.2.2.1, e.2.2.2]; omega

/-- The blocks of result 2 cover its array. -/
theorem cover6 (i : S384x1024.Idx) : ∃ t : Fin cfg0.N, (cfg0.win 6).flush t = true ∧ i ∈ ((cfg0.win 6).blk t).view.set := by
  have h0 : (i 0 : Nat) < 384 := (i 0).isLt
  have hN : cfg0.N = 2 := N_0
  refine ⟨⟨(i 0 : Nat) / 192, by omega⟩, flush0_6 _, ?_⟩
  rw [mem_blk6]
  dsimp only
  omega

/-- What the call leaves in result 3: the second moment. -/
abbrev mom2 (c : Dev nD) : Buf (Elt Ideal) ((c : Thread nD τ).loc main_v0_3) :=
  newV (F := Ideal) (s := S384x1024) (m ((c : Thread nD τ).loc main_arg1)) (m ((c : Thread nD τ).loc main_arg3))

/-- A block written to result 3 is that block of the whole. -/
theorem flushed7 (c : Dev nD) (t : Fin cfg0.N) : (dats m 0 c).flushed 7 t = (win0_7.blk t).view.read (Elt Ideal) (mom2 m c) := by
  rw [Value.flushed7]
  unfold out0_7
  rw [View.canon_unit_zero hz, View.ld_unit_zero hz, View.ld_unit_zero hz]
  rfl

/-- The rows of a block of result 3. -/
theorem mem_blk7 (t : Fin cfg0.N) (i : S384x1024.Idx) :
    i ∈ ((cfg0.win 7).blk t).view.set ↔ t.val * 192 ≤ (i 0 : Nat) ∧ (i 0 : Nat) < t.val * 192 + 192 := by
  show i ∈ ((View.whole main_v0_3).slice (win0_7.rect t)).set ↔ _
  rw [View.set_slice_whole, Rect.mem_set_unit]
  have h1 : (i 1 : Nat) < 1024 := (i 1).isLt
  have e : win0_7.index t 0 * win0_7.size 0 = t.val * 192 ∧ win0_7.xsize (grid0.coords t) 0 = 192
      ∧ win0_7.index t 1 * win0_7.size 1 = 0 ∧ win0_7.xsize (grid0.coords t) 1 = 1024 := by
    rcases fin_N0 t with rfl | rfl <;> decide +kernel
  refine ⟨fun h => ?_, fun h a => ?_⟩
  · have : win0_7.index t 0 * win0_7.size 0 ≤ (i 0 : Nat) ∧ (i 0 : Nat) < win0_7.index t 0 * win0_7.size 0 + win0_7.xsize (grid0.coords t) 0 := h 0
    rw [e.1, e.2.1] at this; exact this
  · match a with
    | ⟨0, _⟩ => show win0_7.index t 0 * win0_7.size 0 ≤ (i 0 : Nat) ∧ (i 0 : Nat) < win0_7.index t 0 * win0_7.size 0 + win0_7.xsize (grid0.coords t) 0
                rw [e.1, e.2.1]; exact h
    | ⟨1, _⟩ => show win0_7.index t 1 * win0_7.size 1 ≤ (i 1 : Nat) ∧ (i 1 : Nat) < win0_7.index t 1 * win0_7.size 1 + win0_7.xsize (grid0.coords t) 1
                rw [e.2.2.1, e.2.2.2]; omega

/-- The blocks of result 3 cover its array. -/
theorem cover7 (i : S384x1024.Idx) : ∃ t : Fin cfg0.N, (cfg0.win 7).flush t = true ∧ i ∈ ((cfg0.win 7).blk t).view.set := by
  have h0 : (i 0 : Nat) < 384 := (i 0).isLt
  have hN : cfg0.N = 2 := N_0
  refine ⟨⟨(i 0 : Nat) / 192, by omega⟩, flush0_7 _, ?_⟩
  rw [mem_blk7]
  dsimp only
  omega

/-- The call's run: each result is the whole array's, the arguments are unchanged. -/
theorem run : θ_run (defs (F := Ideal)) (onTc (τ := τ) (main (F := Ideal))) ⟨m, fun _ => 0, ρ⟩ fun r => ∀ c : Dev nD,
      r.2.mem ((c : Thread nD τ).loc main_v0_0) = grad m c
      ∧ r.2.mem ((c : Thread nD τ).loc main_v0_1) = step m c
      ∧ r.2.mem ((c : Thread nD τ).loc main_v0_2) = mom1 m c
      ∧ r.2.mem ((c : Thread nD τ).loc main_v0_3) = mom2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h4, h5, h6, h7, hargs⟩ := h c
    exact ⟨h4.trans ((dats m 0 c).arrAt_eq_of_cover 4 (grad m c) (fun t _ => flushed4 m c t) cover4),
      h5.trans ((dats m 0 c).arrAt_eq_of_cover 5 (step m c) (fun t _ => flushed5 m c t) cover5),
      h6.trans ((dats m 0 c).arrAt_eq_of_cover 6 (mom1 m c) (fun t _ => flushed6 m c t) cover6),
      h7.trans ((dats m 0 c).arrAt_eq_of_cover 7 (mom2 m c) (fun t _ => flushed7 m c t) cover7), hargs⟩) (Value.run_blocks m ρ)

end Cert.Kernel3Ideal.Big

namespace Cert.Big3

/-- The reference declares no semaphore, so its run's end has none raised. -/
theorem frame_reference : Cert.quiescent_Reference3Ideal (hReference3Ideal := Cert.Reference3Ideal.Gen.facts) :=
  fun m g _ => (θ_run Cert.Reference3Ideal.defs _ _).mono (fun r h => ⟨fun c => (h c).2.2.2.2, sem_eq_zero_of_no_sems rfl r.2⟩) (Cert.Reference3Ideal.Value.run m g)

/-- The call and the reference leave the same arrays, for any arguments. -/
theorem algebraic : Cert.algebraic_Kernel3Ideal_Reference3Ideal (hKernel3Ideal := Cert.Kernel3Ideal.Gen.facts) (hReference3Ideal := Cert.Reference3Ideal.Gen.facts) := by
  intro m g m' g' _ hag
  refine ⟨_, _, _, _, Cert.Kernel3Ideal.Big.run m g, (θ_run Cert.Reference3Ideal.defs _ _).mono (fun r h c => ?_) (Cert.Reference3Ideal.Value.run m' g')⟩
  obtain ⟨h0, h1, h2, h3⟩ := hag c
  obtain ⟨r0, r1, r2, r3, hargs⟩ := h c
  refine ⟨r0.trans h1, r1.trans ?_, r2.trans ?_, r3.trans ?_, hargs⟩
  · rw [h0, h1, h2, h3]; rfl
  · rw [h1, h2]; rfl
  · rw [h1, h3]; rfl

end Cert.Big3

end
-- ==== Proof.Big4.lean ====
/- The AdamW call of the input projection: the 1024 rows go through the chip in blocks of 256, and every block written is that block of the
   whole array's update (module `Adam`). The reference updates the whole array at once, with the same numbers. -/
module

public import proofs.«01_k».proof.Proof.Adam
public import proofs.«01_k».proof.Defs
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem Cert.Adam

namespace Cert.Kernel4Ideal.Big

open Cert.Kernel4Ideal Cert.Kernel4Ideal.Gen

variable (m : (ℓ : Loc nD τ sig) → Buf (Elt Ideal) ℓ) (ρ : Dev nD → PrngReg)

theorem hz : (![0, 0] : Fin 2 → Nat) = fun _ => 0 := funext fun a => by fin_cases a <;> rfl

/-- What the call leaves in result 0: the gradient itself. -/
abbrev grad (c : Dev nD) : Buf (Elt Ideal) ((c : Thread nD τ).loc main_v0_0) :=
  m ((c : Thread nD τ).loc main_arg1)

/-- A block written to result 0 is that block of the whole. -/
theorem flushed4 (c : Dev nD) (t : Fin cfg0.N) : (dats m 0 c).flushed 4 t = (win0_4.blk t).view.read (Elt Ideal) (grad m c) := by
  rw [Value.flushed4]
  unfold out0_4
  rw [View.canon_unit_zero hz, View.ld_unit_zero hz]
  rfl

/-- The rows of a block of result 0. -/
theorem mem_blk4 (t : Fin cfg0.N) (i : S1024x896.Idx) :
    i ∈ ((cfg0.win 4).blk t).view.set ↔ t.val * 256 ≤ (i 0 : Nat) ∧ (i 0 : Nat) < t.val * 256 + 256 := by
  show i ∈ ((View.whole main_v0_0).slice (win0_4.rect t)).set ↔ _
  rw [View.set_slice_whole, Rect.mem_set_unit]
  have h1 : (i 1 : Nat) < 896 := (i 1).isLt
  have e : win0_4.index t 0 * win0_4.size 0 = t.val * 256 ∧ win0_4.xsize (grid0.coords t) 0 = 256
      ∧ win0_4.index t 1 * win0_4.size 1 = 0 ∧ win0_4.xsize (grid0.coords t) 1 = 896 := by
    rcases fin_N0 t with rfl | rfl | rfl | rfl <;> decide +kernel
  refine ⟨fun h => ?_, fun h a => ?_⟩
  · have : win0_4.index t 0 * win0_4.size 0 ≤ (i 0 : Nat) ∧ (i 0 : Nat) < win0_4.index t 0 * win0_4.size 0 + win0_4.xsize (grid0.coords t) 0 := h 0
    rw [e.1, e.2.1] at this; exact this
  · match a with
    | ⟨0, _⟩ => show win0_4.index t 0 * win0_4.size 0 ≤ (i 0 : Nat) ∧ (i 0 : Nat) < win0_4.index t 0 * win0_4.size 0 + win0_4.xsize (grid0.coords t) 0
                rw [e.1, e.2.1]; exact h
    | ⟨1, _⟩ => show win0_4.index t 1 * win0_4.size 1 ≤ (i 1 : Nat) ∧ (i 1 : Nat) < win0_4.index t 1 * win0_4.size 1 + win0_4.xsize (grid0.coords t) 1
                rw [e.2.2.1, e.2.2.2]; omega

/-- The blocks of result 0 cover its array. -/
theorem cover4 (i : S1024x896.Idx) : ∃ t : Fin cfg0.N, (cfg0.win 4).flush t = true ∧ i ∈ ((cfg0.win 4).blk t).view.set := by
  have h0 : (i 0 : Nat) < 1024 := (i 0).isLt
  have hN : cfg0.N = 4 := N_0
  refine ⟨⟨(i 0 : Nat) / 256, by omega⟩, flush0_4 _, ?_⟩
  rw [mem_blk4]
  dsimp only
  omega

/-- What the call leaves in result 1: the weight's step. -/
abbrev step (c : Dev nD) : Buf (Elt Ideal) ((c : Thread nD τ).loc main_v0_1) :=
  delta (F := Ideal) (s := S1024x896) (m ((c : Thread nD τ).loc main_arg0)) (m ((c : Thread nD τ).loc main_arg1)) (m ((c : Thread nD τ).loc main_arg2)) (m ((c : Thread nD τ).loc main_arg3))

/-- A block written to result 1 is that block of the whole. -/
theorem flushed5 (c : Dev nD) (t : Fin cfg0.N) : (dats m 0 c).flushed 5 t = (win0_5.blk t).view.read (Elt Ideal) (step m c) := by
  rw [Value.flushed5]
  unfold out0_5
  rw [View.canon_unit_zero hz, View.ld_unit_zero hz, View.ld_unit_zero hz, View.ld_unit_zero hz, View.ld_unit_zero hz]
  rfl

/-- The rows of a block of result 1. -/
theorem mem_blk5 (t : Fin cfg0.N) (i : S1024x896.Idx) :
    i ∈ ((cfg0.win 5).blk t).view.set ↔ t.val * 256 ≤ (i 0 : Nat) ∧ (i 0 : Nat) < t.val * 256 + 256 := by
  show i ∈ ((View.whole main_v0_1).slice (win0_5.rect t)).set ↔ _
  rw [View.set_slice_whole, Rect.mem_set_unit]
  have h1 : (i 1 : Nat) < 896 := (i 1).isLt
  have e : win0_5.index t 0 * win0_5.size 0 = t.val * 256 ∧ win0_5.xsize (grid0.coords t) 0 = 256
      ∧ win0_5.index t 1 * win0_5.size 1 = 0 ∧ win0_5.xsize (grid0.coords t) 1 = 896 := by
    rcases fin_N0 t with rfl | rfl | rfl | rfl <;> decide +kernel
  refine ⟨fun h => ?_, fun h a => ?_⟩
  · have : win0_5.index t 0 * win0_5.size 0 ≤ (i 0 : Nat) ∧ (i 0 : Nat) < win0_5.index t 0 * win0_5.size 0 + win0_5.xsize (grid0.coords t) 0 := h 0
    rw [e.1, e.2.1] at this; exact this
  · match a with
    | ⟨0, _⟩ => show win0_5.index t 0 * win0_5.size 0 ≤ (i 0 : Nat) ∧ (i 0 : Nat) < win0_5.index t 0 * win0_5.size 0 + win0_5.xsize (grid0.coords t) 0
                rw [e.1, e.2.1]; exact h
    | ⟨1, _⟩ => show win0_5.index t 1 * win0_5.size 1 ≤ (i 1 : Nat) ∧ (i 1 : Nat) < win0_5.index t 1 * win0_5.size 1 + win0_5.xsize (grid0.coords t) 1
                rw [e.2.2.1, e.2.2.2]; omega

/-- The blocks of result 1 cover its array. -/
theorem cover5 (i : S1024x896.Idx) : ∃ t : Fin cfg0.N, (cfg0.win 5).flush t = true ∧ i ∈ ((cfg0.win 5).blk t).view.set := by
  have h0 : (i 0 : Nat) < 1024 := (i 0).isLt
  have hN : cfg0.N = 4 := N_0
  refine ⟨⟨(i 0 : Nat) / 256, by omega⟩, flush0_5 _, ?_⟩
  rw [mem_blk5]
  dsimp only
  omega

/-- What the call leaves in result 2: the first moment. -/
abbrev mom1 (c : Dev nD) : Buf (Elt Ideal) ((c : Thread nD τ).loc main_v0_2) :=
  newM (F := Ideal) (s := S1024x896) (m ((c : Thread nD τ).loc main_arg1)) (m ((c : Thread nD τ).loc main_arg2))

/-- A block written to result 2 is that block of the whole. -/
theorem flushed6 (c : Dev nD) (t : Fin cfg0.N) : (dats m 0 c).flushed 6 t = (win0_6.blk t).view.read (Elt Ideal) (mom1 m c) := by
  rw [Value.flushed6]
  unfold out0_6
  rw [View.canon_unit_zero hz, View.ld_unit_zero hz, View.ld_unit_zero hz]
  rfl

/-- The rows of a block of result 2. -/
theorem mem_blk6 (t : Fin cfg0.N) (i : S1024x896.Idx) :
    i ∈ ((cfg0.win 6).blk t).view.set ↔ t.val * 256 ≤ (i 0 : Nat) ∧ (i 0 : Nat) < t.val * 256 + 256 := by
  show i ∈ ((View.whole main_v0_2).slice (win0_6.rect t)).set ↔ _
  rw [View.set_slice_whole, Rect.mem_set_unit]
  have h1 : (i 1 : Nat) < 896 := (i 1).isLt
  have e : win0_6.index t 0 * win0_6.size 0 = t.val * 256 ∧ win0_6.xsize (grid0.coords t) 0 = 256
      ∧ win0_6.index t 1 * win0_6.size 1 = 0 ∧ win0_6.xsize (grid0.coords t) 1 = 896 := by
    rcases fin_N0 t with rfl | rfl | rfl | rfl <;> decide +kernel
  refine ⟨fun h => ?_, fun h a => ?_⟩
  · have : win0_6.index t 0 * win0_6.size 0 ≤ (i 0 : Nat) ∧ (i 0 : Nat) < win0_6.index t 0 * win0_6.size 0 + win0_6.xsize (grid0.coords t) 0 := h 0
    rw [e.1, e.2.1] at this; exact this
  · match a with
    | ⟨0, _⟩ => show win0_6.index t 0 * win0_6.size 0 ≤ (i 0 : Nat) ∧ (i 0 : Nat) < win0_6.index t 0 * win0_6.size 0 + win0_6.xsize (grid0.coords t) 0
                rw [e.1, e.2.1]; exact h
    | ⟨1, _⟩ => show win0_6.index t 1 * win0_6.size 1 ≤ (i 1 : Nat) ∧ (i 1 : Nat) < win0_6.index t 1 * win0_6.size 1 + win0_6.xsize (grid0.coords t) 1
                rw [e.2.2.1, e.2.2.2]; omega

/-- The blocks of result 2 cover its array. -/
theorem cover6 (i : S1024x896.Idx) : ∃ t : Fin cfg0.N, (cfg0.win 6).flush t = true ∧ i ∈ ((cfg0.win 6).blk t).view.set := by
  have h0 : (i 0 : Nat) < 1024 := (i 0).isLt
  have hN : cfg0.N = 4 := N_0
  refine ⟨⟨(i 0 : Nat) / 256, by omega⟩, flush0_6 _, ?_⟩
  rw [mem_blk6]
  dsimp only
  omega

/-- What the call leaves in result 3: the second moment. -/
abbrev mom2 (c : Dev nD) : Buf (Elt Ideal) ((c : Thread nD τ).loc main_v0_3) :=
  newV (F := Ideal) (s := S1024x896) (m ((c : Thread nD τ).loc main_arg1)) (m ((c : Thread nD τ).loc main_arg3))

/-- A block written to result 3 is that block of the whole. -/
theorem flushed7 (c : Dev nD) (t : Fin cfg0.N) : (dats m 0 c).flushed 7 t = (win0_7.blk t).view.read (Elt Ideal) (mom2 m c) := by
  rw [Value.flushed7]
  unfold out0_7
  rw [View.canon_unit_zero hz, View.ld_unit_zero hz, View.ld_unit_zero hz]
  rfl

/-- The rows of a block of result 3. -/
theorem mem_blk7 (t : Fin cfg0.N) (i : S1024x896.Idx) :
    i ∈ ((cfg0.win 7).blk t).view.set ↔ t.val * 256 ≤ (i 0 : Nat) ∧ (i 0 : Nat) < t.val * 256 + 256 := by
  show i ∈ ((View.whole main_v0_3).slice (win0_7.rect t)).set ↔ _
  rw [View.set_slice_whole, Rect.mem_set_unit]
  have h1 : (i 1 : Nat) < 896 := (i 1).isLt
  have e : win0_7.index t 0 * win0_7.size 0 = t.val * 256 ∧ win0_7.xsize (grid0.coords t) 0 = 256
      ∧ win0_7.index t 1 * win0_7.size 1 = 0 ∧ win0_7.xsize (grid0.coords t) 1 = 896 := by
    rcases fin_N0 t with rfl | rfl | rfl | rfl <;> decide +kernel
  refine ⟨fun h => ?_, fun h a => ?_⟩
  · have : win0_7.index t 0 * win0_7.size 0 ≤ (i 0 : Nat) ∧ (i 0 : Nat) < win0_7.index t 0 * win0_7.size 0 + win0_7.xsize (grid0.coords t) 0 := h 0
    rw [e.1, e.2.1] at this; exact this
  · match a with
    | ⟨0, _⟩ => show win0_7.index t 0 * win0_7.size 0 ≤ (i 0 : Nat) ∧ (i 0 : Nat) < win0_7.index t 0 * win0_7.size 0 + win0_7.xsize (grid0.coords t) 0
                rw [e.1, e.2.1]; exact h
    | ⟨1, _⟩ => show win0_7.index t 1 * win0_7.size 1 ≤ (i 1 : Nat) ∧ (i 1 : Nat) < win0_7.index t 1 * win0_7.size 1 + win0_7.xsize (grid0.coords t) 1
                rw [e.2.2.1, e.2.2.2]; omega

/-- The blocks of result 3 cover its array. -/
theorem cover7 (i : S1024x896.Idx) : ∃ t : Fin cfg0.N, (cfg0.win 7).flush t = true ∧ i ∈ ((cfg0.win 7).blk t).view.set := by
  have h0 : (i 0 : Nat) < 1024 := (i 0).isLt
  have hN : cfg0.N = 4 := N_0
  refine ⟨⟨(i 0 : Nat) / 256, by omega⟩, flush0_7 _, ?_⟩
  rw [mem_blk7]
  dsimp only
  omega

/-- The call's run: each result is the whole array's, the arguments are unchanged. -/
theorem run : θ_run (defs (F := Ideal)) (onTc (τ := τ) (main (F := Ideal))) ⟨m, fun _ => 0, ρ⟩ fun r => ∀ c : Dev nD,
      r.2.mem ((c : Thread nD τ).loc main_v0_0) = grad m c
      ∧ r.2.mem ((c : Thread nD τ).loc main_v0_1) = step m c
      ∧ r.2.mem ((c : Thread nD τ).loc main_v0_2) = mom1 m c
      ∧ r.2.mem ((c : Thread nD τ).loc main_v0_3) = mom2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h4, h5, h6, h7, hargs⟩ := h c
    exact ⟨h4.trans ((dats m 0 c).arrAt_eq_of_cover 4 (grad m c) (fun t _ => flushed4 m c t) cover4),
      h5.trans ((dats m 0 c).arrAt_eq_of_cover 5 (step m c) (fun t _ => flushed5 m c t) cover5),
      h6.trans ((dats m 0 c).arrAt_eq_of_cover 6 (mom1 m c) (fun t _ => flushed6 m c t) cover6),
      h7.trans ((dats m 0 c).arrAt_eq_of_cover 7 (mom2 m c) (fun t _ => flushed7 m c t) cover7), hargs⟩) (Value.run_blocks m ρ)

end Cert.Kernel4Ideal.Big

namespace Cert.Big4

/-- The reference declares no semaphore, so its run's end has none raised. -/
theorem frame_reference : Cert.quiescent_Reference4Ideal (hReference4Ideal := Cert.Reference4Ideal.Gen.facts) :=
  fun m g _ => (θ_run Cert.Reference4Ideal.defs _ _).mono (fun r h => ⟨fun c => (h c).2.2.2.2, sem_eq_zero_of_no_sems rfl r.2⟩) (Cert.Reference4Ideal.Value.run m g)

/-- The call and the reference leave the same arrays, for any arguments. -/
theorem algebraic : Cert.algebraic_Kernel4Ideal_Reference4Ideal (hKernel4Ideal := Cert.Kernel4Ideal.Gen.facts) (hReference4Ideal := Cert.Reference4Ideal.Gen.facts) := by
  intro m g m' g' _ hag
  refine ⟨_, _, _, _, Cert.Kernel4Ideal.Big.run m g, (θ_run Cert.Reference4Ideal.defs _ _).mono (fun r h c => ?_) (Cert.Reference4Ideal.Value.run m' g')⟩
  obtain ⟨h0, h1, h2, h3⟩ := hag c
  obtain ⟨r0, r1, r2, r3, hargs⟩ := h c
  refine ⟨r0.trans h1, r1.trans ?_, r2.trans ?_, r3.trans ?_, hargs⟩
  · rw [h0, h1, h2, h3]; rfl
  · rw [h1, h2]; rfl
  · rw [h1, h3]; rfl

end Cert.Big4

end
-- ==== Proof.Big5.lean ====
/- The AdamW call of the MLP's second weight: the 1024 rows go through the chip in blocks of 256, and every block written is that block of the
   whole array's update (module `Adam`). The reference updates the whole array at once, with the same numbers. -/
module

public import proofs.«01_k».proof.Proof.Adam
public import proofs.«01_k».proof.Defs
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import Idealize.ShloMosaic.Lib.Pipeline.Value
public import Idealize.ShloMosaic.Lib.Quiescent

@[expose] public section

set_option maxRecDepth 16384

noncomputable section

open Idealize.ShloMosaic Idealize.ShloMosaic.TcCoe Idealize.SL.Sem Cert.Adam

namespace Cert.Kernel5Ideal.Big

open Cert.Kernel5Ideal Cert.Kernel5Ideal.Gen

variable (m : (ℓ : Loc nD τ sig) → Buf (Elt Ideal) ℓ) (ρ : Dev nD → PrngReg)

theorem hz : (![0, 0] : Fin 2 → Nat) = fun _ => 0 := funext fun a => by fin_cases a <;> rfl

/-- What the call leaves in result 0: the gradient itself. -/
abbrev grad (c : Dev nD) : Buf (Elt Ideal) ((c : Thread nD τ).loc main_v0_0) :=
  m ((c : Thread nD τ).loc main_arg1)

/-- A block written to result 0 is that block of the whole. -/
theorem flushed4 (c : Dev nD) (t : Fin cfg0.N) : (dats m 0 c).flushed 4 t = (win0_4.blk t).view.read (Elt Ideal) (grad m c) := by
  rw [Value.flushed4]
  unfold out0_4
  rw [View.canon_unit_zero hz, View.ld_unit_zero hz]
  rfl

/-- The rows of a block of result 0. -/
theorem mem_blk4 (t : Fin cfg0.N) (i : S1024x1024.Idx) :
    i ∈ ((cfg0.win 4).blk t).view.set ↔ t.val * 256 ≤ (i 0 : Nat) ∧ (i 0 : Nat) < t.val * 256 + 256 := by
  show i ∈ ((View.whole main_v0_0).slice (win0_4.rect t)).set ↔ _
  rw [View.set_slice_whole, Rect.mem_set_unit]
  have h1 : (i 1 : Nat) < 1024 := (i 1).isLt
  have e : win0_4.index t 0 * win0_4.size 0 = t.val * 256 ∧ win0_4.xsize (grid0.coords t) 0 = 256
      ∧ win0_4.index t 1 * win0_4.size 1 = 0 ∧ win0_4.xsize (grid0.coords t) 1 = 1024 := by
    rcases fin_N0 t with rfl | rfl | rfl | rfl <;> decide +kernel
  refine ⟨fun h => ?_, fun h a => ?_⟩
  · have : win0_4.index t 0 * win0_4.size 0 ≤ (i 0 : Nat) ∧ (i 0 : Nat) < win0_4.index t 0 * win0_4.size 0 + win0_4.xsize (grid0.coords t) 0 := h 0
    rw [e.1, e.2.1] at this; exact this
  · match a with
    | ⟨0, _⟩ => show win0_4.index t 0 * win0_4.size 0 ≤ (i 0 : Nat) ∧ (i 0 : Nat) < win0_4.index t 0 * win0_4.size 0 + win0_4.xsize (grid0.coords t) 0
                rw [e.1, e.2.1]; exact h
    | ⟨1, _⟩ => show win0_4.index t 1 * win0_4.size 1 ≤ (i 1 : Nat) ∧ (i 1 : Nat) < win0_4.index t 1 * win0_4.size 1 + win0_4.xsize (grid0.coords t) 1
                rw [e.2.2.1, e.2.2.2]; omega

/-- The blocks of result 0 cover its array. -/
theorem cover4 (i : S1024x1024.Idx) : ∃ t : Fin cfg0.N, (cfg0.win 4).flush t = true ∧ i ∈ ((cfg0.win 4).blk t).view.set := by
  have h0 : (i 0 : Nat) < 1024 := (i 0).isLt
  have hN : cfg0.N = 4 := N_0
  refine ⟨⟨(i 0 : Nat) / 256, by omega⟩, flush0_4 _, ?_⟩
  rw [mem_blk4]
  dsimp only
  omega

/-- What the call leaves in result 1: the weight's step. -/
abbrev step (c : Dev nD) : Buf (Elt Ideal) ((c : Thread nD τ).loc main_v0_1) :=
  delta (F := Ideal) (s := S1024x1024) (m ((c : Thread nD τ).loc main_arg0)) (m ((c : Thread nD τ).loc main_arg1)) (m ((c : Thread nD τ).loc main_arg2)) (m ((c : Thread nD τ).loc main_arg3))

/-- A block written to result 1 is that block of the whole. -/
theorem flushed5 (c : Dev nD) (t : Fin cfg0.N) : (dats m 0 c).flushed 5 t = (win0_5.blk t).view.read (Elt Ideal) (step m c) := by
  rw [Value.flushed5]
  unfold out0_5
  rw [View.canon_unit_zero hz, View.ld_unit_zero hz, View.ld_unit_zero hz, View.ld_unit_zero hz, View.ld_unit_zero hz]
  rfl

/-- The rows of a block of result 1. -/
theorem mem_blk5 (t : Fin cfg0.N) (i : S1024x1024.Idx) :
    i ∈ ((cfg0.win 5).blk t).view.set ↔ t.val * 256 ≤ (i 0 : Nat) ∧ (i 0 : Nat) < t.val * 256 + 256 := by
  show i ∈ ((View.whole main_v0_1).slice (win0_5.rect t)).set ↔ _
  rw [View.set_slice_whole, Rect.mem_set_unit]
  have h1 : (i 1 : Nat) < 1024 := (i 1).isLt
  have e : win0_5.index t 0 * win0_5.size 0 = t.val * 256 ∧ win0_5.xsize (grid0.coords t) 0 = 256
      ∧ win0_5.index t 1 * win0_5.size 1 = 0 ∧ win0_5.xsize (grid0.coords t) 1 = 1024 := by
    rcases fin_N0 t with rfl | rfl | rfl | rfl <;> decide +kernel
  refine ⟨fun h => ?_, fun h a => ?_⟩
  · have : win0_5.index t 0 * win0_5.size 0 ≤ (i 0 : Nat) ∧ (i 0 : Nat) < win0_5.index t 0 * win0_5.size 0 + win0_5.xsize (grid0.coords t) 0 := h 0
    rw [e.1, e.2.1] at this; exact this
  · match a with
    | ⟨0, _⟩ => show win0_5.index t 0 * win0_5.size 0 ≤ (i 0 : Nat) ∧ (i 0 : Nat) < win0_5.index t 0 * win0_5.size 0 + win0_5.xsize (grid0.coords t) 0
                rw [e.1, e.2.1]; exact h
    | ⟨1, _⟩ => show win0_5.index t 1 * win0_5.size 1 ≤ (i 1 : Nat) ∧ (i 1 : Nat) < win0_5.index t 1 * win0_5.size 1 + win0_5.xsize (grid0.coords t) 1
                rw [e.2.2.1, e.2.2.2]; omega

/-- The blocks of result 1 cover its array. -/
theorem cover5 (i : S1024x1024.Idx) : ∃ t : Fin cfg0.N, (cfg0.win 5).flush t = true ∧ i ∈ ((cfg0.win 5).blk t).view.set := by
  have h0 : (i 0 : Nat) < 1024 := (i 0).isLt
  have hN : cfg0.N = 4 := N_0
  refine ⟨⟨(i 0 : Nat) / 256, by omega⟩, flush0_5 _, ?_⟩
  rw [mem_blk5]
  dsimp only
  omega

/-- What the call leaves in result 2: the first moment. -/
abbrev mom1 (c : Dev nD) : Buf (Elt Ideal) ((c : Thread nD τ).loc main_v0_2) :=
  newM (F := Ideal) (s := S1024x1024) (m ((c : Thread nD τ).loc main_arg1)) (m ((c : Thread nD τ).loc main_arg2))

/-- A block written to result 2 is that block of the whole. -/
theorem flushed6 (c : Dev nD) (t : Fin cfg0.N) : (dats m 0 c).flushed 6 t = (win0_6.blk t).view.read (Elt Ideal) (mom1 m c) := by
  rw [Value.flushed6]
  unfold out0_6
  rw [View.canon_unit_zero hz, View.ld_unit_zero hz, View.ld_unit_zero hz]
  rfl

/-- The rows of a block of result 2. -/
theorem mem_blk6 (t : Fin cfg0.N) (i : S1024x1024.Idx) :
    i ∈ ((cfg0.win 6).blk t).view.set ↔ t.val * 256 ≤ (i 0 : Nat) ∧ (i 0 : Nat) < t.val * 256 + 256 := by
  show i ∈ ((View.whole main_v0_2).slice (win0_6.rect t)).set ↔ _
  rw [View.set_slice_whole, Rect.mem_set_unit]
  have h1 : (i 1 : Nat) < 1024 := (i 1).isLt
  have e : win0_6.index t 0 * win0_6.size 0 = t.val * 256 ∧ win0_6.xsize (grid0.coords t) 0 = 256
      ∧ win0_6.index t 1 * win0_6.size 1 = 0 ∧ win0_6.xsize (grid0.coords t) 1 = 1024 := by
    rcases fin_N0 t with rfl | rfl | rfl | rfl <;> decide +kernel
  refine ⟨fun h => ?_, fun h a => ?_⟩
  · have : win0_6.index t 0 * win0_6.size 0 ≤ (i 0 : Nat) ∧ (i 0 : Nat) < win0_6.index t 0 * win0_6.size 0 + win0_6.xsize (grid0.coords t) 0 := h 0
    rw [e.1, e.2.1] at this; exact this
  · match a with
    | ⟨0, _⟩ => show win0_6.index t 0 * win0_6.size 0 ≤ (i 0 : Nat) ∧ (i 0 : Nat) < win0_6.index t 0 * win0_6.size 0 + win0_6.xsize (grid0.coords t) 0
                rw [e.1, e.2.1]; exact h
    | ⟨1, _⟩ => show win0_6.index t 1 * win0_6.size 1 ≤ (i 1 : Nat) ∧ (i 1 : Nat) < win0_6.index t 1 * win0_6.size 1 + win0_6.xsize (grid0.coords t) 1
                rw [e.2.2.1, e.2.2.2]; omega

/-- The blocks of result 2 cover its array. -/
theorem cover6 (i : S1024x1024.Idx) : ∃ t : Fin cfg0.N, (cfg0.win 6).flush t = true ∧ i ∈ ((cfg0.win 6).blk t).view.set := by
  have h0 : (i 0 : Nat) < 1024 := (i 0).isLt
  have hN : cfg0.N = 4 := N_0
  refine ⟨⟨(i 0 : Nat) / 256, by omega⟩, flush0_6 _, ?_⟩
  rw [mem_blk6]
  dsimp only
  omega

/-- What the call leaves in result 3: the second moment. -/
abbrev mom2 (c : Dev nD) : Buf (Elt Ideal) ((c : Thread nD τ).loc main_v0_3) :=
  newV (F := Ideal) (s := S1024x1024) (m ((c : Thread nD τ).loc main_arg1)) (m ((c : Thread nD τ).loc main_arg3))

/-- A block written to result 3 is that block of the whole. -/
theorem flushed7 (c : Dev nD) (t : Fin cfg0.N) : (dats m 0 c).flushed 7 t = (win0_7.blk t).view.read (Elt Ideal) (mom2 m c) := by
  rw [Value.flushed7]
  unfold out0_7
  rw [View.canon_unit_zero hz, View.ld_unit_zero hz, View.ld_unit_zero hz]
  rfl

/-- The rows of a block of result 3. -/
theorem mem_blk7 (t : Fin cfg0.N) (i : S1024x1024.Idx) :
    i ∈ ((cfg0.win 7).blk t).view.set ↔ t.val * 256 ≤ (i 0 : Nat) ∧ (i 0 : Nat) < t.val * 256 + 256 := by
  show i ∈ ((View.whole main_v0_3).slice (win0_7.rect t)).set ↔ _
  rw [View.set_slice_whole, Rect.mem_set_unit]
  have h1 : (i 1 : Nat) < 1024 := (i 1).isLt
  have e : win0_7.index t 0 * win0_7.size 0 = t.val * 256 ∧ win0_7.xsize (grid0.coords t) 0 = 256
      ∧ win0_7.index t 1 * win0_7.size 1 = 0 ∧ win0_7.xsize (grid0.coords t) 1 = 1024 := by
    rcases fin_N0 t with rfl | rfl | rfl | rfl <;> decide +kernel
  refine ⟨fun h => ?_, fun h a => ?_⟩
  · have : win0_7.index t 0 * win0_7.size 0 ≤ (i 0 : Nat) ∧ (i 0 : Nat) < win0_7.index t 0 * win0_7.size 0 + win0_7.xsize (grid0.coords t) 0 := h 0
    rw [e.1, e.2.1] at this; exact this
  · match a with
    | ⟨0, _⟩ => show win0_7.index t 0 * win0_7.size 0 ≤ (i 0 : Nat) ∧ (i 0 : Nat) < win0_7.index t 0 * win0_7.size 0 + win0_7.xsize (grid0.coords t) 0
                rw [e.1, e.2.1]; exact h
    | ⟨1, _⟩ => show win0_7.index t 1 * win0_7.size 1 ≤ (i 1 : Nat) ∧ (i 1 : Nat) < win0_7.index t 1 * win0_7.size 1 + win0_7.xsize (grid0.coords t) 1
                rw [e.2.2.1, e.2.2.2]; omega

/-- The blocks of result 3 cover its array. -/
theorem cover7 (i : S1024x1024.Idx) : ∃ t : Fin cfg0.N, (cfg0.win 7).flush t = true ∧ i ∈ ((cfg0.win 7).blk t).view.set := by
  have h0 : (i 0 : Nat) < 1024 := (i 0).isLt
  have hN : cfg0.N = 4 := N_0
  refine ⟨⟨(i 0 : Nat) / 256, by omega⟩, flush0_7 _, ?_⟩
  rw [mem_blk7]
  dsimp only
  omega

/-- The call's run: each result is the whole array's, the arguments are unchanged. -/
theorem run : θ_run (defs (F := Ideal)) (onTc (τ := τ) (main (F := Ideal))) ⟨m, fun _ => 0, ρ⟩ fun r => ∀ c : Dev nD,
      r.2.mem ((c : Thread nD τ).loc main_v0_0) = grad m c
      ∧ r.2.mem ((c : Thread nD τ).loc main_v0_1) = step m c
      ∧ r.2.mem ((c : Thread nD τ).loc main_v0_2) = mom1 m c
      ∧ r.2.mem ((c : Thread nD τ).loc main_v0_3) = mom2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => by
    obtain ⟨h4, h5, h6, h7, hargs⟩ := h c
    exact ⟨h4.trans ((dats m 0 c).arrAt_eq_of_cover 4 (grad m c) (fun t _ => flushed4 m c t) cover4),
      h5.trans ((dats m 0 c).arrAt_eq_of_cover 5 (step m c) (fun t _ => flushed5 m c t) cover5),
      h6.trans ((dats m 0 c).arrAt_eq_of_cover 6 (mom1 m c) (fun t _ => flushed6 m c t) cover6),
      h7.trans ((dats m 0 c).arrAt_eq_of_cover 7 (mom2 m c) (fun t _ => flushed7 m c t) cover7), hargs⟩) (Value.run_blocks m ρ)

end Cert.Kernel5Ideal.Big

namespace Cert.Big5

/-- The reference declares no semaphore, so its run's end has none raised. -/
theorem frame_reference : Cert.quiescent_Reference5Ideal (hReference5Ideal := Cert.Reference5Ideal.Gen.facts) :=
  fun m g _ => (θ_run Cert.Reference5Ideal.defs _ _).mono (fun r h => ⟨fun c => (h c).2.2.2.2, sem_eq_zero_of_no_sems rfl r.2⟩) (Cert.Reference5Ideal.Value.run m g)

/-- The call and the reference leave the same arrays, for any arguments. -/
theorem algebraic : Cert.algebraic_Kernel5Ideal_Reference5Ideal (hKernel5Ideal := Cert.Kernel5Ideal.Gen.facts) (hReference5Ideal := Cert.Reference5Ideal.Gen.facts) := by
  intro m g m' g' _ hag
  refine ⟨_, _, _, _, Cert.Kernel5Ideal.Big.run m g, (θ_run Cert.Reference5Ideal.defs _ _).mono (fun r h c => ?_) (Cert.Reference5Ideal.Value.run m' g')⟩
  obtain ⟨h0, h1, h2, h3⟩ := hag c
  obtain ⟨r0, r1, r2, r3, hargs⟩ := h c
  refine ⟨r0.trans h1, r1.trans ?_, r2.trans ?_, r3.trans ?_, hargs⟩
  · rw [h0, h1, h2, h3]; rfl
  · rw [h1, h2]; rfl
  · rw [h1, h3]; rfl

end Cert.Big5

end
-- ==== Proof.InTile.lean ====
/- The input projection's backward call: what one grid point leaves in its two outputs, what the grid's points leave one
   after another, and each output's array after the run, for any reading of the floats. -/
module

public import proofs.«01_k».proof.Proof.Gen.Kernel6Ideal.Value
public import proofs.«01_k».proof.Proof.Tile
public import Idealize.ShloMosaic.Lib.ValueIdx

@[expose] public section

set_option maxRecDepth 16384

noncomputable section

namespace Cert.Kernel6Ideal.InTile

open Cert.Kernel6Ideal Cert.Kernel6Ideal.Gen Idealize.ShloMosaic Idealize.ShloMosaic.TcCoe Idealize.SL.Sem
open Idealize.ShloMosaic.Pipeline (Dat)
open Idealize.ShloMosaic.ValueIdx
open Cert.KernelIdeal.Tile (readAt_whole readAt_rect readCov_rect canon_whole2 read_writes_overlay canon_overlay)

variable {F : FTy → Type} [FloatOps F]

/-! ## One grid point -/

variable (x0 : Vec F S256x3584 .bf16) (x1 : Vec F S4x1024x896 .bf16) (x2 x3 : Vec F S256x1024 .f32) (x4 : Vec F S1x1024 .f32)

/-- The four blocks of columns of the cotangent and of the weight. -/
def u0 : Vec F S256x896 .bf16 := View.ld x0 (Rect.unit ![0, 0] S256x896.size inb_S256x3584_S256x896_0_0)
def u1 : Vec F S256x896 .bf16 := View.ld x0 (Rect.unit ![0, 896] S256x896.size inb_S256x3584_S256x896_0_896)
def u2 : Vec F S256x896 .bf16 := View.ld x0 (Rect.unit ![0, 1792] S256x896.size inb_S256x3584_S256x896_0_1792)
def u3 : Vec F S256x896 .bf16 := View.ld x0 (Rect.unit ![0, 2688] S256x896.size inb_S256x3584_S256x896_0_2688)
def w0 : Vec F S1x1024x896 .bf16 := View.ld x1 (Rect.unit ![0, 0, 0] S1x1024x896.size inb_S4x1024x896_S1x1024x896_0_0_0)
def w1 : Vec F S1x1024x896 .bf16 := View.ld x1 (Rect.unit ![1, 0, 0] S1x1024x896.size inb_S4x1024x896_S1x1024x896_1_0_0)
def w2 : Vec F S1x1024x896 .bf16 := View.ld x1 (Rect.unit ![2, 0, 0] S1x1024x896.size inb_S4x1024x896_S1x1024x896_2_0_0)
def w3 : Vec F S1x1024x896 .bf16 := View.ld x1 (Rect.unit ![3, 0, 0] S1x1024x896.size inb_S4x1024x896_S1x1024x896_3_0_0)
/-- The cotangent taken back through the weight. -/
def tH : FVec F S256x1024 .f32 := k0_pay6 (u0 x0) (w0 x1) (u1 x0) (w1 x1) (u2 x0) (w2 x1) (u3 x0) (w3 x1)
/-- The gradient at the block's rows. -/
def oGx : Vec F S256x1024 .f32 := k0_pay4 (tH x0 x1) x2 (k0_pay7 x2) x4 x3
abbrev row0 : Rect S8x1024 := Rect.unit ![0, 0] ![1, 1024] inb_S8x1024_S1x1024_0_0
/-- The rows of sums after the point, over what they were (`acc`). -/
def oSt (acc : Vec F S8x1024 .f32) : Vec F S8x1024 .f32 :=
  row0.overlay acc (k0_pay3 (tH x0 x1) x2 (k0_pay7 x2) (View.ld acc row0))

section Named

variable (c : Dev nD) (i : grid0.Coords)
variable (arg1 : Memref sig .tc .vmem S256x3584 .bf16) (harg1 : arg1.IsWhole) (arg2 : Memref sig .tc .vmem S4x1024x896 .bf16) (harg2 : arg2.IsWhole)
  (arg3 : Memref sig .tc .vmem S256x1024 .f32) (harg3 : arg3.IsWhole) (arg4 : Memref sig .tc .vmem S256x1024 .f32) (harg4 : arg4.IsWhole)
  (arg5 : Memref sig .tc .vmem S1x1024 .f32) (harg5 : arg5.IsWhole) (arg6 : Memref sig .tc .vmem S256x1024 .f32) (harg6 : arg6.IsWhole)
  (arg7 : Memref sig .tc .vmem S8x1024 .f32) (harg7 : arg7.IsWhole)

theorem A_r : kernelRun0_A.sl.r c arg1 harg1 arg2 harg2 x0 x1 = tH x0 x1 := by
  unfold kernelRun0_A.sl.r tH; simp only [readAt_rect]; rfl

theorem A_r_1 : kernelRun0_A.sl.r_1 c arg3 harg3 x2 = x2 := by
  unfold kernelRun0_A.sl.r_1; exact readAt_whole _ _ _

theorem A_r_2 : kernelRun0_A.sl.r_2 c arg3 harg3 x2 = k0_pay7 x2 := by
  unfold kernelRun0_A.sl.r_2; simp only [readAt_whole, A_r_1]

theorem A_H6_1 : View.canon (kernelRun0_A.sl.H6_1 (F := F)) = k0_pay5 := by
  unfold kernelRun0_A.sl.H6_1; exact canon_whole2 _ _

theorem A_v37 : kernelRun0_A.sl.v37 (F := F) c arg7 = View.ld k0_pay5 row0 := by
  unfold kernelRun0_A.sl.v37; rw [readCov_rect, A_H6_1]

theorem A_out5 (hc0 : cond0_0 i) : out0_A_5 c i arg1 harg1 arg2 harg2 arg3 harg3 arg4 harg4 arg5 harg5 arg6 harg6 arg7 harg7 hc0 x0 x1 x2 x3 x4 = oGx x0 x1 x2 x3 x4 := by
  unfold out0_A_5 oGx; rw [View.read_writes_junk_eq_canon]; dsimp only [kernelRun0_A]; rw [canon_whole2]
  simp only [readAt_whole, A_r, A_r_1, A_r_2]

theorem A_out6 (hc0 : cond0_0 i) : out0_A_6 c i arg1 harg1 arg2 harg2 arg3 harg3 arg4 harg4 arg5 harg5 arg6 harg6 arg7 harg7 hc0 x0 x1 x2 x3 x4 = oSt x0 x1 x2 k0_pay5 := by
  unfold out0_A_6 oSt; rw [View.read_writes_junk_eq_canon]; dsimp only [kernelRun0_A]; rw [canon_overlay]
  simp only [A_H6_1, A_r, A_r_1, A_r_2, A_v37]

theorem B_r : kernelRun0_B.sl.r c arg1 harg1 arg2 harg2 x0 x1 = tH x0 x1 := by
  unfold kernelRun0_B.sl.r tH; simp only [readAt_rect]; rfl

theorem B_r_1 : kernelRun0_B.sl.r_1 c arg3 harg3 x2 = x2 := by
  unfold kernelRun0_B.sl.r_1; exact readAt_whole _ _ _

theorem B_r_2 : kernelRun0_B.sl.r_2 c arg3 harg3 x2 = k0_pay7 x2 := by
  unfold kernelRun0_B.sl.r_2; simp only [readAt_whole, B_r_1]

theorem B_out5 (hc0 : ¬cond0_0 i) (acc : Vec F S8x1024 .f32) : out0_B_5 c i arg1 harg1 arg2 harg2 arg3 harg3 arg4 harg4 arg5 harg5 arg6 harg6 arg7 harg7 hc0 x0 x1 x2 x3 x4 acc = oGx x0 x1 x2 x3 x4 := by
  unfold out0_B_5 oGx; rw [View.read_writes_junk_eq_canon]; dsimp only [kernelRun0_B]; rw [canon_whole2]
  simp only [readAt_whole, B_r, B_r_1, B_r_2]

theorem B_out6 (hc0 : ¬cond0_0 i) (acc : Vec F S8x1024 .f32) : out0_B_6 c i arg1 harg1 arg2 harg2 arg3 harg3 arg4 harg4 arg5 harg5 arg6 harg6 arg7 harg7 hc0 x0 x1 x2 x3 x4 acc = oSt x0 x1 x2 acc := by
  unfold out0_B_6 oSt; dsimp only [kernelRun0_B]
  rw [read_writes_overlay, View.writes_nil, harg7.read_unread]
  simp only [readAt_rect, B_r, B_r_1, B_r_2]

end Named

/-! ## The grid's points one after another -/

variable (m : (ℓ : Loc nD τ sig) → Buf (Elt F) ℓ) (ρ : Dev nD → PrngReg)

/-- The blocks of the inputs a point reads. -/
abbrev bu (c : Dev nD) (t : Fin cfg0.N) : Vec F S256x3584 .bf16 := iblk m c 0 t
abbrev bw (c : Dev nD) (t : Fin cfg0.N) : Vec F S4x1024x896 .bf16 := iblk m c 1 t
abbrev bx (c : Dev nD) (t : Fin cfg0.N) : Vec F S256x1024 .f32 := iblk m c 2 t
abbrev bd (c : Dev nD) (t : Fin cfg0.N) : Vec F S256x1024 .f32 := iblk m c 3 t
abbrev bg (c : Dev nD) (t : Fin cfg0.N) : Vec F S1x1024 .f32 := iblk m c 4 t

/-- The sums after point `n`. -/
def stN (c : Dev nD) : (n : ℕ) → n < cfg0.N → Vec F S8x1024 .f32
  | 0, h => oSt (bu m c ⟨0, h⟩) (bw m c ⟨0, h⟩) (bx m c ⟨0, h⟩) k0_pay5
  | n + 1, h => oSt (bu m c ⟨n + 1, h⟩) (bw m c ⟨n + 1, h⟩) (bx m c ⟨n + 1, h⟩) (stN c n (Nat.lt_of_succ_lt h))

/-- What every point leaves. -/
theorem outs_eq (c : Dev nD) : ∀ (n : ℕ) (hn : n < cfg0.N),
    outsAt0 m c n hn = (oGx (bu m c ⟨n, hn⟩) (bw m c ⟨n, hn⟩) (bx m c ⟨n, hn⟩) (bd m c ⟨n, hn⟩) (bg m c ⟨n, hn⟩), stN m c n hn)
  | 0, hn => by
    rw [outsAt0_A m c ⟨0, hn⟩ rfl]
    refine congrArg₂ Prod.mk ?_ ?_
    · apply A_out5
    · apply A_out6
  | n + 1, hn => by
    have ih := outs_eq c n (Nat.lt_of_succ_lt hn)
    have hN : n + 1 < 16 := lt_of_lt_of_eq hn (show cfg0.N = 16 from N_0)
    have e : (outsAt0 m c ((⟨n + 1, hn⟩ : Fin cfg0.N).val - 1) (Nat.lt_of_le_of_lt (Nat.sub_le _ _) hn)).2 = stN m c n (Nat.lt_of_succ_lt hn) :=
      congrArg Prod.snd ih
    rw [outsAt0_B m c ⟨n + 1, hn⟩ (by dsimp only; omega), e]
    refine congrArg₂ Prod.mk ?_ ?_
    · apply B_out5
    · apply B_out6

/-- Row `r` of point `t`'s block is row `256 t + r` of the array. -/
def tok (t : Fin cfg0.N) (r : Fin 256) : Fin 4096 :=
  ⟨t.val * 256 + r.val, by have h : t.val < 16 := lt_of_lt_of_eq t.isLt (show cfg0.N = 16 from N_0); have := r.isLt; omega⟩

theorem tok_surj (i : Fin 4096) : ∃ (t : Fin cfg0.N) (r : Fin 256), tok t r = i :=
  ⟨⟨i.val / 256, by rw [show cfg0.N = 16 from N_0]; have := i.isLt; omega⟩, ⟨i.val % 256, Nat.mod_lt _ (by decide)⟩,
    Fin.ext (by show i.val / 256 * 256 + i.val % 256 = i.val; omega)⟩

theorem idx0 : ∀ t : Fin cfg0.N, win0_0.index t (0 : Fin 2) = t.val ∧ win0_0.index t (1 : Fin 2) = 0 :=
  (by decide +kernel : ∀ t : Fin grid0.N, _)

theorem emb0 (t : Fin cfg0.N) (r : Fin 256) (j : Fin 3584) : ((cfg0.win 0).blk t).view.emb (ix2 r j) = ix2 (tok t r) j := by
  obtain ⟨e0, e1⟩ := idx0 t
  funext a; apply Fin.ext
  match a with
  | ⟨0, _⟩ => show win0_0.index t (0 : Fin 2) * 256 + 1 * r.val = t.val * 256 + r.val; rw [e0]; omega
  | ⟨1, _⟩ => show win0_0.index t (1 : Fin 2) * 3584 + 1 * j.val = j.val; rw [e1]; omega

theorem idx2 : ∀ t : Fin cfg0.N, win0_2.index t (0 : Fin 2) = t.val ∧ win0_2.index t (1 : Fin 2) = 0 :=
  (by decide +kernel : ∀ t : Fin grid0.N, _)

theorem emb2 (t : Fin cfg0.N) (r : Fin 256) (j : Fin 1024) : ((cfg0.win 2).blk t).view.emb (ix2 r j) = ix2 (tok t r) j := by
  obtain ⟨e0, e1⟩ := idx2 t
  funext a; apply Fin.ext
  match a with
  | ⟨0, _⟩ => show win0_2.index t (0 : Fin 2) * 256 + 1 * r.val = t.val * 256 + r.val; rw [e0]; omega
  | ⟨1, _⟩ => show win0_2.index t (1 : Fin 2) * 1024 + 1 * j.val = j.val; rw [e1]; omega

theorem idx3 : ∀ t : Fin cfg0.N, win0_3.index t (0 : Fin 2) = t.val ∧ win0_3.index t (1 : Fin 2) = 0 :=
  (by decide +kernel : ∀ t : Fin grid0.N, _)

theorem emb3 (t : Fin cfg0.N) (r : Fin 256) (j : Fin 1024) : ((cfg0.win 3).blk t).view.emb (ix2 r j) = ix2 (tok t r) j := by
  obtain ⟨e0, e1⟩ := idx3 t
  funext a; apply Fin.ext
  match a with
  | ⟨0, _⟩ => show win0_3.index t (0 : Fin 2) * 256 + 1 * r.val = t.val * 256 + r.val; rw [e0]; omega
  | ⟨1, _⟩ => show win0_3.index t (1 : Fin 2) * 1024 + 1 * j.val = j.val; rw [e1]; omega

theorem idx4 : ∀ t : Fin cfg0.N, win0_4.index t (0 : Fin 2) = 0 ∧ win0_4.index t (1 : Fin 2) = 0 :=
  (by decide +kernel : ∀ t : Fin grid0.N, _)

theorem emb4 (t : Fin cfg0.N) (r : Fin 1) (j : Fin 1024) : ((cfg0.win 4).blk t).view.emb (ix2 r j) = ix2 (r) j := by
  obtain ⟨e0, e1⟩ := idx4 t
  funext a; apply Fin.ext
  match a with
  | ⟨0, _⟩ => show win0_4.index t (0 : Fin 2) * 1 + 1 * r.val = r.val; rw [e0]; omega
  | ⟨1, _⟩ => show win0_4.index t (1 : Fin 2) * 1024 + 1 * j.val = j.val; rw [e1]; omega

theorem idx5 : ∀ t : Fin cfg0.N, win0_5.index t (0 : Fin 2) = t.val ∧ win0_5.index t (1 : Fin 2) = 0 :=
  (by decide +kernel : ∀ t : Fin grid0.N, _)

theorem emb5 (t : Fin cfg0.N) (r : Fin 256) (j : Fin 1024) : ((cfg0.win 5).blk t).view.emb (ix2 r j) = ix2 (tok t r) j := by
  obtain ⟨e0, e1⟩ := idx5 t
  funext a; apply Fin.ext
  match a with
  | ⟨0, _⟩ => show win0_5.index t (0 : Fin 2) * 256 + 1 * r.val = t.val * 256 + r.val; rw [e0]; omega
  | ⟨1, _⟩ => show win0_5.index t (1 : Fin 2) * 1024 + 1 * j.val = j.val; rw [e1]; omega

theorem idx6 : ∀ t : Fin cfg0.N, win0_6.index t (0 : Fin 2) = 0 ∧ win0_6.index t (1 : Fin 2) = 0 :=
  (by decide +kernel : ∀ t : Fin grid0.N, _)

theorem emb6 (t : Fin cfg0.N) (r : Fin 8) (j : Fin 1024) : ((cfg0.win 6).blk t).view.emb (ix2 r j) = ix2 (r) j := by
  obtain ⟨e0, e1⟩ := idx6 t
  funext a; apply Fin.ext
  match a with
  | ⟨0, _⟩ => show win0_6.index t (0 : Fin 2) * 8 + 1 * r.val = r.val; rw [e0]; omega
  | ⟨1, _⟩ => show win0_6.index t (1 : Fin 2) * 1024 + 1 * j.val = j.val; rw [e1]; omega

theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)

theorem emb1 (t : Fin cfg0.N) (g : Fin 4) (i : Fin 1024) (k : Fin 896) : ((cfg0.win 1).blk t).view.emb (ix3 g i k) = ix3 g i k := by
  obtain ⟨e0, e1, e2⟩ := idx1 t
  funext a; apply Fin.ext
  match a with
  | ⟨0, _⟩ => show win0_1.index t (0 : Fin 3) * 4 + 1 * g.val = g.val; rw [e0]; omega
  | ⟨1, _⟩ => show win0_1.index t (1 : Fin 3) * 1024 + 1 * i.val = i.val; rw [e1]; omega
  | ⟨2, _⟩ => show win0_1.index t (2 : Fin 3) * 896 + 1 * k.val = k.val; rw [e2]; omega

theorem bu_apply (c : Dev nD) (t : Fin cfg0.N) (r : Fin 256) (k : Fin 3584) : bu m c t (ix2 r k) = V m c main_v3 (ix2 (tok t r) k) := by
  show V m c main_v3 (((cfg0.win 0).blk t).view.emb (ix2 r k)) = _
  rw [emb0]
theorem bw_apply (c : Dev nD) (t : Fin cfg0.N) (g : Fin 4) (i : Fin 1024) (k : Fin 896) : bw m c t (ix3 g i k) = V m c main_v2 (ix3 g i k) := by
  show V m c main_v2 (((cfg0.win 1).blk t).view.emb (ix3 g i k)) = _
  rw [emb1]
theorem bx_apply (c : Dev nD) (t : Fin cfg0.N) (r : Fin 256) (j : Fin 1024) : bx m c t (ix2 r j) = V m c main_arg2 (ix2 (tok t r) j) := by
  show V m c main_arg2 (((cfg0.win 2).blk t).view.emb (ix2 r j)) = _
  rw [emb2]
theorem bd_apply (c : Dev nD) (t : Fin cfg0.N) (r : Fin 256) (j : Fin 1024) : bd m c t (ix2 r j) = V m c main_arg3 (ix2 (tok t r) j) := by
  show V m c main_arg3 (((cfg0.win 3).blk t).view.emb (ix2 r j)) = _
  rw [emb3]
theorem bg_apply (c : Dev nD) (t : Fin cfg0.N) (r : Fin 1) (j : Fin 1024) : bg m c t (ix2 r j) = V m c main_v4 (ix2 r j) := by
  show V m c main_v4 (((cfg0.win 4).blk t).view.emb (ix2 r j)) = _
  rw [emb4]

theorem flushed5 (c : Dev nD) (t : Fin cfg0.N) : (dats m 0 c).flushed 5 t = oGx (bu m c t) (bw m c t) (bx m c t) (bd m c t) (bg m c t) := by
  show (cfg0.win 5).cut (grid0.coords t) ((dats m 0 c).after 5 t) = _
  rw [after0_5, outs_eq]; rfl

/-- The gradient's array after the run is `G` when every point's block is `G`'s. -/
theorem arr5 (c : Dev nD) (G : Vec F ⟨2, ![4096, 1024]⟩ .f32)
    (hG : ∀ t : Fin cfg0.N, ∀ (r : Fin 256) (j : Fin 1024), oGx (bu m c t) (bw m c t) (bx m c t) (bd m c t) (bg m c t) (ix2 r j) = G (ix2 (tok t r) j)) :
    (dats m 0 c).arrAt 5 cfg0.N = G := by
  refine (dats m 0 c).arrAt_eq_of_cover 5 G (fun t _ => ?_) (fun i => ?_)
  · rw [flushed5]
    funext y
    obtain ⟨r, j, rfl⟩ : ∃ (r : Fin 256) (j : Fin 1024), y = ix2 r j := ⟨y 0, y 1, eq_ix2 y⟩
    rw [hG t r j, View.read_apply, emb5]; rfl
  · obtain ⟨p, j, rfl⟩ : ∃ (p : Fin 4096) (j : Fin 1024), i = ix2 p j := ⟨i 0, i 1, eq_ix2 i⟩
    obtain ⟨t, r, rfl⟩ := tok_surj p
    exact ⟨t, flush0_5 t, emb5 t r j ▸ ((cfg0.win 5).blk t).view.emb_mem_set (ix2 r j)⟩

theorem flushed6 (c : Dev nD) (t : Fin cfg0.N) : (dats m 0 c).flushed 6 t = stN m c t.val t.isLt := by
  show (cfg0.win 6).cut (grid0.coords t) ((dats m 0 c).after 6 t) = _
  rw [after0_6, outs_eq]; rfl

/-- The last point. -/
abbrev tl : Fin cfg0.N := ⟨15, by rw [show cfg0.N = 16 from N_0]; decide⟩

/-- The sums' array after the run is what the last point left. -/
theorem arr6 (c : Dev nD) (G : Vec F ⟨2, ![8, 1024]⟩ .f32)
    (hG : ∀ (r : Fin 8) (j : Fin 1024), stN m c 15 tl.isLt (ix2 r j) = G (ix2 r j)) :
    (dats m 0 c).arrAt 6 cfg0.N = G := by
  refine (dats m 0 c).arrAt_eq_of_cover 6 G (fun t hf => ?_) (fun i => ?_)
  · have h15 := (flush0_6 t).mp hf
    have hN : t.val < 16 := lt_of_lt_of_eq t.isLt (show cfg0.N = 16 from N_0)
    obtain rfl : t = tl := Fin.ext (by show t.val = 15; omega)
    rw [flushed6]
    funext y
    obtain ⟨r, j, rfl⟩ : ∃ (r : Fin 8) (j : Fin 1024), y = ix2 r j := ⟨y 0, y 1, eq_ix2 y⟩
    rw [View.read_apply, emb6]
    exact hG r j
  · obtain ⟨r, j, rfl⟩ : ∃ (r : Fin 8) (j : Fin 1024), i = ix2 r j := ⟨i 0, i 1, eq_ix2 i⟩
    exact ⟨tl, (flush0_6 tl).mpr rfl, emb6 tl r j ▸ ((cfg0.win 6).blk tl).view.emb_mem_set (ix2 r j)⟩

end Cert.Kernel6Ideal.InTile
end
-- ==== Proof.InRows.lean ====
/- One token's row of the input projection's backward pass: the cotangent of the projected row is taken back through the
   projection and the first norm, and the residual's own cotangent is added. -/
module

public import proofs.«01_k».proof.Proof.Rows

@[expose] public section

noncomputable section

namespace Cert.InRows

open Idealize.ShloMosaic Cert.Rows

/-- The weights: the input projection and the first norm's gain. -/
structure Wts where
  w : Fin 1024 → Fin 3584 → EReal
  g : Fin 1024 → EReal

/-- One token's inputs: the cotangent of its projected row, its row of the step's input, the residual's cotangent. -/
structure Row where
  u : Fin 3584 → EReal
  x : Fin 1024 → EReal
  d : Fin 1024 → EReal

section
variable (W : Wts) (T : Row)

/-- The cotangent of the normalised row with its gain, and of the normalised row. -/
def dh (i : Fin 1024) : EReal := ∑ k, T.u k * W.w i k
def dxh (i : Fin 1024) : EReal := dh W T i * W.g i
/-- The gradient at the token's row of the input. -/
def gx (j : Fin 1024) : EReal := T.d j + back T.x (dxh W T) j
/-- The token's share of the gradient of the gain. -/
def dg (j : Fin 1024) : EReal := dh W T j * nrm T.x j
end

/-- The eight rows of sums: the gain's gradient over the tokens `T i`, and rows of zeros. -/
def sums {ι : Type} [Fintype ι] (W : Wts) (T : ι → Row) (r : Fin 8) (j : Fin 1024) : EReal :=
  if r = 0 then ∑ i, dg W (T i) j else 0

end Cert.InRows
end
-- ==== Proof.InRun.lean ====
/- The input projection's backward call: what a grid point's blocks hold when the inputs' blocks hold the tokens' rows, and
   what the whole run leaves. The cotangent is taken back through the weight in four blocks of columns. -/
module

public import proofs.«01_k».proof.Proof.InTile
public import proofs.«01_k».proof.Proof.InRows
public import proofs.«01_k».proof.Proof.KVal
public import Idealize.ShloMosaic.Lib.Pointwise
public import Idealize.ShloMosaic.Lib.StableHlo.ReadAt

@[expose] public section

set_option maxRecDepth 16384

noncomputable section

namespace Cert.Kernel6Ideal.InRun

open Cert.Kernel6Ideal Cert.Kernel6Ideal.Gen Cert.Kernel6Ideal.InTile Idealize.ShloMosaic Idealize.ShloMosaic.TcCoe Idealize.SL.Sem Cert.Rows Cert.InRows

/-- Column `k` of the `g`-th of four blocks. -/
def col (g : Fin 4) (k : Fin 896) : Fin 3584 := ⟨g.val * 896 + k.val, by omega⟩

/-- A sum over the columns is the sum of the four blocks' sums. -/
theorem sum_col (f : Fin 3584 → EReal) : ∑ k, f k = ∑ k, f (col 0 k) + ∑ k, f (col 1 k) + ∑ k, f (col 2 k) + ∑ k, f (col 3 k) := by
  have e : ∑ k, f k = ∑ q : Fin 4 × Fin 896, f (col q.1 q.2) := by
    refine (Fintype.sum_equiv (finProdFinEquiv (m := 4) (n := 896)) _ _ fun q => congrArg f (Fin.ext ?_)).symm
    show q.1.val * 896 + q.2.val = q.2.val + 896 * q.1.val
    omega
  rw [e, Fintype.sum_prod_type, Fin.sum_univ_four]

/-- The inputs' blocks hold the tokens' rows `T` and the weights `W`. -/
structure Reads (W : InRows.Wts) (T : Fin 256 → InRows.Row) (x0 : Vec Ideal S256x3584 .bf16) (x1 : Vec Ideal S4x1024x896 .bf16) (x2 x3 : Vec Ideal S256x1024 .f32) (x4 : Vec Ideal S1x1024 .f32) : Prop where
  u : ∀ r k, x0 (ix2 r k) = (T r).u k
  w : ∀ g i k, x1 (ix3 g i k) = W.w i (col g k)
  x : ∀ r j, x2 (ix2 r j) = (T r).x j
  d : ∀ r j, x3 (ix2 r j) = (T r).d j
  g : ∀ (r : Fin 1) j, x4 (ix2 r j) = W.g j

section Blocks

variable {W : InRows.Wts} {T : Fin 256 → InRows.Row} {x0 : Vec Ideal S256x3584 .bf16} {x1 : Vec Ideal S4x1024x896 .bf16} {x2 x3 : Vec Ideal S256x1024 .f32} {x4 : Vec Ideal S1x1024 .f32}
variable (H : Reads W T x0 x1 x2 x3 x4)
include H

theorem w0_apply (i : Fin 1024) (k : Fin 896) : w0 x1 (ix3 0 i k) = W.w i (col 0 k) := by
  refine Eq.trans (congrArg x1 ?_) (H.w 0 i k)
  funext a; fin_cases a <;> exact Fin.ext (by simp [Rect.emb, Rect.unit, ix3])
theorem w1_apply (i : Fin 1024) (k : Fin 896) : w1 x1 (ix3 0 i k) = W.w i (col 1 k) := by
  refine Eq.trans (congrArg x1 ?_) (H.w 1 i k)
  funext a; fin_cases a <;> exact Fin.ext (by simp [Rect.emb, Rect.unit, ix3])
theorem w2_apply (i : Fin 1024) (k : Fin 896) : w2 x1 (ix3 0 i k) = W.w i (col 2 k) := by
  refine Eq.trans (congrArg x1 ?_) (H.w 2 i k)
  funext a; fin_cases a <;> exact Fin.ext (by simp [Rect.emb, Rect.unit, ix3])
theorem w3_apply (i : Fin 1024) (k : Fin 896) : w3 x1 (ix3 0 i k) = W.w i (col 3 k) := by
  refine Eq.trans (congrArg x1 ?_) (H.w 3 i k)
  funext a; fin_cases a <;> exact Fin.ext (by simp [Rect.emb, Rect.unit, ix3])

theorem u0_apply (r : Fin 256) (k : Fin 896) : u0 x0 (ix2 r k) = (T r).u (col 0 k) := by
  refine Eq.trans (congrArg x0 ?_) (H.u r (col 0 k))
  funext a; apply Fin.ext
  match a with
  | ⟨0, _⟩ => show 0 + 1 * r.val = r.val; omega
  | ⟨1, _⟩ => show 0 + 1 * k.val = 0 * 896 + k.val; omega
theorem u1_apply (r : Fin 256) (k : Fin 896) : u1 x0 (ix2 r k) = (T r).u (col 1 k) := by
  refine Eq.trans (congrArg x0 ?_) (H.u r (col 1 k))
  funext a; apply Fin.ext
  match a with
  | ⟨0, _⟩ => show 0 + 1 * r.val = r.val; omega
  | ⟨1, _⟩ => show 896 + 1 * k.val = 1 * 896 + k.val; omega
theorem u2_apply (r : Fin 256) (k : Fin 896) : u2 x0 (ix2 r k) = (T r).u (col 2 k) := by
  refine Eq.trans (congrArg x0 ?_) (H.u r (col 2 k))
  funext a; apply Fin.ext
  match a with
  | ⟨0, _⟩ => show 0 + 1 * r.val = r.val; omega
  | ⟨1, _⟩ => show 1792 + 1 * k.val = 2 * 896 + k.val; omega
theorem u3_apply (r : Fin 256) (k : Fin 896) : u3 x0 (ix2 r k) = (T r).u (col 3 k) := by
  refine Eq.trans (congrArg x0 ?_) (H.u r (col 3 k))
  funext a; apply Fin.ext
  match a with
  | ⟨0, _⟩ => show 0 + 1 * r.val = r.val; omega
  | ⟨1, _⟩ => show 2688 + 1 * k.val = 3 * 896 + k.val; omega

theorem h_apply (r : Fin 256) (i : Fin 1024) : tH x0 x1 (ix2 r i) = dh W (T r) i := by
  unfold tH k0_pay6
  pointwise
  simp only [u0_apply H, u1_apply H, u2_apply H, u3_apply H, w0_apply H, w1_apply H, w2_apply H, w3_apply H]
  rw [dh, sum_col]

theorem pay7 (r : Fin 256) : k0_pay7 x2 (ix1 r) = ∑ j, (T r).x j * (T r).x j := by
  unfold k0_pay7
  pointwise
  simp only [H.x]

theorem pay1 (r : Fin 256) : k0_pay1 (k0_pay7 x2) (ix2 r 0) = inv (T r).x := by
  unfold k0_pay1
  pointwise
  simp only [pay7 H, lit1024, lit_eps]
  rfl

theorem pay2 (r : Fin 256) (j : Fin 1024) : k0_pay2 x2 (k0_pay7 x2) (ix2 r j) = nrm (T r).x j := by
  unfold k0_pay2
  pointwise
  simp only [pay1 H, H.x]
  rfl

theorem pay3 (a : Vec Ideal S1x1024 .f32) (r : Fin 1) (j : Fin 1024) :
    k0_pay3 (tH x0 x1) x2 (k0_pay7 x2) a (ix2 r j) = a (ix2 r j) + ∑ i, dg W (T i) j := by
  unfold k0_pay3
  pointwise
  simp only [h_apply H, pay2 H]
  rfl

/-- The gradient at the block's rows of the step's input. -/
theorem gx_apply (r : Fin 256) (j : Fin 1024) : oGx x0 x1 x2 x3 x4 (ix2 r j) = gx W (T r) j := by
  unfold oGx k0_pay4
  pointwise
  simp only [h_apply H, pay1 H, pay2 H, H.d, H.g, lit1024]
  rfl

/-- A point adds its tokens' sums to the rows of sums. -/
theorem st_apply (acc : Vec Ideal S8x1024 .f32) (A : Fin 8 → Fin 1024 → EReal) (hA : ∀ r j, acc (ix2 r j) = A r j) (r : Fin 8) (j : Fin 1024) :
    oSt x0 x1 x2 acc (ix2 r j) = A r j + InRows.sums W T r j := by
  unfold oSt row0 InRows.sums
  by_cases h0 : r = 0
  · refine (Cert.KernelIdeal.KVal.overlay_eq _ _ r j (by rw [h0]; rfl)).trans ?_
    rw [if_pos h0]
    refine (pay3 H _ 0 j).trans (congrArg (· + _) ?_)
    exact (Cert.KernelIdeal.KVal.ld_row _ r j (by rw [h0]; rfl)).trans (hA r j)
  · refine (Cert.KernelIdeal.KVal.overlay_ne (a := 0) _ _ r j (fun h => h0 (Fin.ext h))).trans ?_
    rw [if_neg h0, add_zero, hA]

end Blocks

/-! ## The run -/

variable (m : (ℓ : Loc nD τ sig) → Buf (Elt Ideal) ℓ) (ρ : Dev nD → PrngReg)

/-- The launch memory's weights on a device. -/
def weights (c : Dev nD) : InRows.Wts where
  w i k := (m ((c : Thread nD τ).loc main_arg1) : Vec Ideal S1024x3584 .f32) (ix2 i k)
  g j := (m ((c : Thread nD τ).loc main_arg4) : Vec Ideal S1024 .f32) (ix1 j)

/-- The launch memory's tokens on a device. -/
def tokens (c : Dev nD) (i : Fin 4096) : InRows.Row where
  u k := (m ((c : Thread nD τ).loc main_arg0) : Vec Ideal S4096x3584 .f32) (ix2 i k)
  x j := (m ((c : Thread nD τ).loc main_arg2) : Vec Ideal S4096x1024 .f32) (ix2 i j)
  d j := (m ((c : Thread nD τ).loc main_arg3) : Vec Ideal S4096x1024 .f32) (ix2 i j)

theorem V_v3 (c : Dev nD) (i : Fin 4096) (k : Fin 3584) : (V m c main_v3 : Vec Ideal S4096x3584 .bf16) (ix2 i k) = (m ((c : Thread nD τ).loc main_arg0) : Vec Ideal S4096x3584 .f32) (ix2 i k) := by
  unfold V
  after_reads_at
theorem V_v4 (c : Dev nD) (r : Fin 1) (j : Fin 1024) : (V m c main_v4 : Vec Ideal S1x1024 .f32) (ix2 r j) = (m ((c : Thread nD τ).loc main_arg4) : Vec Ideal S1024 .f32) (ix1 j) := by
  unfold V
  after_reads_at
theorem V_v2 (c : Dev nD) (g : Fin 4) (i : Fin 1024) (k : Fin 896) : (V m c main_v2 : Vec Ideal S4x1024x896 .bf16) (ix3 g i k) = (m ((c : Thread nD τ).loc main_arg1) : Vec Ideal S1024x3584 .f32) (ix2 i (col g k)) := by
  unfold V
  after_reads_at
  rfl

variable (c : Dev nD)

/-- What each grid point reads. -/
theorem reads (t : Fin cfg0.N) : Reads (weights m c) (fun r => tokens m c (tok t r)) (bu m c t) (bw m c t) (bx m c t) (bd m c t) (bg m c t) where
  u r k := (bu_apply m c t r k).trans (V_v3 m c _ k)
  w g i k := (bw_apply m c t g i k).trans (V_v2 m c g i k)
  x r j := (bx_apply m c t r j).trans (congrFun (V_main_arg2 m c) _)
  d r j := (bd_apply m c t r j).trans (congrFun (V_main_arg3 m c) _)
  g r j := (bg_apply m c t r j).trans (V_v4 m c r j)

/-- The sums of point `t`'s tokens (zero beyond the grid). -/
def part (W : InRows.Wts) (T : Fin 4096 → InRows.Row) (r : Fin 8) (j : Fin 1024) (t : ℕ) : EReal :=
  if h : t < cfg0.N then InRows.sums W (fun q => T (tok ⟨t, h⟩ q)) r j else 0

theorem st_sum : ∀ (n : ℕ) (hn : n < cfg0.N) (r : Fin 8) (j : Fin 1024),
    stN m c n hn (ix2 r j) = ∑ t ∈ Finset.range (n + 1), part (weights m c) (tokens m c) r j t
  | 0, hn, r, j => by
    rw [stN, st_apply (reads m c ⟨0, hn⟩) _ (fun _ _ => 0) (fun r j => by unfold k0_pay5; pointwise), Finset.sum_range_one, part, dif_pos hn, zero_add]
  | n + 1, hn, r, j => by
    rw [stN, st_apply (reads m c ⟨n + 1, hn⟩) _ _ (st_sum n (Nat.lt_of_succ_lt hn)), Finset.sum_range_succ _ (n + 1), part, dif_pos hn]

/-- A sum over the tokens is the sum over the points of the sums over their blocks. -/
theorem sum_tok (f : Fin 4096 → EReal) : ∑ i, f i = ∑ t : Fin cfg0.N, ∑ r : Fin 256, f (tok t r) := by
  have e : ∑ i, f i = ∑ q : Fin cfg0.N × Fin 256, f (tok q.1 q.2) := by
    refine (Fintype.sum_equiv ((finProdFinEquiv (m := cfg0.N) (n := 256)).trans (finCongr (by rw [show cfg0.N = 16 from N_0]))) _ _ fun q => congrArg f (Fin.ext ?_)).symm
    show q.1.val * 256 + q.2.val = q.2.val + 256 * q.1.val
    omega
  rw [e, Fintype.sum_prod_type]

theorem part_sum (W : InRows.Wts) (T : Fin 4096 → InRows.Row) (r : Fin 8) (j : Fin 1024) : ∑ t ∈ Finset.range 16, part W T r j t = InRows.sums W T r j := by
  have e : ∑ t ∈ Finset.range 16, part W T r j t = ∑ t : Fin cfg0.N, InRows.sums W (fun q => T (tok t q)) r j := by
    rw [← show cfg0.N = 16 from N_0, Finset.sum_range]
    exact Finset.sum_congr rfl fun t _ => dif_pos t.isLt
  rw [e]
  unfold InRows.sums
  by_cases h0 : r = 0
  · simp only [if_pos h0]; exact (sum_tok fun i => dg W (T i) j).symm
  simp only [if_neg h0, Finset.sum_const_zero]

/-- The whole run: the two results' arrays, and the arguments kept. -/
theorem run : θ_run defs (onTc (τ := τ) (main (F := Ideal))) ⟨m, fun _ => 0, ρ⟩ fun r => ∀ c : Dev nD,
      r.2.mem ((c : Thread nD τ).loc main_v5_0) = (fun i : S4096x1024.Idx => gx (weights m c) (tokens m c (i 0)) (i 1))
      ∧ r.2.mem ((c : Thread nD τ).loc main_v5_1) = (fun i : S8x1024.Idx => InRows.sums (weights m c) (tokens m c) (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨(h c).1.trans (arr5 m c _ fun t r j => gx_apply (reads m c t) r j),
     (h c).2.1.trans (arr6 m c _ fun r j => (st_sum m c 15 tl.isLt r j).trans (part_sum _ _ r j)), (h c).2.2⟩) (Cert.Kernel6Ideal.Value.run_blocks m ρ)

end Cert.Kernel6Ideal.InRun
end
-- ==== Proof.InRef.lean ====
/- What the reference's arrays hold for the input projection's backward pass: the row functions of `InRows`, token by token. -/
module

public import proofs.«01_k».proof.Proof.Gen.Reference6Ideal.Read
public import proofs.«01_k».proof.Proof.InRows
public import Idealize.ShloMosaic.Lib.Pointwise

@[expose] public section

set_option maxRecDepth 16384

noncomputable section

namespace Cert.Reference6Ideal.InRef

open Cert.Reference6Ideal Cert.Reference6Ideal.Gen Cert.Reference6Ideal.Read Idealize.ShloMosaic Idealize.ShloMosaic.TcCoe Idealize.SL.Sem Idealize.ShloMosaic.StableHlo Cert.Rows Cert.InRows

/-- The arguments hold the tokens' rows `T` and the weights `W`. -/
structure Args (W : InRows.Wts) (T : Fin 4096 → InRows.Row) (x0 : Vec Ideal S4096x3584 .f32) (x1 : Vec Ideal S1024x3584 .f32) (x2 x3 : Vec Ideal S4096x1024 .f32) (x4 : Vec Ideal S1024 .f32) : Prop where
  u : ∀ i k, x0 (ix2 i k) = (T i).u k
  w : ∀ i k, x1 (ix2 i k) = W.w i k
  x : ∀ i j, x2 (ix2 i j) = (T i).x j
  d : ∀ i j, x3 (ix2 i j) = (T i).d j
  g : ∀ j, x4 (ix1 j) = W.g j

variable {W : InRows.Wts} {T : Fin 4096 → InRows.Row} {x0 : Vec Ideal S4096x3584 .f32} {x1 : Vec Ideal S1024x3584 .f32} {x2 x3 : Vec Ideal S4096x1024 .f32} {x4 : Vec Ideal S1024 .f32}
variable (H : Args W T x0 x1 x2 x3 x4)
include H

theorem v6 (i : Fin 4096) : val_main_v6 (F := Ideal) x2 (ix2 i 0) = ms (T i).x := by
  unfold val_main_v6 val_main_v5 val_main_v4 val_main_v3 val_main_v2 val_main_v1 val_main_v0 val_main_cst val_main_cst_0 val_main_cst_1
  pointwise
  simp only [H.x, lit1024, lit_eps]
  rfl

theorem v7 (i : Fin 4096) : val_main_v7 (F := Ideal) x2 (ix2 i 0) = inv (T i).x := by
  unfold val_main_v7
  pointwise
  simp only [v6 H]
  rfl

theorem v10 (i : Fin 4096) : val_main_v10 (F := Ideal) x2 (ix2 i 0) = ((-(1 / 2) : ℝ) : EReal) * Ideal.div (inv (T i).x) (ms (T i).x) := by
  unfold val_main_v10 val_main_v9 val_main_v8 val_main_cst_2
  pointwise
  simp only [v6 H, v7 H, lit_neg_half]

theorem v12 (i : Fin 4096) (j : Fin 1024) : val_main_v12 (F := Ideal) x2 (ix2 i j) = nrm (T i).x j := by
  unfold val_main_v12 val_main_v11
  pointwise
  simp only [H.x, v7 H]
  rfl

theorem v17 (i : Fin 4096) (j : Fin 1024) : val_main_v17 (F := Ideal) x0 x1 (ix2 i j) = dh W (T i) j := by
  unfold val_main_v17
  pointwise
  simp only [H.u, H.w]
  rfl

theorem v22 (i : Fin 4096) (j : Fin 1024) : val_main_v22 (F := Ideal) x0 x1 x4 (ix2 i j) = dxh W (T i) j := by
  unfold val_main_v22 val_main_v21 val_main_v13
  pointwise
  simp only [v17 H, H.g]
  rfl

theorem v34 (i : Fin 4096) (j : Fin 1024) : val_main_v34 (F := Ideal) x0 x1 x2 x4 (ix2 i j)
    = Ideal.div ((∑ l, (T i).x l * dxh W (T i) l) * (((-(1 / 2) : ℝ) : EReal) * Ideal.div (inv (T i).x) (ms (T i).x))) ((1024 : ℝ) : EReal) := by
  unfold val_main_v34 val_main_v33 val_main_v32 val_main_v31 val_main_v30 val_main_v26 val_main_v25 val_main_v24 val_main_cst_5 val_main_cst_6 val_main_cst_7
  pointwise
  simp only [Fin.sum_univ_one, H.x, v10 H, v22 H, lit1024]

/-- The gradient at the step's input. -/
theorem v38 (i : Fin 4096) (j : Fin 1024) : val_main_v38 (F := Ideal) x0 x1 x2 x3 x4 (ix2 i j) = gx W (T i) j := by
  unfold val_main_v38 val_main_v37 val_main_v36 val_main_v35 val_main_v29 val_main_v28 val_main_v27
  pointwise
  simp only [H.x, H.d, v7 H, v22 H, v34 H]
  rw [gx, ← norm_back, add_assoc, add_assoc, add_assoc]

theorem v40 (r : Fin 1) (j : Fin 1024) : val_main_v40 (F := Ideal) x0 x1 x2 (ix2 r j) = ∑ i, dg W (T i) j := by
  unfold val_main_v40 val_main_v23 val_main_v20 val_main_v19 val_main_v18 val_main_cst_3 val_main_cst_4
  pointwise
  simp only [Fin.sum_univ_one, v12 H, v17 H]
  exact Finset.sum_congr rfl fun i _ => mul_comm _ _

omit H in
/-- A row of zeros. -/
theorem v39 (j : S1024.Idx) : val_main_v39 (F := Ideal) j = 0 := by
  unfold val_main_v39 val_main_cst_8
  pointwise

/-- The rows of sums. -/
theorem v48 (r : Fin 8) (j : Fin 1024) : val_main_v48 (F := Ideal) x0 x1 x2 (ix2 r j) = InRows.sums W T r j := by
  unfold val_main_v48
  pointwise
  unfold InRows.sums
  by_cases h0 : r = 0
  · subst h0; exact v40 H _ j
  have e0 : r.val ≠ 0 := fun e => h0 (Fin.ext e)
  rw [if_neg h0, dif_neg (by omega)]
  unfold val_main_v41 val_main_v42 val_main_v43 val_main_v44 val_main_v45 val_main_v46 val_main_v47
  pointwise
  simp only [v39, dite_eq_ite, ite_self]

end Cert.Reference6Ideal.InRef
end
-- ==== Proof.InClaim.lean ====
/- The input projection's backward call and the reference's lines for it leave the same arrays. -/
module

public import proofs.«01_k».proof.Defs
public import proofs.«01_k».proof.Proof.Gen.Kernel6Ideal
public import proofs.«01_k».proof.Proof.Gen.Reference6Ideal
public import proofs.«01_k».proof.Proof.Gen.Reference6Ideal.Run
public import proofs.«01_k».proof.Proof.InRun
public import proofs.«01_k».proof.Proof.InRef
public import Idealize.ShloMosaic.Lib.Quiescent

@[expose] public section

noncomputable section

namespace Cert.InClaim

open Idealize.ShloMosaic Idealize.ShloMosaic.TcCoe Idealize.SL.Sem

/-- The reference declares no semaphore, so its run's end has none raised. -/
theorem frame_reference : Cert.quiescent_Reference6Ideal (hReference6Ideal := Cert.Reference6Ideal.Gen.facts) :=
  fun m g _ => (θ_run Cert.Reference6Ideal.defs _ _).mono (fun r h => ⟨fun c => (h c).2.2, sem_eq_zero_of_no_sems rfl r.2⟩) (Cert.Reference6Ideal.Value.run m g)

/-- The two programs' results over the extended reals, from memories agreeing on the arguments: what each holds is the row
    functions at the kernel's launch memory. -/
theorem algebraic : Cert.algebraic_Kernel6Ideal_Reference6Ideal (hKernel6Ideal := Cert.Kernel6Ideal.Gen.facts) (hReference6Ideal := Cert.Reference6Ideal.Gen.facts) := by
  intro m g m' g' _ hag
  have H : ∀ c : Dev Cert.Reference6Ideal.nD, Cert.Reference6Ideal.InRef.Args (Cert.Kernel6Ideal.InRun.weights m c) (Cert.Kernel6Ideal.InRun.tokens m c)
      (m' ((c.tc : Thread Cert.Reference6Ideal.nD Cert.Reference6Ideal.τ).loc Cert.Reference6Ideal.main_arg0))
      (m' ((c.tc : Thread Cert.Reference6Ideal.nD Cert.Reference6Ideal.τ).loc Cert.Reference6Ideal.main_arg1))
      (m' ((c.tc : Thread Cert.Reference6Ideal.nD Cert.Reference6Ideal.τ).loc Cert.Reference6Ideal.main_arg2))
      (m' ((c.tc : Thread Cert.Reference6Ideal.nD Cert.Reference6Ideal.τ).loc Cert.Reference6Ideal.main_arg3))
      (m' ((c.tc : Thread Cert.Reference6Ideal.nD Cert.Reference6Ideal.τ).loc Cert.Reference6Ideal.main_arg4)) := by
    intro c
    obtain ⟨h0, h1, h2, h3, h4⟩ := hag c
    rw [h0, h1, h2, h3, h4]
    exact ⟨fun _ _ => rfl, fun _ _ => rfl, fun _ _ => rfl, fun _ _ => rfl, fun _ => rfl⟩
  refine ⟨_, _, Cert.Kernel6Ideal.InRun.run m g, (θ_run Cert.Reference6Ideal.defs _ _).mono (fun r h c => ?_) (Cert.Reference6Ideal.Value.run m' g')⟩
  obtain ⟨h0, h1, hargs⟩ := h c
  refine ⟨h0.trans ?_, h1.trans ?_, hargs⟩
  · rw [Cert.Reference6Ideal.Read.val_main_v38_eq]
    funext j
    rw [eq_ix2 j]
    exact Cert.Reference6Ideal.InRef.v38 (H c) (j 0) (j 1)
  · rw [Cert.Reference6Ideal.Read.val_main_v48_eq]
    funext j
    rw [eq_ix2 j]
    exact Cert.Reference6Ideal.InRef.v48 (H c) (j 0) (j 1)

end Cert.InClaim

end
-- ==== Proof.WgSum.lean ====
/- What the four weight gradients' calls share: a sum over the tokens is eight runs of 512, and stores of a whole block. -/
module

public import proofs.«01_k».proof.Proof.Tile
public import Idealize.ShloMosaic.Lib.ValueIdx

@[expose] public section

noncomputable section

namespace Cert.WgSum

open Idealize.ShloMosaic

variable {Val : EltTy → Type} {e : EltTy}

/-- The last store of a whole three-dimensional block is what the block holds. -/
theorem canon3 [∀ e, Nonempty (Val e)] {a b d : ℕ} (X : (⟨3, ![a, b, d]⟩ : Shape).Idx → Val e)
    (inb : ∀ k, (![0, 0, 0] : Fin 3 → ℕ) k + (![a, b, d] : Fin 3 → ℕ) k ≤ (![a, b, d] : Fin 3 → ℕ) k) (L : List (View.Piece Val ⟨3, ![a, b, d]⟩ e)) :
    View.canon ((⟨Rect.unit (s := ⟨3, ![a, b, d]⟩) ![0, 0, 0] ![a, b, d] inb, X⟩ : View.Piece Val _ e) :: L) = X :=
  View.canon_cons_unit_zero (S := ⟨3, ![a, b, d]⟩) (by funext k; fin_cases k <;> rfl) inb X L

/-- A load of a whole three-dimensional block reads its contents. -/
theorem ld3 {a b d : ℕ} (X : (⟨3, ![a, b, d]⟩ : Shape).Idx → Val e)
    (inb : ∀ k, (![0, 0, 0] : Fin 3 → ℕ) k + (![a, b, d] : Fin 3 → ℕ) k ≤ (![a, b, d] : Fin 3 → ℕ) k) :
    View.ld X (Rect.unit (s := ⟨3, ![a, b, d]⟩) ![0, 0, 0] ![a, b, d] inb) = X :=
  View.ld_unit_zero (S := ⟨3, ![a, b, d]⟩) (by funext k; fin_cases k <;> rfl) inb X

/-- Token `k` of the `g`-th of eight runs. -/
def tok (g : Fin 8) (k : Fin 512) : Fin 4096 := ⟨g.val * 512 + k.val, by have := g.isLt; have := k.isLt; omega⟩

/-- A sum over the tokens is the sum of the eight runs' sums. -/
theorem sum_tok (f : Fin 4096 → EReal) : ∑ k, f k = ∑ k, f (tok 0 k) + ∑ k, f (tok 1 k) + ∑ k, f (tok 2 k) + ∑ k, f (tok 3 k)
    + ∑ k, f (tok 4 k) + ∑ k, f (tok 5 k) + ∑ k, f (tok 6 k) + ∑ k, f (tok 7 k) := by
  have e : ∑ k, f k = ∑ q : Fin 8 × Fin 512, f (tok q.1 q.2) := by
    refine (Fintype.sum_equiv (finProdFinEquiv (m := 8) (n := 512)) _ _ fun q => congrArg f (Fin.ext ?_)).symm
    show q.1.val * 512 + q.2.val = q.2.val + 512 * q.1.val
    omega
  rw [e, Fintype.sum_prod_type, Fin.sum_univ_eight]

end Cert.WgSum

end
-- ==== Proof.Wg7.lean ====
/- The weight gradient's call of the input projection (`wgrad_in`): what one grid point leaves in its output block, for any reading
   of the floats, and over the extended reals; the array after the run; and the same of the plain reference. A point's block is
   the product of 512 columns of one operand with a block of columns of the other, added up over eight runs of 512 tokens. -/
module

public import proofs.«01_k».proof.Defs
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.WgSum
public import Idealize.ShloMosaic.Lib.Pointwise
public import Idealize.ShloMosaic.Lib.StableHlo.ReadAt
public import Idealize.ShloMosaic.Lib.Quiescent

@[expose] public section

set_option maxRecDepth 16384

noncomputable section

namespace Cert.Wg7

open Cert.Kernel7Ideal Cert.Kernel7Ideal.Gen Idealize.ShloMosaic Idealize.ShloMosaic.TcCoe Idealize.SL.Sem
open Idealize.ShloMosaic.Pipeline (Dat)
open Cert.KernelIdeal.Tile (readAt_rect readCov_rect)
open Cert.WgSum

section Point

variable {F : FTy → Type} [FloatOps F]
variable (x0 : Vec F S4096x512 .bf16) (x1 : Vec F S4096x896 .bf16)

/-! The runs of 512 tokens of the two operands' blocks, and the sums after each run. -/

def a0 : Vec F S512x512 .bf16 := View.ld x0 (Rect.unit ![0, 0] S512x512.size inb_S4096x512_S512x512_0_0)
def a1 : Vec F S512x512 .bf16 := View.ld x0 (Rect.unit ![512, 0] S512x512.size inb_S4096x512_S512x512_512_0)
def a2 : Vec F S512x512 .bf16 := View.ld x0 (Rect.unit ![1024, 0] S512x512.size inb_S4096x512_S512x512_1024_0)
def a3 : Vec F S512x512 .bf16 := View.ld x0 (Rect.unit ![1536, 0] S512x512.size inb_S4096x512_S512x512_1536_0)
def a4 : Vec F S512x512 .bf16 := View.ld x0 (Rect.unit ![2048, 0] S512x512.size inb_S4096x512_S512x512_2048_0)
def a5 : Vec F S512x512 .bf16 := View.ld x0 (Rect.unit ![2560, 0] S512x512.size inb_S4096x512_S512x512_2560_0)
def a6 : Vec F S512x512 .bf16 := View.ld x0 (Rect.unit ![3072, 0] S512x512.size inb_S4096x512_S512x512_3072_0)
def a7 : Vec F S512x512 .bf16 := View.ld x0 (Rect.unit ![3584, 0] S512x512.size inb_S4096x512_S512x512_3584_0)
def b0 : Vec F S512x896 .bf16 := View.ld x1 (Rect.unit ![0, 0] S512x896.size inb_S4096x896_S512x896_0_0)
def b1 : Vec F S512x896 .bf16 := View.ld x1 (Rect.unit ![512, 0] S512x896.size inb_S4096x896_S512x896_512_0)
def b2 : Vec F S512x896 .bf16 := View.ld x1 (Rect.unit ![1024, 0] S512x896.size inb_S4096x896_S512x896_1024_0)
def b3 : Vec F S512x896 .bf16 := View.ld x1 (Rect.unit ![1536, 0] S512x896.size inb_S4096x896_S512x896_1536_0)
def b4 : Vec F S512x896 .bf16 := View.ld x1 (Rect.unit ![2048, 0] S512x896.size inb_S4096x896_S512x896_2048_0)
def b5 : Vec F S512x896 .bf16 := View.ld x1 (Rect.unit ![2560, 0] S512x896.size inb_S4096x896_S512x896_2560_0)
def b6 : Vec F S512x896 .bf16 := View.ld x1 (Rect.unit ![3072, 0] S512x896.size inb_S4096x896_S512x896_3072_0)
def b7 : Vec F S512x896 .bf16 := View.ld x1 (Rect.unit ![3584, 0] S512x896.size inb_S4096x896_S512x896_3584_0)
def s1 : Vec F S1x512x896 .f32 := k0_pay1 (a0 x0) (b0 x1)
def s2 : Vec F S1x512x896 .f32 := k0_pay2 (s1 x0 x1) (a1 x0) (b1 x1)
def s3 : Vec F S1x512x896 .f32 := k0_pay4 (k0_pay3 (s2 x0 x1) (a2 x0) (b2 x1))
def s4 : Vec F S1x512x896 .f32 := k0_pay5 (s3 x0 x1) (a3 x0) (b3 x1)
def s5 : Vec F S1x512x896 .f32 := k0_pay6 (s4 x0 x1) (a4 x0) (b4 x1)
def s6 : Vec F S1x512x896 .f32 := k0_pay9 (k0_pay7 (s5 x0 x1)) (k0_pay8 (a5 x0)) (b5 x1)
def s7 : Vec F S1x512x896 .f32 := k0_pay10 (s6 x0 x1) (a6 x0) (b6 x1)
def s8 : Vec F S1x512x896 .f32 := k0_pay11 (s7 x0 x1) (a7 x0) (b7 x1)

variable (c : Dev nD) (i : grid0.Coords)
variable (arg2 : Memref sig .tc .vmem S4096x512 .bf16) (harg2 : arg2.IsWhole) (arg3 : Memref sig .tc .vmem S4096x896 .bf16) (harg3 : arg3.IsWhole)
  (arg4 : Memref sig .tc .vmem S1x512x896 .f32) (harg4 : arg4.IsWhole)

theorem R_H1 : View.canon (kernelRun0_A.sl.H2_1 (F := F) c arg2 harg2 arg3 harg3 x0 x1) = s1 x0 x1 := by
  unfold kernelRun0_A.sl.H2_1
  rw [canon3]
  rw [readAt_rect, readAt_rect]; rfl
theorem R_v8 : kernelRun0_A.sl.v8 (F := F) c arg2 harg2 arg3 harg3 arg4 x0 x1 = s1 x0 x1 := by
  unfold kernelRun0_A.sl.v8; rw [readCov_rect, R_H1]; exact ld3 _ _

theorem R_H2 : View.canon (kernelRun0_A.sl.H2_2 (F := F) c arg2 harg2 arg3 harg3 arg4 x0 x1) = s2 x0 x1 := by
  unfold kernelRun0_A.sl.H2_2
  rw [canon3]
  rw [R_v8, readAt_rect, readAt_rect]; rfl
theorem R_v19 : kernelRun0_A.sl.v19 (F := F) c arg2 harg2 arg3 harg3 arg4 x0 x1 = s2 x0 x1 := by
  unfold kernelRun0_A.sl.v19; rw [readCov_rect, R_H2]; exact ld3 _ _

theorem R_H3 : View.canon (kernelRun0_A.sl.H2_3 (F := F) c arg2 harg2 arg3 harg3 arg4 x0 x1) = s3 x0 x1 := by
  unfold kernelRun0_A.sl.H2_3
  rw [canon3]
  rw [show kernelRun0_A.sl.r (F := F) c arg2 harg2 arg3 harg3 arg4 x0 x1 = k0_pay3 (s2 x0 x1) (a2 x0) (b2 x1) from by unfold kernelRun0_A.sl.r; rw [R_v19, readAt_rect, readAt_rect]; rfl]
  rfl
theorem R_v30 : kernelRun0_A.sl.v30 (F := F) c arg2 harg2 arg3 harg3 arg4 x0 x1 = s3 x0 x1 := by
  unfold kernelRun0_A.sl.v30; rw [readCov_rect, R_H3]; exact ld3 _ _

theorem R_H4 : View.canon (kernelRun0_A.sl.H2_4 (F := F) c arg2 harg2 arg3 harg3 arg4 x0 x1) = s4 x0 x1 := by
  unfold kernelRun0_A.sl.H2_4
  rw [canon3]
  rw [R_v30, readAt_rect, readAt_rect]; rfl
theorem R_v41 : kernelRun0_A.sl.v41 (F := F) c arg2 harg2 arg3 harg3 arg4 x0 x1 = s4 x0 x1 := by
  unfold kernelRun0_A.sl.v41; rw [readCov_rect, R_H4]; exact ld3 _ _

theorem R_H5 : View.canon (kernelRun0_A.sl.H2_5 (F := F) c arg2 harg2 arg3 harg3 arg4 x0 x1) = s5 x0 x1 := by
  unfold kernelRun0_A.sl.H2_5
  rw [canon3]
  rw [R_v41, readAt_rect, readAt_rect]; rfl
theorem R_v52 : kernelRun0_A.sl.v52 (F := F) c arg2 harg2 arg3 harg3 arg4 x0 x1 = s5 x0 x1 := by
  unfold kernelRun0_A.sl.v52; rw [readCov_rect, R_H5]; exact ld3 _ _

theorem R_H6 : View.canon (kernelRun0_A.sl.H2_6 (F := F) c arg2 harg2 arg3 harg3 arg4 x0 x1) = s6 x0 x1 := by
  unfold kernelRun0_A.sl.H2_6
  rw [canon3]
  rw [show kernelRun0_A.sl.r_1 (F := F) c arg2 harg2 arg3 harg3 arg4 x0 x1 = k0_pay7 (s5 x0 x1) from by unfold kernelRun0_A.sl.r_1; rw [R_v52],
    show kernelRun0_A.sl.r_2 (F := F) c arg2 harg2 x0 = k0_pay8 (a5 x0) from by unfold kernelRun0_A.sl.r_2; rw [readAt_rect]; rfl, readAt_rect]
  rfl
theorem R_v63 : kernelRun0_A.sl.v63 (F := F) c arg2 harg2 arg3 harg3 arg4 x0 x1 = s6 x0 x1 := by
  unfold kernelRun0_A.sl.v63; rw [readCov_rect, R_H6]; exact ld3 _ _

theorem R_H7 : View.canon (kernelRun0_A.sl.H2_7 (F := F) c arg2 harg2 arg3 harg3 arg4 x0 x1) = s7 x0 x1 := by
  unfold kernelRun0_A.sl.H2_7
  rw [canon3]
  rw [R_v63, readAt_rect, readAt_rect]; rfl
theorem R_v74 : kernelRun0_A.sl.v74 (F := F) c arg2 harg2 arg3 harg3 arg4 x0 x1 = s7 x0 x1 := by
  unfold kernelRun0_A.sl.v74; rw [readCov_rect, R_H7]; exact ld3 _ _

/-- What a point leaves. -/
theorem out_eq : out0_A_2 c i arg2 harg2 arg3 harg3 arg4 harg4 x0 x1 = s8 x0 x1 := by
  unfold out0_A_2
  rw [View.read_writes_junk_eq_canon]
  dsimp only [kernelRun0_A]
  rw [canon3, R_v74, readAt_rect, readAt_rect]
  rfl

end Point

/-! ## Over the extended reals -/

section Ideal

variable (x0 : Vec Ideal S4096x512 .bf16) (x1 : Vec Ideal S4096x896 .bf16)

theorem a0_apply (k : Fin 512) (j : Fin 512) : a0 x0 (ix2 k j) = x0 (ix2 (tok 0 k) j) := by
  refine congrArg x0 (funext fun a => Fin.ext ?_)
  match a with
  | ⟨0, _⟩ => show 0 + 1 * k.val = 0 * 512 + k.val; omega
  | ⟨1, _⟩ => show 0 + 1 * j.val = j.val; omega
theorem b0_apply (k : Fin 512) (j : Fin 896) : b0 x1 (ix2 k j) = x1 (ix2 (tok 0 k) j) := by
  refine congrArg x1 (funext fun a => Fin.ext ?_)
  match a with
  | ⟨0, _⟩ => show 0 + 1 * k.val = 0 * 512 + k.val; omega
  | ⟨1, _⟩ => show 0 + 1 * j.val = j.val; omega
theorem a1_apply (k : Fin 512) (j : Fin 512) : a1 x0 (ix2 k j) = x0 (ix2 (tok 1 k) j) := by
  refine congrArg x0 (funext fun a => Fin.ext ?_)
  match a with
  | ⟨0, _⟩ => show 512 + 1 * k.val = 1 * 512 + k.val; omega
  | ⟨1, _⟩ => show 0 + 1 * j.val = j.val; omega
theorem b1_apply (k : Fin 512) (j : Fin 896) : b1 x1 (ix2 k j) = x1 (ix2 (tok 1 k) j) := by
  refine congrArg x1 (funext fun a => Fin.ext ?_)
  match a with
  | ⟨0, _⟩ => show 512 + 1 * k.val = 1 * 512 + k.val; omega
  | ⟨1, _⟩ => show 0 + 1 * j.val = j.val; omega
theorem a2_apply (k : Fin 512) (j : Fin 512) : a2 x0 (ix2 k j) = x0 (ix2 (tok 2 k) j) := by
  refine congrArg x0 (funext fun a => Fin.ext ?_)
  match a with
  | ⟨0, _⟩ => show 1024 + 1 * k.val = 2 * 512 + k.val; omega
  | ⟨1, _⟩ => show 0 + 1 * j.val = j.val; omega
theorem b2_apply (k : Fin 512) (j : Fin 896) : b2 x1 (ix2 k j) = x1 (ix2 (tok 2 k) j) := by
  refine congrArg x1 (funext fun a => Fin.ext ?_)
  match a with
  | ⟨0, _⟩ => show 1024 + 1 * k.val = 2 * 512 + k.val; omega
  | ⟨1, _⟩ => show 0 + 1 * j.val = j.val; omega
theorem a3_apply (k : Fin 512) (j : Fin 512) : a3 x0 (ix2 k j) = x0 (ix2 (tok 3 k) j) := by
  refine congrArg x0 (funext fun a => Fin.ext ?_)
  match a with
  | ⟨0, _⟩ => show 1536 + 1 * k.val = 3 * 512 + k.val; omega
  | ⟨1, _⟩ => show 0 + 1 * j.val = j.val; omega
theorem b3_apply (k : Fin 512) (j : Fin 896) : b3 x1 (ix2 k j) = x1 (ix2 (tok 3 k) j) := by
  refine congrArg x1 (funext fun a => Fin.ext ?_)
  match a with
  | ⟨0, _⟩ => show 1536 + 1 * k.val = 3 * 512 + k.val; omega
  | ⟨1, _⟩ => show 0 + 1 * j.val = j.val; omega
theorem a4_apply (k : Fin 512) (j : Fin 512) : a4 x0 (ix2 k j) = x0 (ix2 (tok 4 k) j) := by
  refine congrArg x0 (funext fun a => Fin.ext ?_)
  match a with
  | ⟨0, _⟩ => show 2048 + 1 * k.val = 4 * 512 + k.val; omega
  | ⟨1, _⟩ => show 0 + 1 * j.val = j.val; omega
theorem b4_apply (k : Fin 512) (j : Fin 896) : b4 x1 (ix2 k j) = x1 (ix2 (tok 4 k) j) := by
  refine congrArg x1 (funext fun a => Fin.ext ?_)
  match a with
  | ⟨0, _⟩ => show 2048 + 1 * k.val = 4 * 512 + k.val; omega
  | ⟨1, _⟩ => show 0 + 1 * j.val = j.val; omega
theorem a5_apply (k : Fin 512) (j : Fin 512) : a5 x0 (ix2 k j) = x0 (ix2 (tok 5 k) j) := by
  refine congrArg x0 (funext fun a => Fin.ext ?_)
  match a with
  | ⟨0, _⟩ => show 2560 + 1 * k.val = 5 * 512 + k.val; omega
  | ⟨1, _⟩ => show 0 + 1 * j.val = j.val; omega
theorem b5_apply (k : Fin 512) (j : Fin 896) : b5 x1 (ix2 k j) = x1 (ix2 (tok 5 k) j) := by
  refine congrArg x1 (funext fun a => Fin.ext ?_)
  match a with
  | ⟨0, _⟩ => show 2560 + 1 * k.val = 5 * 512 + k.val; omega
  | ⟨1, _⟩ => show 0 + 1 * j.val = j.val; omega
theorem a6_apply (k : Fin 512) (j : Fin 512) : a6 x0 (ix2 k j) = x0 (ix2 (tok 6 k) j) := by
  refine congrArg x0 (funext fun a => Fin.ext ?_)
  match a with
  | ⟨0, _⟩ => show 3072 + 1 * k.val = 6 * 512 + k.val; omega
  | ⟨1, _⟩ => show 0 + 1 * j.val = j.val; omega
theorem b6_apply (k : Fin 512) (j : Fin 896) : b6 x1 (ix2 k j) = x1 (ix2 (tok 6 k) j) := by
  refine congrArg x1 (funext fun a => Fin.ext ?_)
  match a with
  | ⟨0, _⟩ => show 3072 + 1 * k.val = 6 * 512 + k.val; omega
  | ⟨1, _⟩ => show 0 + 1 * j.val = j.val; omega
theorem a7_apply (k : Fin 512) (j : Fin 512) : a7 x0 (ix2 k j) = x0 (ix2 (tok 7 k) j) := by
  refine congrArg x0 (funext fun a => Fin.ext ?_)
  match a with
  | ⟨0, _⟩ => show 3584 + 1 * k.val = 7 * 512 + k.val; omega
  | ⟨1, _⟩ => show 0 + 1 * j.val = j.val; omega
theorem b7_apply (k : Fin 512) (j : Fin 896) : b7 x1 (ix2 k j) = x1 (ix2 (tok 7 k) j) := by
  refine congrArg x1 (funext fun a => Fin.ext ?_)
  match a with
  | ⟨0, _⟩ => show 3584 + 1 * k.val = 7 * 512 + k.val; omega
  | ⟨1, _⟩ => show 0 + 1 * j.val = j.val; omega

/-- One run's part of a product. -/
def run (g : Fin 8) (p : Fin 512) (q : Fin 896) : EReal := ∑ k : Fin 512, x0 (ix2 (tok g k) p) * x1 (ix2 (tok g k) q)

theorem s1_apply (p : Fin 512) (q : Fin 896) : s1 x0 x1 (ix3 0 p q) = run x0 x1 0 p q := by
  unfold s1 k0_pay1 run
  pointwise
  simp only [a0_apply, b0_apply]
theorem s2_apply (p : Fin 512) (q : Fin 896) : s2 x0 x1 (ix3 0 p q) = s1 x0 x1 (ix3 0 p q) + run x0 x1 1 p q := by
  unfold s2 k0_pay2 run
  pointwise
  simp only [a1_apply, b1_apply]
theorem s3_apply (p : Fin 512) (q : Fin 896) : s3 x0 x1 (ix3 0 p q) = s2 x0 x1 (ix3 0 p q) + run x0 x1 2 p q := by
  unfold s3 k0_pay4 k0_pay3 run
  pointwise
  simp only [a2_apply, b2_apply]
theorem s4_apply (p : Fin 512) (q : Fin 896) : s4 x0 x1 (ix3 0 p q) = s3 x0 x1 (ix3 0 p q) + run x0 x1 3 p q := by
  unfold s4 k0_pay5 run
  pointwise
  simp only [a3_apply, b3_apply]
theorem s5_apply (p : Fin 512) (q : Fin 896) : s5 x0 x1 (ix3 0 p q) = s4 x0 x1 (ix3 0 p q) + run x0 x1 4 p q := by
  unfold s5 k0_pay6 run
  pointwise
  simp only [a4_apply, b4_apply]
theorem s6_apply (p : Fin 512) (q : Fin 896) : s6 x0 x1 (ix3 0 p q) = s5 x0 x1 (ix3 0 p q) + run x0 x1 5 p q := by
  unfold s6 k0_pay9 k0_pay7 k0_pay8 run
  pointwise
  simp only [a5_apply, b5_apply]
theorem s7_apply (p : Fin 512) (q : Fin 896) : s7 x0 x1 (ix3 0 p q) = s6 x0 x1 (ix3 0 p q) + run x0 x1 6 p q := by
  unfold s7 k0_pay10 run
  pointwise
  simp only [a6_apply, b6_apply]
theorem s8_apply (p : Fin 512) (q : Fin 896) : s8 x0 x1 (ix3 0 p q) = s7 x0 x1 (ix3 0 p q) + run x0 x1 7 p q := by
  unfold s8 k0_pay11 run
  pointwise
  simp only [a7_apply, b7_apply]

/-- A point's block is the product over all the tokens. -/
theorem out_apply (p : Fin 512) (q : Fin 896) : s8 x0 x1 (ix3 0 p q) = ∑ k, x0 (ix2 k p) * x1 (ix2 k q) := by
  rw [s8_apply, s7_apply, s6_apply, s5_apply, s4_apply, s3_apply, s2_apply, s1_apply, sum_tok]
  rfl

end Ideal

/-! ## The run -/

variable (m : (ℓ : Loc nD τ sig) → Buf (Elt Ideal) ℓ) (ρ : Dev nD → PrngReg) (c : Dev nD)

theorem V_v0 (i : Fin 4096) (k : Fin 1024) : (V m c main_v0 : Vec Ideal S4096x1024 .bf16) (ix2 i k) = (m ((c : Thread nD τ).loc main_arg0) : Vec Ideal S4096x1024 .f32) (ix2 i k) := by
  unfold V
  after_reads_at
theorem V_v1 (i : Fin 4096) (k : Fin 3584) : (V m c main_v1 : Vec Ideal S4096x3584 .bf16) (ix2 i k) = (m ((c : Thread nD τ).loc main_arg1) : Vec Ideal S4096x3584 .f32) (ix2 i k) := by
  unfold V
  after_reads_at

theorem lt_N (t : Fin cfg0.N) : t.val < 8 := lt_of_lt_of_eq t.isLt (show cfg0.N = 8 from N_0)

/-- Row `p` and column `q` of point `t`'s block, in the array; `q` also as a column of the second operand. -/
def gi (t : Fin cfg0.N) : Fin 4 := ⟨t.val / 2, by have := lt_N t; omega⟩
def pi (t : Fin cfg0.N) (p : Fin 512) : Fin 1024 := ⟨t.val % 2 * 512 + p.val, by have := p.isLt; have := Nat.mod_lt t.val (show 0 < 2 by decide); omega⟩
def col (g : Fin 4) (q : Fin 896) : Fin 3584 := ⟨g.val * 896 + q.val, by have := g.isLt; have := q.isLt; omega⟩

theorem point (g : Fin 4) (i : Fin 1024) : ∃ (t : Fin cfg0.N) (p : Fin 512), gi t = g ∧ pi t p = i :=
  ⟨⟨g.val * 2 + i.val / 512, by rw [show cfg0.N = 8 from N_0]; have := g.isLt; have := i.isLt; omega⟩, ⟨i.val % 512, Nat.mod_lt _ (by decide)⟩,
    Fin.ext (by show (g.val * 2 + i.val / 512) / 2 = g.val; have := i.isLt; omega),
    Fin.ext (by show (g.val * 2 + i.val / 512) % 2 * 512 + i.val % 512 = i.val; have := i.isLt; omega)⟩

theorem idx0 : ∀ t : Fin cfg0.N, win0_0.index t (0 : Fin 2) = 0 ∧ win0_0.index t (1 : Fin 2) = t.val % 2 :=
  (by decide +kernel : ∀ t : Fin grid0.N, _)
theorem idx1 : ∀ t : Fin cfg0.N, win0_1.index t (0 : Fin 2) = 0 ∧ win0_1.index t (1 : Fin 2) = t.val / 2 :=
  (by decide +kernel : ∀ t : Fin grid0.N, _)
theorem idx2 : ∀ t : Fin cfg0.N, win0_2.index t (0 : Fin 3) = t.val / 2 ∧ win0_2.index t (1 : Fin 3) = t.val % 2 ∧ win0_2.index t (2 : Fin 3) = 0 :=
  (by decide +kernel : ∀ t : Fin grid0.N, _)

theorem emb0 (t : Fin cfg0.N) (k : Fin 4096) (p : Fin 512) : ((cfg0.win 0).blk t).view.emb (ix2 k p) = ix2 k (pi t p) := by
  obtain ⟨e0, e1⟩ := idx0 t
  funext a; apply Fin.ext
  match a with
  | ⟨0, _⟩ => show win0_0.index t (0 : Fin 2) * 4096 + 1 * k.val = k.val; rw [e0]; omega
  | ⟨1, _⟩ => show win0_0.index t (1 : Fin 2) * 512 + 1 * p.val = t.val % 2 * 512 + p.val; rw [e1]; omega
theorem emb1 (t : Fin cfg0.N) (k : Fin 4096) (q : Fin 896) : ((cfg0.win 1).blk t).view.emb (ix2 k q) = ix2 k (col (gi t) q) := by
  obtain ⟨e0, e1⟩ := idx1 t
  funext a; apply Fin.ext
  match a with
  | ⟨0, _⟩ => show win0_1.index t (0 : Fin 2) * 4096 + 1 * k.val = k.val; rw [e0]; omega
  | ⟨1, _⟩ => show win0_1.index t (1 : Fin 2) * 896 + 1 * q.val = t.val / 2 * 896 + q.val; rw [e1]; omega
theorem emb2 (t : Fin cfg0.N) (p : Fin 512) (q : Fin 896) : ((cfg0.win 2).blk t).view.emb (ix3 0 p q) = ix3 (gi t) (pi t p) q := by
  obtain ⟨e0, e1, e2⟩ := idx2 t
  funext a; apply Fin.ext
  match a with
  | ⟨0, _⟩ => show win0_2.index t (0 : Fin 3) * 1 + 1 * 0 = t.val / 2; rw [e0]; omega
  | ⟨1, _⟩ => show win0_2.index t (1 : Fin 3) * 512 + 1 * p.val = t.val % 2 * 512 + p.val; rw [e1]; omega
  | ⟨2, _⟩ => show win0_2.index t (2 : Fin 3) * 896 + 1 * q.val = q.val; rw [e2]; omega

theorem blk0 (t : Fin cfg0.N) (k : Fin 4096) (p : Fin 512) : (iblk m c 0 t : Vec Ideal S4096x512 .bf16) (ix2 k p) = (m ((c : Thread nD τ).loc main_arg0) : Vec Ideal S4096x1024 .f32) (ix2 k (pi t p)) := by
  refine Eq.trans ?_ (V_v0 m c k (pi t p))
  show V m c main_v0 (((cfg0.win 0).blk t).view.emb (ix2 k p)) = _
  rw [emb0]
theorem blk1 (t : Fin cfg0.N) (k : Fin 4096) (q : Fin 896) : (iblk m c 1 t : Vec Ideal S4096x896 .bf16) (ix2 k q) = (m ((c : Thread nD τ).loc main_arg1) : Vec Ideal S4096x3584 .f32) (ix2 k (col (gi t) q)) := by
  refine Eq.trans ?_ (V_v1 m c k (col (gi t) q))
  show V m c main_v1 (((cfg0.win 1).blk t).view.emb (ix2 k q)) = _
  rw [emb1]

/-- The two operands of the launch memory. -/
def left (k : Fin 4096) (i : Fin 1024) : EReal := (m ((c : Thread nD τ).loc main_arg0) : Vec Ideal S4096x1024 .f32) (ix2 k i)
def right (k : Fin 4096) (j : Fin 3584) : EReal := (m ((c : Thread nD τ).loc main_arg1) : Vec Ideal S4096x3584 .f32) (ix2 k j)

/-- The gradient's entry, of the launch memory: the product over the tokens. -/
def grad (g : Fin 4) (i : Fin 1024) (q : Fin 896) : EReal := ∑ k : Fin 4096, left m c k i * right m c k (col g q)

theorem flushed (t : Fin cfg0.N) (p : Fin 512) (q : Fin 896) : (dats m 0 c).flushed 2 t (ix3 0 p q) = grad m c (gi t) (pi t p) q := by
  rw [Cert.Kernel7Ideal.Value.flushed2_A, out_eq]
  refine (out_apply (iblk m c 0 t) (iblk m c 1 t) p q).trans (Finset.sum_congr rfl fun k _ => ?_)
  exact congrArg₂ (· * ·) (blk0 m c t k p) (blk1 m c t k q)

/-- The result's array after the run. -/
theorem arr : (dats m 0 c).arrAt 2 cfg0.N = (fun i : S4x1024x896.Idx => grad m c (i 0) (i 1) (i 2)) := by
  refine (dats m 0 c).arrAt_eq_of_cover 2 _ (fun t _ => ?_) (fun i => ?_)
  · funext y
    obtain ⟨p, q, rfl⟩ : ∃ (p : Fin 512) (q : Fin 896), y = ix3 0 p q := ⟨y 1, y 2, (eq_ix3 y).trans (congrArg (fun z => ix3 z (y 1) (y 2)) (Fin.fin_one_eq_zero (y 0)))⟩
    rw [flushed, View.read_apply, emb2]; rfl
  · obtain ⟨g, p, q, rfl⟩ : ∃ (g : Fin 4) (p : Fin 1024) (q : Fin 896), i = ix3 g p q := ⟨i 0, i 1, i 2, eq_ix3 i⟩
    obtain ⟨t, r, rfl, rfl⟩ := point g p
    exact ⟨t, flush0_2 t, emb2 t r q ▸ ((cfg0.win 2).blk t).view.emb_mem_set (ix3 0 r q)⟩

/-- The whole run: the result's array, and the arguments kept. -/
theorem kernel : θ_run defs (onTc (τ := τ) (main (F := Ideal))) ⟨m, fun _ => 0, ρ⟩ fun r => ∀ c : Dev nD,
      r.2.mem ((c : Thread nD τ).loc main_v2) = (fun i : S4x1024x896.Idx => grad m c (i 0) (i 1) (i 2))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c), (h c).2⟩) (Cert.Kernel7Ideal.Value.run_blocks m ρ)

/-! ## The reference -/

theorem reference (x0 : (⟨Cert.Reference7Ideal.S4096x1024, .f32⟩ : BufTy).Contents (Elt Ideal)) (x1 : (⟨Cert.Reference7Ideal.S4096x3584, .f32⟩ : BufTy).Contents (Elt Ideal))
    (g : Fin 4) (i : Fin 1024) (q : Fin 896) :
    Cert.Reference7Ideal.Read.val_main_v5 (F := Ideal) x0 x1 (ix3 g i q) = ∑ k : Fin 4096, x0 (ix2 k i) * x1 (ix2 k (col g q)) := by
  rw [Cert.Reference7Ideal.Read.val_main_v5_apply, Cert.Reference7Ideal.Read.val_main_v4_apply, Cert.Reference7Ideal.Read.val_main_v3_apply, Cert.Reference7Ideal.Read.val_main_v2_apply]
  refine Finset.sum_congr rfl fun k _ => (mul_comm _ _).trans (congrArg₂ (· * ·) (congrArg x0 ?_) (congrArg x1 ?_))
  · funext a; apply Fin.ext
    match a with
    | ⟨0, _⟩ => rfl
    | ⟨1, _⟩ => show ((i.val * 4 + g.val) * 896 + q.val) / 3584 = i.val; have := g.isLt; have := q.isLt; omega
  · funext a; apply Fin.ext
    match a with
    | ⟨0, _⟩ => rfl
    | ⟨1, _⟩ => show ((i.val * 4 + g.val) * 896 + q.val) % 3584 = g.val * 896 + q.val; have := g.isLt; have := q.isLt; omega

/-- The reference declares no semaphore, so its run's end has none raised. -/
theorem frame_reference : Cert.quiescent_Reference7Ideal (hReference7Ideal := Cert.Reference7Ideal.Gen.facts) :=
  fun m g _ => (θ_run Cert.Reference7Ideal.defs _ _).mono (fun r h => ⟨fun c => (h c).2, sem_eq_zero_of_no_sems rfl r.2⟩) (Cert.Reference7Ideal.Value.run m g)

/-- The two programs' results over the extended reals, from memories agreeing on the arguments. -/
theorem algebraic : Cert.algebraic_Kernel7Ideal_Reference7Ideal (hKernel7Ideal := Cert.Kernel7Ideal.Gen.facts) (hReference7Ideal := Cert.Reference7Ideal.Gen.facts) := by
  intro m g m' g' _ hag
  refine ⟨_, kernel m g, (θ_run Cert.Reference7Ideal.defs _ _).mono (fun r h c => ?_) (Cert.Reference7Ideal.Value.run m' g')⟩
  obtain ⟨h0, hargs⟩ := h c
  obtain ⟨e0, e1⟩ := hag c
  refine ⟨h0.trans ?_, hargs⟩
  rw [Cert.Reference7Ideal.Read.val_main_v5_eq, e0, e1]
  funext j
  rw [eq_ix3 j]
  exact reference _ _ (j 0) (j 1) (j 2)

end Cert.Wg7

end
-- ==== Proof.Wg8.lean ====
/- The weight gradient's call of the MLP's first product (`wgrad_mlp_in`): what one grid point leaves in its output block, for any reading
   of the floats, and over the extended reals; the array after the run; and the same of the plain reference. A point's block is
   the product of 512 columns of one operand with a block of columns of the other, added up over eight runs of 512 tokens. -/
module

public import proofs.«01_k».proof.Defs
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.WgSum
public import Idealize.ShloMosaic.Lib.Pointwise
public import Idealize.ShloMosaic.Lib.StableHlo.ReadAt
public import Idealize.ShloMosaic.Lib.Quiescent

@[expose] public section

set_option maxRecDepth 16384

noncomputable section

namespace Cert.Wg8

open Cert.Kernel8Ideal Cert.Kernel8Ideal.Gen Idealize.ShloMosaic Idealize.ShloMosaic.TcCoe Idealize.SL.Sem
open Idealize.ShloMosaic.Pipeline (Dat)
open Cert.KernelIdeal.Tile (readAt_rect readCov_rect)
open Cert.WgSum

section Point

variable {F : FTy → Type} [FloatOps F]
variable (x0 : Vec F S4096x512 .bf16) (x1 : Vec F S4096x1024 .bf16)

/-! The runs of 512 tokens of the two operands' blocks, and the sums after each run. -/

def a0 : Vec F S512x512 .bf16 := View.ld x0 (Rect.unit ![0, 0] S512x512.size inb_S4096x512_S512x512_0_0)
def a1 : Vec F S512x512 .bf16 := View.ld x0 (Rect.unit ![512, 0] S512x512.size inb_S4096x512_S512x512_512_0)
def a2 : Vec F S512x512 .bf16 := View.ld x0 (Rect.unit ![1024, 0] S512x512.size inb_S4096x512_S512x512_1024_0)
def a3 : Vec F S512x512 .bf16 := View.ld x0 (Rect.unit ![1536, 0] S512x512.size inb_S4096x512_S512x512_1536_0)
def a4 : Vec F S512x512 .bf16 := View.ld x0 (Rect.unit ![2048, 0] S512x512.size inb_S4096x512_S512x512_2048_0)
def a5 : Vec F S512x512 .bf16 := View.ld x0 (Rect.unit ![2560, 0] S512x512.size inb_S4096x512_S512x512_2560_0)
def a6 : Vec F S512x512 .bf16 := View.ld x0 (Rect.unit ![3072, 0] S512x512.size inb_S4096x512_S512x512_3072_0)
def a7 : Vec F S512x512 .bf16 := View.ld x0 (Rect.unit ![3584, 0] S512x512.size inb_S4096x512_S512x512_3584_0)
def b0 : Vec F S512x1024 .bf16 := View.ld x1 (Rect.unit ![0, 0] S512x1024.size inb_S4096x1024_S512x1024_0_0)
def b1 : Vec F S512x1024 .bf16 := View.ld x1 (Rect.unit ![512, 0] S512x1024.size inb_S4096x1024_S512x1024_512_0)
def b2 : Vec F S512x1024 .bf16 := View.ld x1 (Rect.unit ![1024, 0] S512x1024.size inb_S4096x1024_S512x1024_1024_0)
def b3 : Vec F S512x1024 .bf16 := View.ld x1 (Rect.unit ![1536, 0] S512x1024.size inb_S4096x1024_S512x1024_1536_0)
def b4 : Vec F S512x1024 .bf16 := View.ld x1 (Rect.unit ![2048, 0] S512x1024.size inb_S4096x1024_S512x1024_2048_0)
def b5 : Vec F S512x1024 .bf16 := View.ld x1 (Rect.unit ![2560, 0] S512x1024.size inb_S4096x1024_S512x1024_2560_0)
def b6 : Vec F S512x1024 .bf16 := View.ld x1 (Rect.unit ![3072, 0] S512x1024.size inb_S4096x1024_S512x1024_3072_0)
def b7 : Vec F S512x1024 .bf16 := View.ld x1 (Rect.unit ![3584, 0] S512x1024.size inb_S4096x1024_S512x1024_3584_0)
def s1 : Vec F S1x512x1024 .f32 := k0_pay1 (a0 x0) (b0 x1)
def s2 : Vec F S1x512x1024 .f32 := k0_pay2 (s1 x0 x1) (a1 x0) (b1 x1)
def s3 : Vec F S1x512x1024 .f32 := k0_pay4 (k0_pay3 (s2 x0 x1) (a2 x0) (b2 x1))
def s4 : Vec F S1x512x1024 .f32 := k0_pay5 (s3 x0 x1) (a3 x0) (b3 x1)
def s5 : Vec F S1x512x1024 .f32 := k0_pay6 (s4 x0 x1) (a4 x0) (b4 x1)
def s6 : Vec F S1x512x1024 .f32 := k0_pay9 (k0_pay7 (s5 x0 x1)) (k0_pay8 (a5 x0)) (b5 x1)
def s7 : Vec F S1x512x1024 .f32 := k0_pay10 (s6 x0 x1) (a6 x0) (b6 x1)
def s8 : Vec F S1x512x1024 .f32 := k0_pay11 (s7 x0 x1) (a7 x0) (b7 x1)

variable (c : Dev nD) (i : grid0.Coords)
variable (arg2 : Memref sig .tc .vmem S4096x512 .bf16) (harg2 : arg2.IsWhole) (arg3 : Memref sig .tc .vmem S4096x1024 .bf16) (harg3 : arg3.IsWhole)
  (arg4 : Memref sig .tc .vmem S1x512x1024 .f32) (harg4 : arg4.IsWhole)

theorem R_H1 : View.canon (kernelRun0_A.sl.H2_1 (F := F) c arg2 harg2 arg3 harg3 x0 x1) = s1 x0 x1 := by
  unfold kernelRun0_A.sl.H2_1
  rw [canon3]
  rw [readAt_rect, readAt_rect]; rfl
theorem R_v8 : kernelRun0_A.sl.v8 (F := F) c arg2 harg2 arg3 harg3 arg4 x0 x1 = s1 x0 x1 := by
  unfold kernelRun0_A.sl.v8; rw [readCov_rect, R_H1]; exact ld3 _ _

theorem R_H2 : View.canon (kernelRun0_A.sl.H2_2 (F := F) c arg2 harg2 arg3 harg3 arg4 x0 x1) = s2 x0 x1 := by
  unfold kernelRun0_A.sl.H2_2
  rw [canon3]
  rw [R_v8, readAt_rect, readAt_rect]; rfl
theorem R_v19 : kernelRun0_A.sl.v19 (F := F) c arg2 harg2 arg3 harg3 arg4 x0 x1 = s2 x0 x1 := by
  unfold kernelRun0_A.sl.v19; rw [readCov_rect, R_H2]; exact ld3 _ _

theorem R_H3 : View.canon (kernelRun0_A.sl.H2_3 (F := F) c arg2 harg2 arg3 harg3 arg4 x0 x1) = s3 x0 x1 := by
  unfold kernelRun0_A.sl.H2_3
  rw [canon3]
  rw [show kernelRun0_A.sl.r (F := F) c arg2 harg2 arg3 harg3 arg4 x0 x1 = k0_pay3 (s2 x0 x1) (a2 x0) (b2 x1) from by unfold kernelRun0_A.sl.r; rw [R_v19, readAt_rect, readAt_rect]; rfl]
  rfl
theorem R_v30 : kernelRun0_A.sl.v30 (F := F) c arg2 harg2 arg3 harg3 arg4 x0 x1 = s3 x0 x1 := by
  unfold kernelRun0_A.sl.v30; rw [readCov_rect, R_H3]; exact ld3 _ _

theorem R_H4 : View.canon (kernelRun0_A.sl.H2_4 (F := F) c arg2 harg2 arg3 harg3 arg4 x0 x1) = s4 x0 x1 := by
  unfold kernelRun0_A.sl.H2_4
  rw [canon3]
  rw [R_v30, readAt_rect, readAt_rect]; rfl
theorem R_v41 : kernelRun0_A.sl.v41 (F := F) c arg2 harg2 arg3 harg3 arg4 x0 x1 = s4 x0 x1 := by
  unfold kernelRun0_A.sl.v41; rw [readCov_rect, R_H4]; exact ld3 _ _

theorem R_H5 : View.canon (kernelRun0_A.sl.H2_5 (F := F) c arg2 harg2 arg3 harg3 arg4 x0 x1) = s5 x0 x1 := by
  unfold kernelRun0_A.sl.H2_5
  rw [canon3]
  rw [R_v41, readAt_rect, readAt_rect]; rfl
theorem R_v52 : kernelRun0_A.sl.v52 (F := F) c arg2 harg2 arg3 harg3 arg4 x0 x1 = s5 x0 x1 := by
  unfold kernelRun0_A.sl.v52; rw [readCov_rect, R_H5]; exact ld3 _ _

theorem R_H6 : View.canon (kernelRun0_A.sl.H2_6 (F := F) c arg2 harg2 arg3 harg3 arg4 x0 x1) = s6 x0 x1 := by
  unfold kernelRun0_A.sl.H2_6
  rw [canon3]
  rw [show kernelRun0_A.sl.r_1 (F := F) c arg2 harg2 arg3 harg3 arg4 x0 x1 = k0_pay7 (s5 x0 x1) from by unfold kernelRun0_A.sl.r_1; rw [R_v52],
    show kernelRun0_A.sl.r_2 (F := F) c arg2 harg2 x0 = k0_pay8 (a5 x0) from by unfold kernelRun0_A.sl.r_2; rw [readAt_rect]; rfl, readAt_rect]
  rfl
theorem R_v63 : kernelRun0_A.sl.v63 (F := F) c arg2 harg2 arg3 harg3 arg4 x0 x1 = s6 x0 x1 := by
  unfold kernelRun0_A.sl.v63; rw [readCov_rect, R_H6]; exact ld3 _ _

theorem R_H7 : View.canon (kernelRun0_A.sl.H2_7 (F := F) c arg2 harg2 arg3 harg3 arg4 x0 x1) = s7 x0 x1 := by
  unfold kernelRun0_A.sl.H2_7
  rw [canon3]
  rw [R_v63, readAt_rect, readAt_rect]; rfl
theorem R_v74 : kernelRun0_A.sl.v74 (F := F) c arg2 harg2 arg3 harg3 arg4 x0 x1 = s7 x0 x1 := by
  unfold kernelRun0_A.sl.v74; rw [readCov_rect, R_H7]; exact ld3 _ _

/-- What a point leaves. -/
theorem out_eq : out0_A_2 c i arg2 harg2 arg3 harg3 arg4 harg4 x0 x1 = s8 x0 x1 := by
  unfold out0_A_2
  rw [View.read_writes_junk_eq_canon]
  dsimp only [kernelRun0_A]
  rw [canon3, R_v74, readAt_rect, readAt_rect]
  rfl

end Point

/-! ## Over the extended reals -/

section Ideal

variable (x0 : Vec Ideal S4096x512 .bf16) (x1 : Vec Ideal S4096x1024 .bf16)

theorem a0_apply (k : Fin 512) (j : Fin 512) : a0 x0 (ix2 k j) = x0 (ix2 (tok 0 k) j) := by
  refine congrArg x0 (funext fun a => Fin.ext ?_)
  match a with
  | ⟨0, _⟩ => show 0 + 1 * k.val = 0 * 512 + k.val; omega
  | ⟨1, _⟩ => show 0 + 1 * j.val = j.val; omega
theorem b0_apply (k : Fin 512) (j : Fin 1024) : b0 x1 (ix2 k j) = x1 (ix2 (tok 0 k) j) := by
  refine congrArg x1 (funext fun a => Fin.ext ?_)
  match a with
  | ⟨0, _⟩ => show 0 + 1 * k.val = 0 * 512 + k.val; omega
  | ⟨1, _⟩ => show 0 + 1 * j.val = j.val; omega
theorem a1_apply (k : Fin 512) (j : Fin 512) : a1 x0 (ix2 k j) = x0 (ix2 (tok 1 k) j) := by
  refine congrArg x0 (funext fun a => Fin.ext ?_)
  match a with
  | ⟨0, _⟩ => show 512 + 1 * k.val = 1 * 512 + k.val; omega
  | ⟨1, _⟩ => show 0 + 1 * j.val = j.val; omega
theorem b1_apply (k : Fin 512) (j : Fin 1024) : b1 x1 (ix2 k j) = x1 (ix2 (tok 1 k) j) := by
  refine congrArg x1 (funext fun a => Fin.ext ?_)
  match a with
  | ⟨0, _⟩ => show 512 + 1 * k.val = 1 * 512 + k.val; omega
  | ⟨1, _⟩ => show 0 + 1 * j.val = j.val; omega
theorem a2_apply (k : Fin 512) (j : Fin 512) : a2 x0 (ix2 k j) = x0 (ix2 (tok 2 k) j) := by
  refine congrArg x0 (funext fun a => Fin.ext ?_)
  match a with
  | ⟨0, _⟩ => show 1024 + 1 * k.val = 2 * 512 + k.val; omega
  | ⟨1, _⟩ => show 0 + 1 * j.val = j.val; omega
theorem b2_apply (k : Fin 512) (j : Fin 1024) : b2 x1 (ix2 k j) = x1 (ix2 (tok 2 k) j) := by
  refine congrArg x1 (funext fun a => Fin.ext ?_)
  match a with
  | ⟨0, _⟩ => show 1024 + 1 * k.val = 2 * 512 + k.val; omega
  | ⟨1, _⟩ => show 0 + 1 * j.val = j.val; omega
theorem a3_apply (k : Fin 512) (j : Fin 512) : a3 x0 (ix2 k j) = x0 (ix2 (tok 3 k) j) := by
  refine congrArg x0 (funext fun a => Fin.ext ?_)
  match a with
  | ⟨0, _⟩ => show 1536 + 1 * k.val = 3 * 512 + k.val; omega
  | ⟨1, _⟩ => show 0 + 1 * j.val = j.val; omega
theorem b3_apply (k : Fin 512) (j : Fin 1024) : b3 x1 (ix2 k j) = x1 (ix2 (tok 3 k) j) := by
  refine congrArg x1 (funext fun a => Fin.ext ?_)
  match a with
  | ⟨0, _⟩ => show 1536 + 1 * k.val = 3 * 512 + k.val; omega
  | ⟨1, _⟩ => show 0 + 1 * j.val = j.val; omega
theorem a4_apply (k : Fin 512) (j : Fin 512) : a4 x0 (ix2 k j) = x0 (ix2 (tok 4 k) j) := by
  refine congrArg x0 (funext fun a => Fin.ext ?_)
  match a with
  | ⟨0, _⟩ => show 2048 + 1 * k.val = 4 * 512 + k.val; omega
  | ⟨1, _⟩ => show 0 + 1 * j.val = j.val; omega
theorem b4_apply (k : Fin 512) (j : Fin 1024) : b4 x1 (ix2 k j) = x1 (ix2 (tok 4 k) j) := by
  refine congrArg x1 (funext fun a => Fin.ext ?_)
  match a with
  | ⟨0, _⟩ => show 2048 + 1 * k.val = 4 * 512 + k.val; omega
  | ⟨1, _⟩ => show 0 + 1 * j.val = j.val; omega
theorem a5_apply (k : Fin 512) (j : Fin 512) : a5 x0 (ix2 k j) = x0 (ix2 (tok 5 k) j) := by
  refine congrArg x0 (funext fun a => Fin.ext ?_)
  match a with
  | ⟨0, _⟩ => show 2560 + 1 * k.val = 5 * 512 + k.val; omega
  | ⟨1, _⟩ => show 0 + 1 * j.val = j.val; omega
theorem b5_apply (k : Fin 512) (j : Fin 1024) : b5 x1 (ix2 k j) = x1 (ix2 (tok 5 k) j) := by
  refine congrArg x1 (funext fun a => Fin.ext ?_)
  match a with
  | ⟨0, _⟩ => show 2560 + 1 * k.val = 5 * 512 + k.val; omega
  | ⟨1, _⟩ => show 0 + 1 * j.val = j.val; omega
theorem a6_apply (k : Fin 512) (j : Fin 512) : a6 x0 (ix2 k j) = x0 (ix2 (tok 6 k) j) := by
  refine congrArg x0 (funext fun a => Fin.ext ?_)
  match a with
  | ⟨0, _⟩ => show 3072 + 1 * k.val = 6 * 512 + k.val; omega
  | ⟨1, _⟩ => show 0 + 1 * j.val = j.val; omega
theorem b6_apply (k : Fin 512) (j : Fin 1024) : b6 x1 (ix2 k j) = x1 (ix2 (tok 6 k) j) := by
  refine congrArg x1 (funext fun a => Fin.ext ?_)
  match a with
  | ⟨0, _⟩ => show 3072 + 1 * k.val = 6 * 512 + k.val; omega
  | ⟨1, _⟩ => show 0 + 1 * j.val = j.val; omega
theorem a7_apply (k : Fin 512) (j : Fin 512) : a7 x0 (ix2 k j) = x0 (ix2 (tok 7 k) j) := by
  refine congrArg x0 (funext fun a => Fin.ext ?_)
  match a with
  | ⟨0, _⟩ => show 3584 + 1 * k.val = 7 * 512 + k.val; omega
  | ⟨1, _⟩ => show 0 + 1 * j.val = j.val; omega
theorem b7_apply (k : Fin 512) (j : Fin 1024) : b7 x1 (ix2 k j) = x1 (ix2 (tok 7 k) j) := by
  refine congrArg x1 (funext fun a => Fin.ext ?_)
  match a with
  | ⟨0, _⟩ => show 3584 + 1 * k.val = 7 * 512 + k.val; omega
  | ⟨1, _⟩ => show 0 + 1 * j.val = j.val; omega

/-- One run's part of a product. -/
def run (g : Fin 8) (p : Fin 512) (q : Fin 1024) : EReal := ∑ k : Fin 512, x0 (ix2 (tok g k) p) * x1 (ix2 (tok g k) q)

theorem s1_apply (p : Fin 512) (q : Fin 1024) : s1 x0 x1 (ix3 0 p q) = run x0 x1 0 p q := by
  unfold s1 k0_pay1 run
  pointwise
  simp only [a0_apply, b0_apply]
theorem s2_apply (p : Fin 512) (q : Fin 1024) : s2 x0 x1 (ix3 0 p q) = s1 x0 x1 (ix3 0 p q) + run x0 x1 1 p q := by
  unfold s2 k0_pay2 run
  pointwise
  simp only [a1_apply, b1_apply]
theorem s3_apply (p : Fin 512) (q : Fin 1024) : s3 x0 x1 (ix3 0 p q) = s2 x0 x1 (ix3 0 p q) + run x0 x1 2 p q := by
  unfold s3 k0_pay4 k0_pay3 run
  pointwise
  simp only [a2_apply, b2_apply]
theorem s4_apply (p : Fin 512) (q : Fin 1024) : s4 x0 x1 (ix3 0 p q) = s3 x0 x1 (ix3 0 p q) + run x0 x1 3 p q := by
  unfold s4 k0_pay5 run
  pointwise
  simp only [a3_apply, b3_apply]
theorem s5_apply (p : Fin 512) (q : Fin 1024) : s5 x0 x1 (ix3 0 p q) = s4 x0 x1 (ix3 0 p q) + run x0 x1 4 p q := by
  unfold s5 k0_pay6 run
  pointwise
  simp only [a4_apply, b4_apply]
theorem s6_apply (p : Fin 512) (q : Fin 1024) : s6 x0 x1 (ix3 0 p q) = s5 x0 x1 (ix3 0 p q) + run x0 x1 5 p q := by
  unfold s6 k0_pay9 k0_pay7 k0_pay8 run
  pointwise
  simp only [a5_apply, b5_apply]
theorem s7_apply (p : Fin 512) (q : Fin 1024) : s7 x0 x1 (ix3 0 p q) = s6 x0 x1 (ix3 0 p q) + run x0 x1 6 p q := by
  unfold s7 k0_pay10 run
  pointwise
  simp only [a6_apply, b6_apply]
theorem s8_apply (p : Fin 512) (q : Fin 1024) : s8 x0 x1 (ix3 0 p q) = s7 x0 x1 (ix3 0 p q) + run x0 x1 7 p q := by
  unfold s8 k0_pay11 run
  pointwise
  simp only [a7_apply, b7_apply]

/-- A point's block is the product over all the tokens. -/
theorem out_apply (p : Fin 512) (q : Fin 1024) : s8 x0 x1 (ix3 0 p q) = ∑ k, x0 (ix2 k p) * x1 (ix2 k q) := by
  rw [s8_apply, s7_apply, s6_apply, s5_apply, s4_apply, s3_apply, s2_apply, s1_apply, sum_tok]
  rfl

end Ideal

/-! ## The run -/

variable (m : (ℓ : Loc nD τ sig) → Buf (Elt Ideal) ℓ) (ρ : Dev nD → PrngReg) (c : Dev nD)

theorem V_v0 (i : Fin 4096) (k : Fin 1024) : (V m c main_v0 : Vec Ideal S4096x1024 .bf16) (ix2 i k) = (m ((c : Thread nD τ).loc main_arg0) : Vec Ideal S4096x1024 .f32) (ix2 i k) := by
  unfold V
  after_reads_at
theorem V_v1 (i : Fin 4096) (k : Fin 4096) : (V m c main_v1 : Vec Ideal S4096x4096 .bf16) (ix2 i k) = (m ((c : Thread nD τ).loc main_arg1) : Vec Ideal S4096x4096 .f32) (ix2 i k) := by
  unfold V
  after_reads_at

theorem lt_N (t : Fin cfg0.N) : t.val < 8 := lt_of_lt_of_eq t.isLt (show cfg0.N = 8 from N_0)

/-- Row `p` and column `q` of point `t`'s block, in the array; `q` also as a column of the second operand. -/
def gi (t : Fin cfg0.N) : Fin 4 := ⟨t.val / 2, by have := lt_N t; omega⟩
def pi (t : Fin cfg0.N) (p : Fin 512) : Fin 1024 := ⟨t.val % 2 * 512 + p.val, by have := p.isLt; have := Nat.mod_lt t.val (show 0 < 2 by decide); omega⟩
def col (g : Fin 4) (q : Fin 1024) : Fin 4096 := ⟨g.val * 1024 + q.val, by have := g.isLt; have := q.isLt; omega⟩

theorem point (g : Fin 4) (i : Fin 1024) : ∃ (t : Fin cfg0.N) (p : Fin 512), gi t = g ∧ pi t p = i :=
  ⟨⟨g.val * 2 + i.val / 512, by rw [show cfg0.N = 8 from N_0]; have := g.isLt; have := i.isLt; omega⟩, ⟨i.val % 512, Nat.mod_lt _ (by decide)⟩,
    Fin.ext (by show (g.val * 2 + i.val / 512) / 2 = g.val; have := i.isLt; omega),
    Fin.ext (by show (g.val * 2 + i.val / 512) % 2 * 512 + i.val % 512 = i.val; have := i.isLt; omega)⟩

theorem idx0 : ∀ t : Fin cfg0.N, win0_0.index t (0 : Fin 2) = 0 ∧ win0_0.index t (1 : Fin 2) = t.val % 2 :=
  (by decide +kernel : ∀ t : Fin grid0.N, _)
theorem idx1 : ∀ t : Fin cfg0.N, win0_1.index t (0 : Fin 2) = 0 ∧ win0_1.index t (1 : Fin 2) = t.val / 2 :=
  (by decide +kernel : ∀ t : Fin grid0.N, _)
theorem idx2 : ∀ t : Fin cfg0.N, win0_2.index t (0 : Fin 3) = t.val / 2 ∧ win0_2.index t (1 : Fin 3) = t.val % 2 ∧ win0_2.index t (2 : Fin 3) = 0 :=
  (by decide +kernel : ∀ t : Fin grid0.N, _)

theorem emb0 (t : Fin cfg0.N) (k : Fin 4096) (p : Fin 512) : ((cfg0.win 0).blk t).view.emb (ix2 k p) = ix2 k (pi t p) := by
  obtain ⟨e0, e1⟩ := idx0 t
  funext a; apply Fin.ext
  match a with
  | ⟨0, _⟩ => show win0_0.index t (0 : Fin 2) * 4096 + 1 * k.val = k.val; rw [e0]; omega
  | ⟨1, _⟩ => show win0_0.index t (1 : Fin 2) * 512 + 1 * p.val = t.val % 2 * 512 + p.val; rw [e1]; omega
theorem emb1 (t : Fin cfg0.N) (k : Fin 4096) (q : Fin 1024) : ((cfg0.win 1).blk t).view.emb (ix2 k q) = ix2 k (col (gi t) q) := by
  obtain ⟨e0, e1⟩ := idx1 t
  funext a; apply Fin.ext
  match a with
  | ⟨0, _⟩ => show win0_1.index t (0 : Fin 2) * 4096 + 1 * k.val = k.val; rw [e0]; omega
  | ⟨1, _⟩ => show win0_1.index t (1 : Fin 2) * 1024 + 1 * q.val = t.val / 2 * 1024 + q.val; rw [e1]; omega
theorem emb2 (t : Fin cfg0.N) (p : Fin 512) (q : Fin 1024) : ((cfg0.win 2).blk t).view.emb (ix3 0 p q) = ix3 (gi t) (pi t p) q := by
  obtain ⟨e0, e1, e2⟩ := idx2 t
  funext a; apply Fin.ext
  match a with
  | ⟨0, _⟩ => show win0_2.index t (0 : Fin 3) * 1 + 1 * 0 = t.val / 2; rw [e0]; omega
  | ⟨1, _⟩ => show win0_2.index t (1 : Fin 3) * 512 + 1 * p.val = t.val % 2 * 512 + p.val; rw [e1]; omega
  | ⟨2, _⟩ => show win0_2.index t (2 : Fin 3) * 1024 + 1 * q.val = q.val; rw [e2]; omega

theorem blk0 (t : Fin cfg0.N) (k : Fin 4096) (p : Fin 512) : (iblk m c 0 t : Vec Ideal S4096x512 .bf16) (ix2 k p) = (m ((c : Thread nD τ).loc main_arg0) : Vec Ideal S4096x1024 .f32) (ix2 k (pi t p)) := by
  refine Eq.trans ?_ (V_v0 m c k (pi t p))
  show V m c main_v0 (((cfg0.win 0).blk t).view.emb (ix2 k p)) = _
  rw [emb0]
theorem blk1 (t : Fin cfg0.N) (k : Fin 4096) (q : Fin 1024) : (iblk m c 1 t : Vec Ideal S4096x1024 .bf16) (ix2 k q) = (m ((c : Thread nD τ).loc main_arg1) : Vec Ideal S4096x4096 .f32) (ix2 k (col (gi t) q)) := by
  refine Eq.trans ?_ (V_v1 m c k (col (gi t) q))
  show V m c main_v1 (((cfg0.win 1).blk t).view.emb (ix2 k q)) = _
  rw [emb1]

/-- The two operands of the launch memory. -/
def left (k : Fin 4096) (i : Fin 1024) : EReal := (m ((c : Thread nD τ).loc main_arg0) : Vec Ideal S4096x1024 .f32) (ix2 k i)
def right (k : Fin 4096) (j : Fin 4096) : EReal := (m ((c : Thread nD τ).loc main_arg1) : Vec Ideal S4096x4096 .f32) (ix2 k j)

/-- The gradient's entry, of the launch memory: the product over the tokens. -/
def grad (g : Fin 4) (i : Fin 1024) (q : Fin 1024) : EReal := ∑ k : Fin 4096, left m c k i * right m c k (col g q)

theorem flushed (t : Fin cfg0.N) (p : Fin 512) (q : Fin 1024) : (dats m 0 c).flushed 2 t (ix3 0 p q) = grad m c (gi t) (pi t p) q := by
  rw [Cert.Kernel8Ideal.Value.flushed2_A, out_eq]
  refine (out_apply (iblk m c 0 t) (iblk m c 1 t) p q).trans (Finset.sum_congr rfl fun k _ => ?_)
  exact congrArg₂ (· * ·) (blk0 m c t k p) (blk1 m c t k q)

/-- The result's array after the run. -/
theorem arr : (dats m 0 c).arrAt 2 cfg0.N = (fun i : S4x1024x1024.Idx => grad m c (i 0) (i 1) (i 2)) := by
  refine (dats m 0 c).arrAt_eq_of_cover 2 _ (fun t _ => ?_) (fun i => ?_)
  · funext y
    obtain ⟨p, q, rfl⟩ : ∃ (p : Fin 512) (q : Fin 1024), y = ix3 0 p q := ⟨y 1, y 2, (eq_ix3 y).trans (congrArg (fun z => ix3 z (y 1) (y 2)) (Fin.fin_one_eq_zero (y 0)))⟩
    rw [flushed, View.read_apply, emb2]; rfl
  · obtain ⟨g, p, q, rfl⟩ : ∃ (g : Fin 4) (p : Fin 1024) (q : Fin 1024), i = ix3 g p q := ⟨i 0, i 1, i 2, eq_ix3 i⟩
    obtain ⟨t, r, rfl, rfl⟩ := point g p
    exact ⟨t, flush0_2 t, emb2 t r q ▸ ((cfg0.win 2).blk t).view.emb_mem_set (ix3 0 r q)⟩

/-- The whole run: the result's array, and the arguments kept. -/
theorem kernel : θ_run defs (onTc (τ := τ) (main (F := Ideal))) ⟨m, fun _ => 0, ρ⟩ fun r => ∀ c : Dev nD,
      r.2.mem ((c : Thread nD τ).loc main_v2) = (fun i : S4x1024x1024.Idx => grad m c (i 0) (i 1) (i 2))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c), (h c).2⟩) (Cert.Kernel8Ideal.Value.run_blocks m ρ)

/-! ## The reference -/

theorem reference (x0 : (⟨Cert.Reference8Ideal.S4096x1024, .f32⟩ : BufTy).Contents (Elt Ideal)) (x1 : (⟨Cert.Reference8Ideal.S4096x4096, .f32⟩ : BufTy).Contents (Elt Ideal))
    (g : Fin 4) (i : Fin 1024) (q : Fin 1024) :
    Cert.Reference8Ideal.Read.val_main_v5 (F := Ideal) x0 x1 (ix3 g i q) = ∑ k : Fin 4096, x0 (ix2 k i) * x1 (ix2 k (col g q)) := by
  rw [Cert.Reference8Ideal.Read.val_main_v5_apply, Cert.Reference8Ideal.Read.val_main_v4_apply, Cert.Reference8Ideal.Read.val_main_v3_apply, Cert.Reference8Ideal.Read.val_main_v2_apply]
  refine Finset.sum_congr rfl fun k _ => (mul_comm _ _).trans (congrArg₂ (· * ·) (congrArg x0 ?_) (congrArg x1 ?_))
  · funext a; apply Fin.ext
    match a with
    | ⟨0, _⟩ => rfl
    | ⟨1, _⟩ => show ((i.val * 4 + g.val) * 1024 + q.val) / 4096 = i.val; have := g.isLt; have := q.isLt; omega
  · funext a; apply Fin.ext
    match a with
    | ⟨0, _⟩ => rfl
    | ⟨1, _⟩ => show ((i.val * 4 + g.val) * 1024 + q.val) % 4096 = g.val * 1024 + q.val; have := g.isLt; have := q.isLt; omega

/-- The reference declares no semaphore, so its run's end has none raised. -/
theorem frame_reference : Cert.quiescent_Reference8Ideal (hReference8Ideal := Cert.Reference8Ideal.Gen.facts) :=
  fun m g _ => (θ_run Cert.Reference8Ideal.defs _ _).mono (fun r h => ⟨fun c => (h c).2, sem_eq_zero_of_no_sems rfl r.2⟩) (Cert.Reference8Ideal.Value.run m g)

/-- The two programs' results over the extended reals, from memories agreeing on the arguments. -/
theorem algebraic : Cert.algebraic_Kernel8Ideal_Reference8Ideal (hKernel8Ideal := Cert.Kernel8Ideal.Gen.facts) (hReference8Ideal := Cert.Reference8Ideal.Gen.facts) := by
  intro m g m' g' _ hag
  refine ⟨_, kernel m g, (θ_run Cert.Reference8Ideal.defs _ _).mono (fun r h c => ?_) (Cert.Reference8Ideal.Value.run m' g')⟩
  obtain ⟨h0, hargs⟩ := h c
  obtain ⟨e0, e1⟩ := hag c
  refine ⟨h0.trans ?_, hargs⟩
  rw [Cert.Reference8Ideal.Read.val_main_v5_eq, e0, e1]
  funext j
  rw [eq_ix3 j]
  exact reference _ _ (j 0) (j 1) (j 2)

end Cert.Wg8

end
-- ==== Proof.Wg9.lean ====
/- The weight gradient's call of the MLP's second product (`wgrad_mlp_out`): what one grid point leaves in its output block, for any reading
   of the floats, and over the extended reals; the array after the run; and the same of the plain reference. A point's block is
   the product of 512 columns of one operand with a block of columns of the other, added up over eight runs of 512 tokens. -/
module

public import proofs.«01_k».proof.Defs
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.WgSum
public import Idealize.ShloMosaic.Lib.Pointwise
public import Idealize.ShloMosaic.Lib.StableHlo.ReadAt
public import Idealize.ShloMosaic.Lib.Quiescent

@[expose] public section

set_option maxRecDepth 16384

noncomputable section

namespace Cert.Wg9

open Cert.Kernel9Ideal Cert.Kernel9Ideal.Gen Idealize.ShloMosaic Idealize.ShloMosaic.TcCoe Idealize.SL.Sem
open Idealize.ShloMosaic.Pipeline (Dat)
open Cert.KernelIdeal.Tile (readAt_rect readCov_rect)
open Cert.WgSum

section Point

variable {F : FTy → Type} [FloatOps F]
variable (x0 : Vec F S4096x512 .bf16) (x1 : Vec F S4096x1024 .bf16)

/-! The runs of 512 tokens of the two operands' blocks, and the sums after each run. -/

def a0 : Vec F S512x512 .bf16 := View.ld x0 (Rect.unit ![0, 0] S512x512.size inb_S4096x512_S512x512_0_0)
def a1 : Vec F S512x512 .bf16 := View.ld x0 (Rect.unit ![512, 0] S512x512.size inb_S4096x512_S512x512_512_0)
def a2 : Vec F S512x512 .bf16 := View.ld x0 (Rect.unit ![1024, 0] S512x512.size inb_S4096x512_S512x512_1024_0)
def a3 : Vec F S512x512 .bf16 := View.ld x0 (Rect.unit ![1536, 0] S512x512.size inb_S4096x512_S512x512_1536_0)
def a4 : Vec F S512x512 .bf16 := View.ld x0 (Rect.unit ![2048, 0] S512x512.size inb_S4096x512_S512x512_2048_0)
def a5 : Vec F S512x512 .bf16 := View.ld x0 (Rect.unit ![2560, 0] S512x512.size inb_S4096x512_S512x512_2560_0)
def a6 : Vec F S512x512 .bf16 := View.ld x0 (Rect.unit ![3072, 0] S512x512.size inb_S4096x512_S512x512_3072_0)
def a7 : Vec F S512x512 .bf16 := View.ld x0 (Rect.unit ![3584, 0] S512x512.size inb_S4096x512_S512x512_3584_0)
def b0 : Vec F S512x1024 .bf16 := View.ld x1 (Rect.unit ![0, 0] S512x1024.size inb_S4096x1024_S512x1024_0_0)
def b1 : Vec F S512x1024 .bf16 := View.ld x1 (Rect.unit ![512, 0] S512x1024.size inb_S4096x1024_S512x1024_512_0)
def b2 : Vec F S512x1024 .bf16 := View.ld x1 (Rect.unit ![1024, 0] S512x1024.size inb_S4096x1024_S512x1024_1024_0)
def b3 : Vec F S512x1024 .bf16 := View.ld x1 (Rect.unit ![1536, 0] S512x1024.size inb_S4096x1024_S512x1024_1536_0)
def b4 : Vec F S512x1024 .bf16 := View.ld x1 (Rect.unit ![2048, 0] S512x1024.size inb_S4096x1024_S512x1024_2048_0)
def b5 : Vec F S512x1024 .bf16 := View.ld x1 (Rect.unit ![2560, 0] S512x1024.size inb_S4096x1024_S512x1024_2560_0)
def b6 : Vec F S512x1024 .bf16 := View.ld x1 (Rect.unit ![3072, 0] S512x1024.size inb_S4096x1024_S512x1024_3072_0)
def b7 : Vec F S512x1024 .bf16 := View.ld x1 (Rect.unit ![3584, 0] S512x1024.size inb_S4096x1024_S512x1024_3584_0)
def s1 : Vec F S1x512x1024 .f32 := k0_pay1 (a0 x0) (b0 x1)
def s2 : Vec F S1x512x1024 .f32 := k0_pay2 (s1 x0 x1) (a1 x0) (b1 x1)
def s3 : Vec F S1x512x1024 .f32 := k0_pay4 (k0_pay3 (s2 x0 x1) (a2 x0) (b2 x1))
def s4 : Vec F S1x512x1024 .f32 := k0_pay5 (s3 x0 x1) (a3 x0) (b3 x1)
def s5 : Vec F S1x512x1024 .f32 := k0_pay6 (s4 x0 x1) (a4 x0) (b4 x1)
def s6 : Vec F S1x512x1024 .f32 := k0_pay9 (k0_pay7 (s5 x0 x1)) (k0_pay8 (a5 x0)) (b5 x1)
def s7 : Vec F S1x512x1024 .f32 := k0_pay10 (s6 x0 x1) (a6 x0) (b6 x1)
def s8 : Vec F S1x512x1024 .f32 := k0_pay11 (s7 x0 x1) (a7 x0) (b7 x1)

variable (c : Dev nD) (i : grid0.Coords)
variable (arg2 : Memref sig .tc .vmem S4096x512 .bf16) (harg2 : arg2.IsWhole) (arg3 : Memref sig .tc .vmem S4096x1024 .bf16) (harg3 : arg3.IsWhole)
  (arg4 : Memref sig .tc .vmem S1x512x1024 .f32) (harg4 : arg4.IsWhole)

theorem R_H1 : View.canon (kernelRun0_A.sl.H2_1 (F := F) c arg2 harg2 arg3 harg3 x0 x1) = s1 x0 x1 := by
  unfold kernelRun0_A.sl.H2_1
  rw [canon3]
  rw [readAt_rect, readAt_rect]; rfl
theorem R_v8 : kernelRun0_A.sl.v8 (F := F) c arg2 harg2 arg3 harg3 arg4 x0 x1 = s1 x0 x1 := by
  unfold kernelRun0_A.sl.v8; rw [readCov_rect, R_H1]; exact ld3 _ _

theorem R_H2 : View.canon (kernelRun0_A.sl.H2_2 (F := F) c arg2 harg2 arg3 harg3 arg4 x0 x1) = s2 x0 x1 := by
  unfold kernelRun0_A.sl.H2_2
  rw [canon3]
  rw [R_v8, readAt_rect, readAt_rect]; rfl
theorem R_v19 : kernelRun0_A.sl.v19 (F := F) c arg2 harg2 arg3 harg3 arg4 x0 x1 = s2 x0 x1 := by
  unfold kernelRun0_A.sl.v19; rw [readCov_rect, R_H2]; exact ld3 _ _

theorem R_H3 : View.canon (kernelRun0_A.sl.H2_3 (F := F) c arg2 harg2 arg3 harg3 arg4 x0 x1) = s3 x0 x1 := by
  unfold kernelRun0_A.sl.H2_3
  rw [canon3]
  rw [show kernelRun0_A.sl.r (F := F) c arg2 harg2 arg3 harg3 arg4 x0 x1 = k0_pay3 (s2 x0 x1) (a2 x0) (b2 x1) from by unfold kernelRun0_A.sl.r; rw [R_v19, readAt_rect, readAt_rect]; rfl]
  rfl
theorem R_v30 : kernelRun0_A.sl.v30 (F := F) c arg2 harg2 arg3 harg3 arg4 x0 x1 = s3 x0 x1 := by
  unfold kernelRun0_A.sl.v30; rw [readCov_rect, R_H3]; exact ld3 _ _

theorem R_H4 : View.canon (kernelRun0_A.sl.H2_4 (F := F) c arg2 harg2 arg3 harg3 arg4 x0 x1) = s4 x0 x1 := by
  unfold kernelRun0_A.sl.H2_4
  rw [canon3]
  rw [R_v30, readAt_rect, readAt_rect]; rfl
theorem R_v41 : kernelRun0_A.sl.v41 (F := F) c arg2 harg2 arg3 harg3 arg4 x0 x1 = s4 x0 x1 := by
  unfold kernelRun0_A.sl.v41; rw [readCov_rect, R_H4]; exact ld3 _ _

theorem R_H5 : View.canon (kernelRun0_A.sl.H2_5 (F := F) c arg2 harg2 arg3 harg3 arg4 x0 x1) = s5 x0 x1 := by
  unfold kernelRun0_A.sl.H2_5
  rw [canon3]
  rw [R_v41, readAt_rect, readAt_rect]; rfl
theorem R_v52 : kernelRun0_A.sl.v52 (F := F) c arg2 harg2 arg3 harg3 arg4 x0 x1 = s5 x0 x1 := by
  unfold kernelRun0_A.sl.v52; rw [readCov_rect, R_H5]; exact ld3 _ _

theorem R_H6 : View.canon (kernelRun0_A.sl.H2_6 (F := F) c arg2 harg2 arg3 harg3 arg4 x0 x1) = s6 x0 x1 := by
  unfold kernelRun0_A.sl.H2_6
  rw [canon3]
  rw [show kernelRun0_A.sl.r_1 (F := F) c arg2 harg2 arg3 harg3 arg4 x0 x1 = k0_pay7 (s5 x0 x1) from by unfold kernelRun0_A.sl.r_1; rw [R_v52],
    show kernelRun0_A.sl.r_2 (F := F) c arg2 harg2 x0 = k0_pay8 (a5 x0) from by unfold kernelRun0_A.sl.r_2; rw [readAt_rect]; rfl, readAt_rect]
  rfl
theorem R_v63 : kernelRun0_A.sl.v63 (F := F) c arg2 harg2 arg3 harg3 arg4 x0 x1 = s6 x0 x1 := by
  unfold kernelRun0_A.sl.v63; rw [readCov_rect, R_H6]; exact ld3 _ _

theorem R_H7 : View.canon (kernelRun0_A.sl.H2_7 (F := F) c arg2 harg2 arg3 harg3 arg4 x0 x1) = s7 x0 x1 := by
  unfold kernelRun0_A.sl.H2_7
  rw [canon3]
  rw [R_v63, readAt_rect, readAt_rect]; rfl
theorem R_v74 : kernelRun0_A.sl.v74 (F := F) c arg2 harg2 arg3 harg3 arg4 x0 x1 = s7 x0 x1 := by
  unfold kernelRun0_A.sl.v74; rw [readCov_rect, R_H7]; exact ld3 _ _

/-- What a point leaves. -/
theorem out_eq : out0_A_2 c i arg2 harg2 arg3 harg3 arg4 harg4 x0 x1 = s8 x0 x1 := by
  unfold out0_A_2
  rw [View.read_writes_junk_eq_canon]
  dsimp only [kernelRun0_A]
  rw [canon3, R_v74, readAt_rect, readAt_rect]
  rfl

end Point

/-! ## Over the extended reals -/

section Ideal

variable (x0 : Vec Ideal S4096x512 .bf16) (x1 : Vec Ideal S4096x1024 .bf16)

theorem a0_apply (k : Fin 512) (j : Fin 512) : a0 x0 (ix2 k j) = x0 (ix2 (tok 0 k) j) := by
  refine congrArg x0 (funext fun a => Fin.ext ?_)
  match a with
  | ⟨0, _⟩ => show 0 + 1 * k.val = 0 * 512 + k.val; omega
  | ⟨1, _⟩ => show 0 + 1 * j.val = j.val; omega
theorem b0_apply (k : Fin 512) (j : Fin 1024) : b0 x1 (ix2 k j) = x1 (ix2 (tok 0 k) j) := by
  refine congrArg x1 (funext fun a => Fin.ext ?_)
  match a with
  | ⟨0, _⟩ => show 0 + 1 * k.val = 0 * 512 + k.val; omega
  | ⟨1, _⟩ => show 0 + 1 * j.val = j.val; omega
theorem a1_apply (k : Fin 512) (j : Fin 512) : a1 x0 (ix2 k j) = x0 (ix2 (tok 1 k) j) := by
  refine congrArg x0 (funext fun a => Fin.ext ?_)
  match a with
  | ⟨0, _⟩ => show 512 + 1 * k.val = 1 * 512 + k.val; omega
  | ⟨1, _⟩ => show 0 + 1 * j.val = j.val; omega
theorem b1_apply (k : Fin 512) (j : Fin 1024) : b1 x1 (ix2 k j) = x1 (ix2 (tok 1 k) j) := by
  refine congrArg x1 (funext fun a => Fin.ext ?_)
  match a with
  | ⟨0, _⟩ => show 512 + 1 * k.val = 1 * 512 + k.val; omega
  | ⟨1, _⟩ => show 0 + 1 * j.val = j.val; omega
theorem a2_apply (k : Fin 512) (j : Fin 512) : a2 x0 (ix2 k j) = x0 (ix2 (tok 2 k) j) := by
  refine congrArg x0 (funext fun a => Fin.ext ?_)
  match a with
  | ⟨0, _⟩ => show 1024 + 1 * k.val = 2 * 512 + k.val; omega
  | ⟨1, _⟩ => show 0 + 1 * j.val = j.val; omega
theorem b2_apply (k : Fin 512) (j : Fin 1024) : b2 x1 (ix2 k j) = x1 (ix2 (tok 2 k) j) := by
  refine congrArg x1 (funext fun a => Fin.ext ?_)
  match a with
  | ⟨0, _⟩ => show 1024 + 1 * k.val = 2 * 512 + k.val; omega
  | ⟨1, _⟩ => show 0 + 1 * j.val = j.val; omega
theorem a3_apply (k : Fin 512) (j : Fin 512) : a3 x0 (ix2 k j) = x0 (ix2 (tok 3 k) j) := by
  refine congrArg x0 (funext fun a => Fin.ext ?_)
  match a with
  | ⟨0, _⟩ => show 1536 + 1 * k.val = 3 * 512 + k.val; omega
  | ⟨1, _⟩ => show 0 + 1 * j.val = j.val; omega
theorem b3_apply (k : Fin 512) (j : Fin 1024) : b3 x1 (ix2 k j) = x1 (ix2 (tok 3 k) j) := by
  refine congrArg x1 (funext fun a => Fin.ext ?_)
  match a with
  | ⟨0, _⟩ => show 1536 + 1 * k.val = 3 * 512 + k.val; omega
  | ⟨1, _⟩ => show 0 + 1 * j.val = j.val; omega
theorem a4_apply (k : Fin 512) (j : Fin 512) : a4 x0 (ix2 k j) = x0 (ix2 (tok 4 k) j) := by
  refine congrArg x0 (funext fun a => Fin.ext ?_)
  match a with
  | ⟨0, _⟩ => show 2048 + 1 * k.val = 4 * 512 + k.val; omega
  | ⟨1, _⟩ => show 0 + 1 * j.val = j.val; omega
theorem b4_apply (k : Fin 512) (j : Fin 1024) : b4 x1 (ix2 k j) = x1 (ix2 (tok 4 k) j) := by
  refine congrArg x1 (funext fun a => Fin.ext ?_)
  match a with
  | ⟨0, _⟩ => show 2048 + 1 * k.val = 4 * 512 + k.val; omega
  | ⟨1, _⟩ => show 0 + 1 * j.val = j.val; omega
theorem a5_apply (k : Fin 512) (j : Fin 512) : a5 x0 (ix2 k j) = x0 (ix2 (tok 5 k) j) := by
  refine congrArg x0 (funext fun a => Fin.ext ?_)
  match a with
  | ⟨0, _⟩ => show 2560 + 1 * k.val = 5 * 512 + k.val; omega
  | ⟨1, _⟩ => show 0 + 1 * j.val = j.val; omega
theorem b5_apply (k : Fin 512) (j : Fin 1024) : b5 x1 (ix2 k j) = x1 (ix2 (tok 5 k) j) := by
  refine congrArg x1 (funext fun a => Fin.ext ?_)
  match a with
  | ⟨0, _⟩ => show 2560 + 1 * k.val = 5 * 512 + k.val; omega
  | ⟨1, _⟩ => show 0 + 1 * j.val = j.val; omega
theorem a6_apply (k : Fin 512) (j : Fin 512) : a6 x0 (ix2 k j) = x0 (ix2 (tok 6 k) j) := by
  refine congrArg x0 (funext fun a => Fin.ext ?_)
  match a with
  | ⟨0, _⟩ => show 3072 + 1 * k.val = 6 * 512 + k.val; omega
  | ⟨1, _⟩ => show 0 + 1 * j.val = j.val; omega
theorem b6_apply (k : Fin 512) (j : Fin 1024) : b6 x1 (ix2 k j) = x1 (ix2 (tok 6 k) j) := by
  refine congrArg x1 (funext fun a => Fin.ext ?_)
  match a with
  | ⟨0, _⟩ => show 3072 + 1 * k.val = 6 * 512 + k.val; omega
  | ⟨1, _⟩ => show 0 + 1 * j.val = j.val; omega
theorem a7_apply (k : Fin 512) (j : Fin 512) : a7 x0 (ix2 k j) = x0 (ix2 (tok 7 k) j) := by
  refine congrArg x0 (funext fun a => Fin.ext ?_)
  match a with
  | ⟨0, _⟩ => show 3584 + 1 * k.val = 7 * 512 + k.val; omega
  | ⟨1, _⟩ => show 0 + 1 * j.val = j.val; omega
theorem b7_apply (k : Fin 512) (j : Fin 1024) : b7 x1 (ix2 k j) = x1 (ix2 (tok 7 k) j) := by
  refine congrArg x1 (funext fun a => Fin.ext ?_)
  match a with
  | ⟨0, _⟩ => show 3584 + 1 * k.val = 7 * 512 + k.val; omega
  | ⟨1, _⟩ => show 0 + 1 * j.val = j.val; omega

/-- One run's part of a product. -/
def run (g : Fin 8) (p : Fin 512) (q : Fin 1024) : EReal := ∑ k : Fin 512, x0 (ix2 (tok g k) p) * x1 (ix2 (tok g k) q)

theorem s1_apply (p : Fin 512) (q : Fin 1024) : s1 x0 x1 (ix3 0 p q) = run x0 x1 0 p q := by
  unfold s1 k0_pay1 run
  pointwise
  simp only [a0_apply, b0_apply]
theorem s2_apply (p : Fin 512) (q : Fin 1024) : s2 x0 x1 (ix3 0 p q) = s1 x0 x1 (ix3 0 p q) + run x0 x1 1 p q := by
  unfold s2 k0_pay2 run
  pointwise
  simp only [a1_apply, b1_apply]
theorem s3_apply (p : Fin 512) (q : Fin 1024) : s3 x0 x1 (ix3 0 p q) = s2 x0 x1 (ix3 0 p q) + run x0 x1 2 p q := by
  unfold s3 k0_pay4 k0_pay3 run
  pointwise
  simp only [a2_apply, b2_apply]
theorem s4_apply (p : Fin 512) (q : Fin 1024) : s4 x0 x1 (ix3 0 p q) = s3 x0 x1 (ix3 0 p q) + run x0 x1 3 p q := by
  unfold s4 k0_pay5 run
  pointwise
  simp only [a3_apply, b3_apply]
theorem s5_apply (p : Fin 512) (q : Fin 1024) : s5 x0 x1 (ix3 0 p q) = s4 x0 x1 (ix3 0 p q) + run x0 x1 4 p q := by
  unfold s5 k0_pay6 run
  pointwise
  simp only [a4_apply, b4_apply]
theorem s6_apply (p : Fin 512) (q : Fin 1024) : s6 x0 x1 (ix3 0 p q) = s5 x0 x1 (ix3 0 p q) + run x0 x1 5 p q := by
  unfold s6 k0_pay9 k0_pay7 k0_pay8 run
  pointwise
  simp only [a5_apply, b5_apply]
theorem s7_apply (p : Fin 512) (q : Fin 1024) : s7 x0 x1 (ix3 0 p q) = s6 x0 x1 (ix3 0 p q) + run x0 x1 6 p q := by
  unfold s7 k0_pay10 run
  pointwise
  simp only [a6_apply, b6_apply]
theorem s8_apply (p : Fin 512) (q : Fin 1024) : s8 x0 x1 (ix3 0 p q) = s7 x0 x1 (ix3 0 p q) + run x0 x1 7 p q := by
  unfold s8 k0_pay11 run
  pointwise
  simp only [a7_apply, b7_apply]

/-- A point's block is the product over all the tokens. -/
theorem out_apply (p : Fin 512) (q : Fin 1024) : s8 x0 x1 (ix3 0 p q) = ∑ k, x0 (ix2 k p) * x1 (ix2 k q) := by
  rw [s8_apply, s7_apply, s6_apply, s5_apply, s4_apply, s3_apply, s2_apply, s1_apply, sum_tok]
  rfl

end Ideal

/-! ## The run -/

variable (m : (ℓ : Loc nD τ sig) → Buf (Elt Ideal) ℓ) (ρ : Dev nD → PrngReg) (c : Dev nD)

theorem V_v0 (i : Fin 4096) (k : Fin 4096) : (V m c main_v0 : Vec Ideal S4096x4096 .bf16) (ix2 i k) = (m ((c : Thread nD τ).loc main_arg0) : Vec Ideal S4096x4096 .f32) (ix2 i k) := by
  unfold V
  after_reads_at
theorem V_v1 (i : Fin 4096) (k : Fin 1024) : (V m c main_v1 : Vec Ideal S4096x1024 .bf16) (ix2 i k) = (m ((c : Thread nD τ).loc main_arg1) : Vec Ideal S4096x1024 .f32) (ix2 i k) := by
  unfold V
  after_reads_at

theorem lt_N (t : Fin cfg0.N) : t.val < 8 := lt_of_lt_of_eq t.isLt (show cfg0.N = 8 from N_0)

/-- Row `p` and column `q` of point `t`'s block, in the array; `q` also as a column of the second operand. -/
def gi (t : Fin cfg0.N) : Fin 1 := ⟨t.val / 8, by have := lt_N t; omega⟩
def pi (t : Fin cfg0.N) (p : Fin 512) : Fin 4096 := ⟨t.val % 8 * 512 + p.val, by have := p.isLt; have := Nat.mod_lt t.val (show 0 < 8 by decide); omega⟩
def col (g : Fin 1) (q : Fin 1024) : Fin 1024 := ⟨g.val * 1024 + q.val, by have := g.isLt; have := q.isLt; omega⟩

theorem point (g : Fin 1) (i : Fin 4096) : ∃ (t : Fin cfg0.N) (p : Fin 512), gi t = g ∧ pi t p = i :=
  ⟨⟨g.val * 8 + i.val / 512, by rw [show cfg0.N = 8 from N_0]; have := g.isLt; have := i.isLt; omega⟩, ⟨i.val % 512, Nat.mod_lt _ (by decide)⟩,
    Fin.ext (by show (g.val * 8 + i.val / 512) / 8 = g.val; have := i.isLt; omega),
    Fin.ext (by show (g.val * 8 + i.val / 512) % 8 * 512 + i.val % 512 = i.val; have := i.isLt; omega)⟩

theorem idx0 : ∀ t : Fin cfg0.N, win0_0.index t (0 : Fin 2) = 0 ∧ win0_0.index t (1 : Fin 2) = t.val % 8 :=
  (by decide +kernel : ∀ t : Fin grid0.N, _)
theorem idx1 : ∀ t : Fin cfg0.N, win0_1.index t (0 : Fin 2) = 0 ∧ win0_1.index t (1 : Fin 2) = t.val / 8 :=
  (by decide +kernel : ∀ t : Fin grid0.N, _)
theorem idx2 : ∀ t : Fin cfg0.N, win0_2.index t (0 : Fin 3) = t.val / 8 ∧ win0_2.index t (1 : Fin 3) = t.val % 8 ∧ win0_2.index t (2 : Fin 3) = 0 :=
  (by decide +kernel : ∀ t : Fin grid0.N, _)

theorem emb0 (t : Fin cfg0.N) (k : Fin 4096) (p : Fin 512) : ((cfg0.win 0).blk t).view.emb (ix2 k p) = ix2 k (pi t p) := by
  obtain ⟨e0, e1⟩ := idx0 t
  funext a; apply Fin.ext
  match a with
  | ⟨0, _⟩ => show win0_0.index t (0 : Fin 2) * 4096 + 1 * k.val = k.val; rw [e0]; omega
  | ⟨1, _⟩ => show win0_0.index t (1 : Fin 2) * 512 + 1 * p.val = t.val % 8 * 512 + p.val; rw [e1]; omega
theorem emb1 (t : Fin cfg0.N) (k : Fin 4096) (q : Fin 1024) : ((cfg0.win 1).blk t).view.emb (ix2 k q) = ix2 k (col (gi t) q) := by
  obtain ⟨e0, e1⟩ := idx1 t
  funext a; apply Fin.ext
  match a with
  | ⟨0, _⟩ => show win0_1.index t (0 : Fin 2) * 4096 + 1 * k.val = k.val; rw [e0]; omega
  | ⟨1, _⟩ => show win0_1.index t (1 : Fin 2) * 1024 + 1 * q.val = t.val / 8 * 1024 + q.val; rw [e1]; omega
theorem emb2 (t : Fin cfg0.N) (p : Fin 512) (q : Fin 1024) : ((cfg0.win 2).blk t).view.emb (ix3 0 p q) = ix3 (gi t) (pi t p) q := by
  obtain ⟨e0, e1, e2⟩ := idx2 t
  funext a; apply Fin.ext
  match a with
  | ⟨0, _⟩ => show win0_2.index t (0 : Fin 3) * 1 + 1 * 0 = t.val / 8; rw [e0]; omega
  | ⟨1, _⟩ => show win0_2.index t (1 : Fin 3) * 512 + 1 * p.val = t.val % 8 * 512 + p.val; rw [e1]; omega
  | ⟨2, _⟩ => show win0_2.index t (2 : Fin 3) * 1024 + 1 * q.val = q.val; rw [e2]; omega

theorem blk0 (t : Fin cfg0.N) (k : Fin 4096) (p : Fin 512) : (iblk m c 0 t : Vec Ideal S4096x512 .bf16) (ix2 k p) = (m ((c : Thread nD τ).loc main_arg0) : Vec Ideal S4096x4096 .f32) (ix2 k (pi t p)) := by
  refine Eq.trans ?_ (V_v0 m c k (pi t p))
  show V m c main_v0 (((cfg0.win 0).blk t).view.emb (ix2 k p)) = _
  rw [emb0]
theorem blk1 (t : Fin cfg0.N) (k : Fin 4096) (q : Fin 1024) : (iblk m c 1 t : Vec Ideal S4096x1024 .bf16) (ix2 k q) = (m ((c : Thread nD τ).loc main_arg1) : Vec Ideal S4096x1024 .f32) (ix2 k (col (gi t) q)) := by
  refine Eq.trans ?_ (V_v1 m c k (col (gi t) q))
  show V m c main_v1 (((cfg0.win 1).blk t).view.emb (ix2 k q)) = _
  rw [emb1]

/-- The two operands of the launch memory. -/
def left (k : Fin 4096) (i : Fin 4096) : EReal := (m ((c : Thread nD τ).loc main_arg0) : Vec Ideal S4096x4096 .f32) (ix2 k i)
def right (k : Fin 4096) (j : Fin 1024) : EReal := (m ((c : Thread nD τ).loc main_arg1) : Vec Ideal S4096x1024 .f32) (ix2 k j)

/-- The gradient's entry, of the launch memory: the product over the tokens. -/
def grad (g : Fin 1) (i : Fin 4096) (q : Fin 1024) : EReal := ∑ k : Fin 4096, left m c k i * right m c k (col g q)

theorem flushed (t : Fin cfg0.N) (p : Fin 512) (q : Fin 1024) : (dats m 0 c).flushed 2 t (ix3 0 p q) = grad m c (gi t) (pi t p) q := by
  rw [Cert.Kernel9Ideal.Value.flushed2_A, out_eq]
  refine (out_apply (iblk m c 0 t) (iblk m c 1 t) p q).trans (Finset.sum_congr rfl fun k _ => ?_)
  exact congrArg₂ (· * ·) (blk0 m c t k p) (blk1 m c t k q)

/-- The result's array after the run. -/
theorem arr : (dats m 0 c).arrAt 2 cfg0.N = (fun i : S1x4096x1024.Idx => grad m c (i 0) (i 1) (i 2)) := by
  refine (dats m 0 c).arrAt_eq_of_cover 2 _ (fun t _ => ?_) (fun i => ?_)
  · funext y
    obtain ⟨p, q, rfl⟩ : ∃ (p : Fin 512) (q : Fin 1024), y = ix3 0 p q := ⟨y 1, y 2, (eq_ix3 y).trans (congrArg (fun z => ix3 z (y 1) (y 2)) (Fin.fin_one_eq_zero (y 0)))⟩
    rw [flushed, View.read_apply, emb2]; rfl
  · obtain ⟨g, p, q, rfl⟩ : ∃ (g : Fin 1) (p : Fin 4096) (q : Fin 1024), i = ix3 g p q := ⟨i 0, i 1, i 2, eq_ix3 i⟩
    obtain ⟨t, r, rfl, rfl⟩ := point g p
    exact ⟨t, flush0_2 t, emb2 t r q ▸ ((cfg0.win 2).blk t).view.emb_mem_set (ix3 0 r q)⟩

/-- The whole run: the result's array, and the arguments kept. -/
theorem kernel : θ_run defs (onTc (τ := τ) (main (F := Ideal))) ⟨m, fun _ => 0, ρ⟩ fun r => ∀ c : Dev nD,
      r.2.mem ((c : Thread nD τ).loc main_v2) = (fun i : S1x4096x1024.Idx => grad m c (i 0) (i 1) (i 2))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c), (h c).2⟩) (Cert.Kernel9Ideal.Value.run_blocks m ρ)

/-! ## The reference -/

theorem reference (x0 : (⟨Cert.Reference9Ideal.S4096x4096, .f32⟩ : BufTy).Contents (Elt Ideal)) (x1 : (⟨Cert.Reference9Ideal.S4096x1024, .f32⟩ : BufTy).Contents (Elt Ideal))
    (g : Fin 1) (i : Fin 4096) (q : Fin 1024) :
    Cert.Reference9Ideal.Read.val_main_v5 (F := Ideal) x0 x1 (ix3 g i q) = ∑ k : Fin 4096, x0 (ix2 k i) * x1 (ix2 k (col g q)) := by
  rw [Cert.Reference9Ideal.Read.val_main_v5_apply, Cert.Reference9Ideal.Read.val_main_v4_apply, Cert.Reference9Ideal.Read.val_main_v3_apply, Cert.Reference9Ideal.Read.val_main_v2_apply]
  refine Finset.sum_congr rfl fun k _ => (mul_comm _ _).trans (congrArg₂ (· * ·) (congrArg x0 ?_) (congrArg x1 ?_))
  · funext a; apply Fin.ext
    match a with
    | ⟨0, _⟩ => rfl
    | ⟨1, _⟩ => show ((i.val * 1 + g.val) * 1024 + q.val) / 1024 = i.val; have := g.isLt; have := q.isLt; omega
  · funext a; apply Fin.ext
    match a with
    | ⟨0, _⟩ => rfl
    | ⟨1, _⟩ => show ((i.val * 1 + g.val) * 1024 + q.val) % 1024 = g.val * 1024 + q.val; have := g.isLt; have := q.isLt; omega

/-- The reference declares no semaphore, so its run's end has none raised. -/
theorem frame_reference : Cert.quiescent_Reference9Ideal (hReference9Ideal := Cert.Reference9Ideal.Gen.facts) :=
  fun m g _ => (θ_run Cert.Reference9Ideal.defs _ _).mono (fun r h => ⟨fun c => (h c).2, sem_eq_zero_of_no_sems rfl r.2⟩) (Cert.Reference9Ideal.Value.run m g)

/-- The two programs' results over the extended reals, from memories agreeing on the arguments. -/
theorem algebraic : Cert.algebraic_Kernel9Ideal_Reference9Ideal (hKernel9Ideal := Cert.Kernel9Ideal.Gen.facts) (hReference9Ideal := Cert.Reference9Ideal.Gen.facts) := by
  intro m g m' g' _ hag
  refine ⟨_, kernel m g, (θ_run Cert.Reference9Ideal.defs _ _).mono (fun r h c => ?_) (Cert.Reference9Ideal.Value.run m' g')⟩
  obtain ⟨h0, hargs⟩ := h c
  obtain ⟨e0, e1⟩ := hag c
  refine ⟨h0.trans ?_, hargs⟩
  rw [Cert.Reference9Ideal.Read.val_main_v5_eq, e0, e1]
  funext j
  rw [eq_ix3 j]
  exact reference _ _ (j 0) (j 1) (j 2)

end Cert.Wg9

end
-- ==== Proof.Wg10.lean ====
/- The weight gradient's call of the output projection (`wgrad_out`): what one grid point leaves in its output block, for any reading
   of the floats, and over the extended reals; the array after the run; and the same of the plain reference. A point's block is
   the product of 512 columns of one operand with a block of columns of the other, added up over eight runs of 512 tokens. -/
module

public import proofs.«01_k».proof.Defs
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.WgSum
public import Idealize.ShloMosaic.Lib.Pointwise
public import Idealize.ShloMosaic.Lib.StableHlo.ReadAt
public import Idealize.ShloMosaic.Lib.Quiescent

@[expose] public section

set_option maxRecDepth 16384

noncomputable section

namespace Cert.Wg10

open Cert.Kernel10Ideal Cert.Kernel10Ideal.Gen Idealize.ShloMosaic Idealize.ShloMosaic.TcCoe Idealize.SL.Sem
open Idealize.ShloMosaic.Pipeline (Dat)
open Cert.KernelIdeal.Tile (readAt_rect readCov_rect)
open Cert.WgSum

section Point

variable {F : FTy → Type} [FloatOps F]
variable (x0 : Vec F S4096x512 .bf16) (x1 : Vec F S4096x1024 .bf16)

/-! The runs of 512 tokens of the two operands' blocks, and the sums after each run. -/

def a0 : Vec F S512x512 .bf16 := View.ld x0 (Rect.unit ![0, 0] S512x512.size inb_S4096x512_S512x512_0_0)
def a1 : Vec F S512x512 .bf16 := View.ld x0 (Rect.unit ![512, 0] S512x512.size inb_S4096x512_S512x512_512_0)
def a2 : Vec F S512x512 .bf16 := View.ld x0 (Rect.unit ![1024, 0] S512x512.size inb_S4096x512_S512x512_1024_0)
def a3 : Vec F S512x512 .bf16 := View.ld x0 (Rect.unit ![1536, 0] S512x512.size inb_S4096x512_S512x512_1536_0)
def a4 : Vec F S512x512 .bf16 := View.ld x0 (Rect.unit ![2048, 0] S512x512.size inb_S4096x512_S512x512_2048_0)
def a5 : Vec F S512x512 .bf16 := View.ld x0 (Rect.unit ![2560, 0] S512x512.size inb_S4096x512_S512x512_2560_0)
def a6 : Vec F S512x512 .bf16 := View.ld x0 (Rect.unit ![3072, 0] S512x512.size inb_S4096x512_S512x512_3072_0)
def a7 : Vec F S512x512 .bf16 := View.ld x0 (Rect.unit ![3584, 0] S512x512.size inb_S4096x512_S512x512_3584_0)
def b0 : Vec F S512x1024 .bf16 := View.ld x1 (Rect.unit ![0, 0] S512x1024.size inb_S4096x1024_S512x1024_0_0)
def b1 : Vec F S512x1024 .bf16 := View.ld x1 (Rect.unit ![512, 0] S512x1024.size inb_S4096x1024_S512x1024_512_0)
def b2 : Vec F S512x1024 .bf16 := View.ld x1 (Rect.unit ![1024, 0] S512x1024.size inb_S4096x1024_S512x1024_1024_0)
def b3 : Vec F S512x1024 .bf16 := View.ld x1 (Rect.unit ![1536, 0] S512x1024.size inb_S4096x1024_S512x1024_1536_0)
def b4 : Vec F S512x1024 .bf16 := View.ld x1 (Rect.unit ![2048, 0] S512x1024.size inb_S4096x1024_S512x1024_2048_0)
def b5 : Vec F S512x1024 .bf16 := View.ld x1 (Rect.unit ![2560, 0] S512x1024.size inb_S4096x1024_S512x1024_2560_0)
def b6 : Vec F S512x1024 .bf16 := View.ld x1 (Rect.unit ![3072, 0] S512x1024.size inb_S4096x1024_S512x1024_3072_0)
def b7 : Vec F S512x1024 .bf16 := View.ld x1 (Rect.unit ![3584, 0] S512x1024.size inb_S4096x1024_S512x1024_3584_0)
def s1 : Vec F S1x512x1024 .f32 := k0_pay1 (a0 x0) (b0 x1)
def s2 : Vec F S1x512x1024 .f32 := k0_pay2 (s1 x0 x1) (a1 x0) (b1 x1)
def s3 : Vec F S1x512x1024 .f32 := k0_pay4 (k0_pay3 (s2 x0 x1) (a2 x0) (b2 x1))
def s4 : Vec F S1x512x1024 .f32 := k0_pay5 (s3 x0 x1) (a3 x0) (b3 x1)
def s5 : Vec F S1x512x1024 .f32 := k0_pay6 (s4 x0 x1) (a4 x0) (b4 x1)
def s6 : Vec F S1x512x1024 .f32 := k0_pay9 (k0_pay7 (s5 x0 x1)) (k0_pay8 (a5 x0)) (b5 x1)
def s7 : Vec F S1x512x1024 .f32 := k0_pay10 (s6 x0 x1) (a6 x0) (b6 x1)
def s8 : Vec F S1x512x1024 .f32 := k0_pay11 (s7 x0 x1) (a7 x0) (b7 x1)

variable (c : Dev nD) (i : grid0.Coords)
variable (arg2 : Memref sig .tc .vmem S4096x512 .bf16) (harg2 : arg2.IsWhole) (arg3 : Memref sig .tc .vmem S4096x1024 .bf16) (harg3 : arg3.IsWhole)
  (arg4 : Memref sig .tc .vmem S1x512x1024 .f32) (harg4 : arg4.IsWhole)

theorem R_H1 : View.canon (kernelRun0_A.sl.H2_1 (F := F) c arg2 harg2 arg3 harg3 x0 x1) = s1 x0 x1 := by
  unfold kernelRun0_A.sl.H2_1
  rw [canon3]
  rw [readAt_rect, readAt_rect]; rfl
theorem R_v8 : kernelRun0_A.sl.v8 (F := F) c arg2 harg2 arg3 harg3 arg4 x0 x1 = s1 x0 x1 := by
  unfold kernelRun0_A.sl.v8; rw [readCov_rect, R_H1]; exact ld3 _ _

theorem R_H2 : View.canon (kernelRun0_A.sl.H2_2 (F := F) c arg2 harg2 arg3 harg3 arg4 x0 x1) = s2 x0 x1 := by
  unfold kernelRun0_A.sl.H2_2
  rw [canon3]
  rw [R_v8, readAt_rect, readAt_rect]; rfl
theorem R_v19 : kernelRun0_A.sl.v19 (F := F) c arg2 harg2 arg3 harg3 arg4 x0 x1 = s2 x0 x1 := by
  unfold kernelRun0_A.sl.v19; rw [readCov_rect, R_H2]; exact ld3 _ _

theorem R_H3 : View.canon (kernelRun0_A.sl.H2_3 (F := F) c arg2 harg2 arg3 harg3 arg4 x0 x1) = s3 x0 x1 := by
  unfold kernelRun0_A.sl.H2_3
  rw [canon3]
  rw [show kernelRun0_A.sl.r (F := F) c arg2 harg2 arg3 harg3 arg4 x0 x1 = k0_pay3 (s2 x0 x1) (a2 x0) (b2 x1) from by unfold kernelRun0_A.sl.r; rw [R_v19, readAt_rect, readAt_rect]; rfl]
  rfl
theorem R_v30 : kernelRun0_A.sl.v30 (F := F) c arg2 harg2 arg3 harg3 arg4 x0 x1 = s3 x0 x1 := by
  unfold kernelRun0_A.sl.v30; rw [readCov_rect, R_H3]; exact ld3 _ _

theorem R_H4 : View.canon (kernelRun0_A.sl.H2_4 (F := F) c arg2 harg2 arg3 harg3 arg4 x0 x1) = s4 x0 x1 := by
  unfold kernelRun0_A.sl.H2_4
  rw [canon3]
  rw [R_v30, readAt_rect, readAt_rect]; rfl
theorem R_v41 : kernelRun0_A.sl.v41 (F := F) c arg2 harg2 arg3 harg3 arg4 x0 x1 = s4 x0 x1 := by
  unfold kernelRun0_A.sl.v41; rw [readCov_rect, R_H4]; exact ld3 _ _

theorem R_H5 : View.canon (kernelRun0_A.sl.H2_5 (F := F) c arg2 harg2 arg3 harg3 arg4 x0 x1) = s5 x0 x1 := by
  unfold kernelRun0_A.sl.H2_5
  rw [canon3]
  rw [R_v41, readAt_rect, readAt_rect]; rfl
theorem R_v52 : kernelRun0_A.sl.v52 (F := F) c arg2 harg2 arg3 harg3 arg4 x0 x1 = s5 x0 x1 := by
  unfold kernelRun0_A.sl.v52; rw [readCov_rect, R_H5]; exact ld3 _ _

theorem R_H6 : View.canon (kernelRun0_A.sl.H2_6 (F := F) c arg2 harg2 arg3 harg3 arg4 x0 x1) = s6 x0 x1 := by
  unfold kernelRun0_A.sl.H2_6
  rw [canon3]
  rw [show kernelRun0_A.sl.r_1 (F := F) c arg2 harg2 arg3 harg3 arg4 x0 x1 = k0_pay7 (s5 x0 x1) from by unfold kernelRun0_A.sl.r_1; rw [R_v52],
    show kernelRun0_A.sl.r_2 (F := F) c arg2 harg2 x0 = k0_pay8 (a5 x0) from by unfold kernelRun0_A.sl.r_2; rw [readAt_rect]; rfl, readAt_rect]
  rfl
theorem R_v63 : kernelRun0_A.sl.v63 (F := F) c arg2 harg2 arg3 harg3 arg4 x0 x1 = s6 x0 x1 := by
  unfold kernelRun0_A.sl.v63; rw [readCov_rect, R_H6]; exact ld3 _ _

theorem R_H7 : View.canon (kernelRun0_A.sl.H2_7 (F := F) c arg2 harg2 arg3 harg3 arg4 x0 x1) = s7 x0 x1 := by
  unfold kernelRun0_A.sl.H2_7
  rw [canon3]
  rw [R_v63, readAt_rect, readAt_rect]; rfl
theorem R_v74 : kernelRun0_A.sl.v74 (F := F) c arg2 harg2 arg3 harg3 arg4 x0 x1 = s7 x0 x1 := by
  unfold kernelRun0_A.sl.v74; rw [readCov_rect, R_H7]; exact ld3 _ _

/-- What a point leaves. -/
theorem out_eq : out0_A_2 c i arg2 harg2 arg3 harg3 arg4 harg4 x0 x1 = s8 x0 x1 := by
  unfold out0_A_2
  rw [View.read_writes_junk_eq_canon]
  dsimp only [kernelRun0_A]
  rw [canon3, R_v74, readAt_rect, readAt_rect]
  rfl

end Point

/-! ## Over the extended reals -/

section Ideal

variable (x0 : Vec Ideal S4096x512 .bf16) (x1 : Vec Ideal S4096x1024 .bf16)

theorem a0_apply (k : Fin 512) (j : Fin 512) : a0 x0 (ix2 k j) = x0 (ix2 (tok 0 k) j) := by
  refine congrArg x0 (funext fun a => Fin.ext ?_)
  match a with
  | ⟨0, _⟩ => show 0 + 1 * k.val = 0 * 512 + k.val; omega
  | ⟨1, _⟩ => show 0 + 1 * j.val = j.val; omega
theorem b0_apply (k : Fin 512) (j : Fin 1024) : b0 x1 (ix2 k j) = x1 (ix2 (tok 0 k) j) := by
  refine congrArg x1 (funext fun a => Fin.ext ?_)
  match a with
  | ⟨0, _⟩ => show 0 + 1 * k.val = 0 * 512 + k.val; omega
  | ⟨1, _⟩ => show 0 + 1 * j.val = j.val; omega
theorem a1_apply (k : Fin 512) (j : Fin 512) : a1 x0 (ix2 k j) = x0 (ix2 (tok 1 k) j) := by
  refine congrArg x0 (funext fun a => Fin.ext ?_)
  match a with
  | ⟨0, _⟩ => show 512 + 1 * k.val = 1 * 512 + k.val; omega
  | ⟨1, _⟩ => show 0 + 1 * j.val = j.val; omega
theorem b1_apply (k : Fin 512) (j : Fin 1024) : b1 x1 (ix2 k j) = x1 (ix2 (tok 1 k) j) := by
  refine congrArg x1 (funext fun a => Fin.ext ?_)
  match a with
  | ⟨0, _⟩ => show 512 + 1 * k.val = 1 * 512 + k.val; omega
  | ⟨1, _⟩ => show 0 + 1 * j.val = j.val; omega
theorem a2_apply (k : Fin 512) (j : Fin 512) : a2 x0 (ix2 k j) = x0 (ix2 (tok 2 k) j) := by
  refine congrArg x0 (funext fun a => Fin.ext ?_)
  match a with
  | ⟨0, _⟩ => show 1024 + 1 * k.val = 2 * 512 + k.val; omega
  | ⟨1, _⟩ => show 0 + 1 * j.val = j.val; omega
theorem b2_apply (k : Fin 512) (j : Fin 1024) : b2 x1 (ix2 k j) = x1 (ix2 (tok 2 k) j) := by
  refine congrArg x1 (funext fun a => Fin.ext ?_)
  match a with
  | ⟨0, _⟩ => show 1024 + 1 * k.val = 2 * 512 + k.val; omega
  | ⟨1, _⟩ => show 0 + 1 * j.val = j.val; omega
theorem a3_apply (k : Fin 512) (j : Fin 512) : a3 x0 (ix2 k j) = x0 (ix2 (tok 3 k) j) := by
  refine congrArg x0 (funext fun a => Fin.ext ?_)
  match a with
  | ⟨0, _⟩ => show 1536 + 1 * k.val = 3 * 512 + k.val; omega
  | ⟨1, _⟩ => show 0 + 1 * j.val = j.val; omega
theorem b3_apply (k : Fin 512) (j : Fin 1024) : b3 x1 (ix2 k j) = x1 (ix2 (tok 3 k) j) := by
  refine congrArg x1 (funext fun a => Fin.ext ?_)
  match a with
  | ⟨0, _⟩ => show 1536 + 1 * k.val = 3 * 512 + k.val; omega
  | ⟨1, _⟩ => show 0 + 1 * j.val = j.val; omega
theorem a4_apply (k : Fin 512) (j : Fin 512) : a4 x0 (ix2 k j) = x0 (ix2 (tok 4 k) j) := by
  refine congrArg x0 (funext fun a => Fin.ext ?_)
  match a with
  | ⟨0, _⟩ => show 2048 + 1 * k.val = 4 * 512 + k.val; omega
  | ⟨1, _⟩ => show 0 + 1 * j.val = j.val; omega
theorem b4_apply (k : Fin 512) (j : Fin 1024) : b4 x1 (ix2 k j) = x1 (ix2 (tok 4 k) j) := by
  refine congrArg x1 (funext fun a => Fin.ext ?_)
  match a with
  | ⟨0, _⟩ => show 2048 + 1 * k.val = 4 * 512 + k.val; omega
  | ⟨1, _⟩ => show 0 + 1 * j.val = j.val; omega
theorem a5_apply (k : Fin 512) (j : Fin 512) : a5 x0 (ix2 k j) = x0 (ix2 (tok 5 k) j) := by
  refine congrArg x0 (funext fun a => Fin.ext ?_)
  match a with
  | ⟨0, _⟩ => show 2560 + 1 * k.val = 5 * 512 + k.val; omega
  | ⟨1, _⟩ => show 0 + 1 * j.val = j.val; omega
theorem b5_apply (k : Fin 512) (j : Fin 1024) : b5 x1 (ix2 k j) = x1 (ix2 (tok 5 k) j) := by
  refine congrArg x1 (funext fun a => Fin.ext ?_)
  match a with
  | ⟨0, _⟩ => show 2560 + 1 * k.val = 5 * 512 + k.val; omega
  | ⟨1, _⟩ => show 0 + 1 * j.val = j.val; omega
theorem a6_apply (k : Fin 512) (j : Fin 512) : a6 x0 (ix2 k j) = x0 (ix2 (tok 6 k) j) := by
  refine congrArg x0 (funext fun a => Fin.ext ?_)
  match a with
  | ⟨0, _⟩ => show 3072 + 1 * k.val = 6 * 512 + k.val; omega
  | ⟨1, _⟩ => show 0 + 1 * j.val = j.val; omega
theorem b6_apply (k : Fin 512) (j : Fin 1024) : b6 x1 (ix2 k j) = x1 (ix2 (tok 6 k) j) := by
  refine congrArg x1 (funext fun a => Fin.ext ?_)
  match a with
  | ⟨0, _⟩ => show 3072 + 1 * k.val = 6 * 512 + k.val; omega
  | ⟨1, _⟩ => show 0 + 1 * j.val = j.val; omega
theorem a7_apply (k : Fin 512) (j : Fin 512) : a7 x0 (ix2 k j) = x0 (ix2 (tok 7 k) j) := by
  refine congrArg x0 (funext fun a => Fin.ext ?_)
  match a with
  | ⟨0, _⟩ => show 3584 + 1 * k.val = 7 * 512 + k.val; omega
  | ⟨1, _⟩ => show 0 + 1 * j.val = j.val; omega
theorem b7_apply (k : Fin 512) (j : Fin 1024) : b7 x1 (ix2 k j) = x1 (ix2 (tok 7 k) j) := by
  refine congrArg x1 (funext fun a => Fin.ext ?_)
  match a with
  | ⟨0, _⟩ => show 3584 + 1 * k.val = 7 * 512 + k.val; omega
  | ⟨1, _⟩ => show 0 + 1 * j.val = j.val; omega

/-- One run's part of a product. -/
def run (g : Fin 8) (p : Fin 512) (q : Fin 1024) : EReal := ∑ k : Fin 512, x0 (ix2 (tok g k) p) * x1 (ix2 (tok g k) q)

theorem s1_apply (p : Fin 512) (q : Fin 1024) : s1 x0 x1 (ix3 0 p q) = run x0 x1 0 p q := by
  unfold s1 k0_pay1 run
  pointwise
  simp only [a0_apply, b0_apply]
theorem s2_apply (p : Fin 512) (q : Fin 1024) : s2 x0 x1 (ix3 0 p q) = s1 x0 x1 (ix3 0 p q) + run x0 x1 1 p q := by
  unfold s2 k0_pay2 run
  pointwise
  simp only [a1_apply, b1_apply]
theorem s3_apply (p : Fin 512) (q : Fin 1024) : s3 x0 x1 (ix3 0 p q) = s2 x0 x1 (ix3 0 p q) + run x0 x1 2 p q := by
  unfold s3 k0_pay4 k0_pay3 run
  pointwise
  simp only [a2_apply, b2_apply]
theorem s4_apply (p : Fin 512) (q : Fin 1024) : s4 x0 x1 (ix3 0 p q) = s3 x0 x1 (ix3 0 p q) + run x0 x1 3 p q := by
  unfold s4 k0_pay5 run
  pointwise
  simp only [a3_apply, b3_apply]
theorem s5_apply (p : Fin 512) (q : Fin 1024) : s5 x0 x1 (ix3 0 p q) = s4 x0 x1 (ix3 0 p q) + run x0 x1 4 p q := by
  unfold s5 k0_pay6 run
  pointwise
  simp only [a4_apply, b4_apply]
theorem s6_apply (p : Fin 512) (q : Fin 1024) : s6 x0 x1 (ix3 0 p q) = s5 x0 x1 (ix3 0 p q) + run x0 x1 5 p q := by
  unfold s6 k0_pay9 k0_pay7 k0_pay8 run
  pointwise
  simp only [a5_apply, b5_apply]
theorem s7_apply (p : Fin 512) (q : Fin 1024) : s7 x0 x1 (ix3 0 p q) = s6 x0 x1 (ix3 0 p q) + run x0 x1 6 p q := by
  unfold s7 k0_pay10 run
  pointwise
  simp only [a6_apply, b6_apply]
theorem s8_apply (p : Fin 512) (q : Fin 1024) : s8 x0 x1 (ix3 0 p q) = s7 x0 x1 (ix3 0 p q) + run x0 x1 7 p q := by
  unfold s8 k0_pay11 run
  pointwise
  simp only [a7_apply, b7_apply]

/-- A point's block is the product over all the tokens. -/
theorem out_apply (p : Fin 512) (q : Fin 1024) : s8 x0 x1 (ix3 0 p q) = ∑ k, x0 (ix2 k p) * x1 (ix2 k q) := by
  rw [s8_apply, s7_apply, s6_apply, s5_apply, s4_apply, s3_apply, s2_apply, s1_apply, sum_tok]
  rfl

end Ideal

/-! ## The run -/

variable (m : (ℓ : Loc nD τ sig) → Buf (Elt Ideal) ℓ) (ρ : Dev nD → PrngReg) (c : Dev nD)

theorem V_v0 (i : Fin 4096) (k : Fin 1536) : (V m c main_v0 : Vec Ideal S4096x1536 .bf16) (ix2 i k) = (m ((c : Thread nD τ).loc main_arg0) : Vec Ideal S4096x1536 .f32) (ix2 i k) := by
  unfold V
  after_reads_at
theorem V_v1 (i : Fin 4096) (k : Fin 1024) : (V m c main_v1 : Vec Ideal S4096x1024 .bf16) (ix2 i k) = (m ((c : Thread nD τ).loc main_arg1) : Vec Ideal S4096x1024 .f32) (ix2 i k) := by
  unfold V
  after_reads_at

theorem lt_N (t : Fin cfg0.N) : t.val < 3 := lt_of_lt_of_eq t.isLt (show cfg0.N = 3 from N_0)

/-- Row `p` and column `q` of point `t`'s block, in the array; `q` also as a column of the second operand. -/
def gi (t : Fin cfg0.N) : Fin 1 := ⟨t.val / 3, by have := lt_N t; omega⟩
def pi (t : Fin cfg0.N) (p : Fin 512) : Fin 1536 := ⟨t.val % 3 * 512 + p.val, by have := p.isLt; have := Nat.mod_lt t.val (show 0 < 3 by decide); omega⟩
def col (g : Fin 1) (q : Fin 1024) : Fin 1024 := ⟨g.val * 1024 + q.val, by have := g.isLt; have := q.isLt; omega⟩

theorem point (g : Fin 1) (i : Fin 1536) : ∃ (t : Fin cfg0.N) (p : Fin 512), gi t = g ∧ pi t p = i :=
  ⟨⟨g.val * 3 + i.val / 512, by rw [show cfg0.N = 3 from N_0]; have := g.isLt; have := i.isLt; omega⟩, ⟨i.val % 512, Nat.mod_lt _ (by decide)⟩,
    Fin.ext (by show (g.val * 3 + i.val / 512) / 3 = g.val; have := i.isLt; omega),
    Fin.ext (by show (g.val * 3 + i.val / 512) % 3 * 512 + i.val % 512 = i.val; have := i.isLt; omega)⟩

theorem idx0 : ∀ t : Fin cfg0.N, win0_0.index t (0 : Fin 2) = 0 ∧ win0_0.index t (1 : Fin 2) = t.val % 3 :=
  (by decide +kernel : ∀ t : Fin grid0.N, _)
theorem idx1 : ∀ t : Fin cfg0.N, win0_1.index t (0 : Fin 2) = 0 ∧ win0_1.index t (1 : Fin 2) = t.val / 3 :=
  (by decide +kernel : ∀ t : Fin grid0.N, _)
theorem idx2 : ∀ t : Fin cfg0.N, win0_2.index t (0 : Fin 3) = t.val / 3 ∧ win0_2.index t (1 : Fin 3) = t.val % 3 ∧ win0_2.index t (2 : Fin 3) = 0 :=
  (by decide +kernel : ∀ t : Fin grid0.N, _)

theorem emb0 (t : Fin cfg0.N) (k : Fin 4096) (p : Fin 512) : ((cfg0.win 0).blk t).view.emb (ix2 k p) = ix2 k (pi t p) := by
  obtain ⟨e0, e1⟩ := idx0 t
  funext a; apply Fin.ext
  match a with
  | ⟨0, _⟩ => show win0_0.index t (0 : Fin 2) * 4096 + 1 * k.val = k.val; rw [e0]; omega
  | ⟨1, _⟩ => show win0_0.index t (1 : Fin 2) * 512 + 1 * p.val = t.val % 3 * 512 + p.val; rw [e1]; omega
theorem emb1 (t : Fin cfg0.N) (k : Fin 4096) (q : Fin 1024) : ((cfg0.win 1).blk t).view.emb (ix2 k q) = ix2 k (col (gi t) q) := by
  obtain ⟨e0, e1⟩ := idx1 t
  funext a; apply Fin.ext
  match a with
  | ⟨0, _⟩ => show win0_1.index t (0 : Fin 2) * 4096 + 1 * k.val = k.val; rw [e0]; omega
  | ⟨1, _⟩ => show win0_1.index t (1 : Fin 2) * 1024 + 1 * q.val = t.val / 3 * 1024 + q.val; rw [e1]; omega
theorem emb2 (t : Fin cfg0.N) (p : Fin 512) (q : Fin 1024) : ((cfg0.win 2).blk t).view.emb (ix3 0 p q) = ix3 (gi t) (pi t p) q := by
  obtain ⟨e0, e1, e2⟩ := idx2 t
  funext a; apply Fin.ext
  match a with
  | ⟨0, _⟩ => show win0_2.index t (0 : Fin 3) * 1 + 1 * 0 = t.val / 3; rw [e0]; omega
  | ⟨1, _⟩ => show win0_2.index t (1 : Fin 3) * 512 + 1 * p.val = t.val % 3 * 512 + p.val; rw [e1]; omega
  | ⟨2, _⟩ => show win0_2.index t (2 : Fin 3) * 1024 + 1 * q.val = q.val; rw [e2]; omega

theorem blk0 (t : Fin cfg0.N) (k : Fin 4096) (p : Fin 512) : (iblk m c 0 t : Vec Ideal S4096x512 .bf16) (ix2 k p) = (m ((c : Thread nD τ).loc main_arg0) : Vec Ideal S4096x1536 .f32) (ix2 k (pi t p)) := by
  refine Eq.trans ?_ (V_v0 m c k (pi t p))
  show V m c main_v0 (((cfg0.win 0).blk t).view.emb (ix2 k p)) = _
  rw [emb0]
theorem blk1 (t : Fin cfg0.N) (k : Fin 4096) (q : Fin 1024) : (iblk m c 1 t : Vec Ideal S4096x1024 .bf16) (ix2 k q) = (m ((c : Thread nD τ).loc main_arg1) : Vec Ideal S4096x1024 .f32) (ix2 k (col (gi t) q)) := by
  refine Eq.trans ?_ (V_v1 m c k (col (gi t) q))
  show V m c main_v1 (((cfg0.win 1).blk t).view.emb (ix2 k q)) = _
  rw [emb1]

/-- The two operands of the launch memory. -/
def left (k : Fin 4096) (i : Fin 1536) : EReal := (m ((c : Thread nD τ).loc main_arg0) : Vec Ideal S4096x1536 .f32) (ix2 k i)
def right (k : Fin 4096) (j : Fin 1024) : EReal := (m ((c : Thread nD τ).loc main_arg1) : Vec Ideal S4096x1024 .f32) (ix2 k j)

/-- The gradient's entry, of the launch memory: the product over the tokens. -/
def grad (g : Fin 1) (i : Fin 1536) (q : Fin 1024) : EReal := ∑ k : Fin 4096, left m c k i * right m c k (col g q)

theorem flushed (t : Fin cfg0.N) (p : Fin 512) (q : Fin 1024) : (dats m 0 c).flushed 2 t (ix3 0 p q) = grad m c (gi t) (pi t p) q := by
  rw [Cert.Kernel10Ideal.Value.flushed2_A, out_eq]
  refine (out_apply (iblk m c 0 t) (iblk m c 1 t) p q).trans (Finset.sum_congr rfl fun k _ => ?_)
  exact congrArg₂ (· * ·) (blk0 m c t k p) (blk1 m c t k q)

/-- The result's array after the run. -/
theorem arr : (dats m 0 c).arrAt 2 cfg0.N = (fun i : S1x1536x1024.Idx => grad m c (i 0) (i 1) (i 2)) := by
  refine (dats m 0 c).arrAt_eq_of_cover 2 _ (fun t _ => ?_) (fun i => ?_)
  · funext y
    obtain ⟨p, q, rfl⟩ : ∃ (p : Fin 512) (q : Fin 1024), y = ix3 0 p q := ⟨y 1, y 2, (eq_ix3 y).trans (congrArg (fun z => ix3 z (y 1) (y 2)) (Fin.fin_one_eq_zero (y 0)))⟩
    rw [flushed, View.read_apply, emb2]; rfl
  · obtain ⟨g, p, q, rfl⟩ : ∃ (g : Fin 1) (p : Fin 1536) (q : Fin 1024), i = ix3 g p q := ⟨i 0, i 1, i 2, eq_ix3 i⟩
    obtain ⟨t, r, rfl, rfl⟩ := point g p
    exact ⟨t, flush0_2 t, emb2 t r q ▸ ((cfg0.win 2).blk t).view.emb_mem_set (ix3 0 r q)⟩

/-- The whole run: the result's array, and the arguments kept. -/
theorem kernel : θ_run defs (onTc (τ := τ) (main (F := Ideal))) ⟨m, fun _ => 0, ρ⟩ fun r => ∀ c : Dev nD,
      r.2.mem ((c : Thread nD τ).loc main_v2) = (fun i : S1x1536x1024.Idx => grad m c (i 0) (i 1) (i 2))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (arr m c), (h c).2⟩) (Cert.Kernel10Ideal.Value.run_blocks m ρ)

/-! ## The reference -/

theorem reference (x0 : (⟨Cert.Reference10Ideal.S4096x1536, .f32⟩ : BufTy).Contents (Elt Ideal)) (x1 : (⟨Cert.Reference10Ideal.S4096x1024, .f32⟩ : BufTy).Contents (Elt Ideal))
    (g : Fin 1) (i : Fin 1536) (q : Fin 1024) :
    Cert.Reference10Ideal.Read.val_main_v5 (F := Ideal) x0 x1 (ix3 g i q) = ∑ k : Fin 4096, x0 (ix2 k i) * x1 (ix2 k (col g q)) := by
  rw [Cert.Reference10Ideal.Read.val_main_v5_apply, Cert.Reference10Ideal.Read.val_main_v4_apply, Cert.Reference10Ideal.Read.val_main_v3_apply, Cert.Reference10Ideal.Read.val_main_v2_apply]
  refine Finset.sum_congr rfl fun k _ => (mul_comm _ _).trans (congrArg₂ (· * ·) (congrArg x0 ?_) (congrArg x1 ?_))
  · funext a; apply Fin.ext
    match a with
    | ⟨0, _⟩ => rfl
    | ⟨1, _⟩ => show ((i.val * 1 + g.val) * 1024 + q.val) / 1024 = i.val; have := g.isLt; have := q.isLt; omega
  · funext a; apply Fin.ext
    match a with
    | ⟨0, _⟩ => rfl
    | ⟨1, _⟩ => show ((i.val * 1 + g.val) * 1024 + q.val) % 1024 = g.val * 1024 + q.val; have := g.isLt; have := q.isLt; omega

/-- The reference declares no semaphore, so its run's end has none raised. -/
theorem frame_reference : Cert.quiescent_Reference10Ideal (hReference10Ideal := Cert.Reference10Ideal.Gen.facts) :=
  fun m g _ => (θ_run Cert.Reference10Ideal.defs _ _).mono (fun r h => ⟨fun c => (h c).2, sem_eq_zero_of_no_sems rfl r.2⟩) (Cert.Reference10Ideal.Value.run m g)

/-- The two programs' results over the extended reals, from memories agreeing on the arguments. -/
theorem algebraic : Cert.algebraic_Kernel10Ideal_Reference10Ideal (hKernel10Ideal := Cert.Kernel10Ideal.Gen.facts) (hReference10Ideal := Cert.Reference10Ideal.Gen.facts) := by
  intro m g m' g' _ hag
  refine ⟨_, kernel m g, (θ_run Cert.Reference10Ideal.defs _ _).mono (fun r h c => ?_) (Cert.Reference10Ideal.Value.run m' g')⟩
  obtain ⟨h0, hargs⟩ := h c
  obtain ⟨e0, e1⟩ := hag c
  refine ⟨h0.trans ?_, hargs⟩
  rw [Cert.Reference10Ideal.Read.val_main_v5_eq, e0, e1]
  funext j
  rw [eq_ix3 j]
  exact reference _ _ (j 0) (j 1) (j 2)

end Cert.Wg10

end
-- ==== Proof.FwdTile.lean ====
/- The mixers' forward call: what one grid point leaves in the projected rows and in the normalised rows, for any reading
   of the floats. Neither depends on what the point before left. -/
module

public import proofs.«01_k».proof.Proof.Gen.Kernel11Ideal.Value
public import proofs.«01_k».proof.Proof.Tile
public import Idealize.ShloMosaic.Lib.ValueIdx

@[expose] public section

set_option maxRecDepth 16384

noncomputable section

namespace Cert.Kernel11Ideal.FwdTile

open Cert.Kernel11Ideal Cert.Kernel11Ideal.Gen Idealize.ShloMosaic Idealize.ShloMosaic.TcCoe Idealize.SL.Sem
open Idealize.ShloMosaic.Pipeline (Dat)
open Idealize.ShloMosaic.ValueIdx
open Cert.KernelIdeal.Tile (readAt_whole readAt_rect ld_whole canon_whole2)

variable {F : FTy → Type} [FloatOps F]

section Block

variable (x0 : Vec F S256x1024 .f32) (x1 : Vec F S1x1024 .f32) (x2 : Vec F S4x1024x896 .bf16)

/-- The four blocks of columns of the weight. -/
def w0 : Vec F S1x1024x896 .bf16 := View.ld x2 (Rect.unit ![0, 0, 0] S1x1024x896.size inb_S4x1024x896_S1x1024x896_0_0_0)
def w1 : Vec F S1x1024x896 .bf16 := View.ld x2 (Rect.unit ![1, 0, 0] S1x1024x896.size inb_S4x1024x896_S1x1024x896_1_0_0)
def w2 : Vec F S1x1024x896 .bf16 := View.ld x2 (Rect.unit ![2, 0, 0] S1x1024x896.size inb_S4x1024x896_S1x1024x896_2_0_0)
def w3 : Vec F S1x1024x896 .bf16 := View.ld x2 (Rect.unit ![3, 0, 0] S1x1024x896.size inb_S4x1024x896_S1x1024x896_3_0_0)
/-- The block's normalised rows with their gain. -/
def oH : Vec F S256x1024 .bf16 := k0_pay6 x0 x1
/-- The stores that fill the projected rows, block of columns by block of columns. -/
def uPieces : List (View.Piece (Elt F) S256x3584 .f32) :=
  [⟨Rect.unit ![0, 2688] S256x896.size inb_S256x3584_S256x896_0_2688, k0_pay10 (oH x0 x1) (w3 x2)⟩,
   ⟨Rect.unit ![0, 1792] S256x896.size inb_S256x3584_S256x896_0_1792, k0_pay9 (oH x0 x1) (w2 x2)⟩,
   ⟨Rect.unit ![0, 896] S256x896.size inb_S256x3584_S256x896_0_896, k0_pay8 x0 x1 (w1 x2)⟩,
   ⟨Rect.unit ![0, 0] S256x896.size inb_S256x3584_S256x896_0_0, k0_pay7 x0 x1 (w0 x2)⟩]
/-- The block's projected rows. -/
def oU : Vec F S256x3584 .f32 := View.canon (uPieces x0 x1 x2)

end Block

section Named

variable (c : Dev nD) (i : grid0.Coords)
variable (arg1 : Memref sig .tc .vmem S256x1024 .f32) (harg1 : arg1.IsWhole) (arg2 : Memref sig .tc .vmem S1x1024 .f32) (harg2 : arg2.IsWhole)
  (arg3 : Memref sig .tc .vmem S4x1024x896 .bf16) (harg3 : arg3.IsWhole) (arg4 : Memref sig .tc .vmem S3x512 .f32) (harg4 : arg4.IsWhole)
  (arg5 : Memref sig .tc .vmem S4x1024 .f32) (harg5 : arg5.IsWhole) (arg6 : Memref sig .tc .vmem S1x1024 .f32) (harg6 : arg6.IsWhole)
  (arg7 : Memref sig .tc .vmem S4x256x256 .bf16) (harg7 : arg7.IsWhole) (arg8 : Memref sig .tc .vmem S1x1024 .f32) (harg8 : arg8.IsWhole)
  (arg9 : Memref sig .tc .vmem S4x256x256 .bf16) (harg9 : arg9.IsWhole) (arg10 : Memref sig .tc .vmem S1x1024 .f32) (harg10 : arg10.IsWhole)
  (arg11 : Memref sig .tc .vmem S1x1024 .f32) (harg11 : arg11.IsWhole) (arg12 : Memref sig .tc .vmem S1x512 .f32) (harg12 : arg12.IsWhole)
  (arg13 : Memref sig .tc .vmem S1x1024 .f32) (harg13 : arg13.IsWhole) (arg14 : Memref sig .tc .vmem S256x3584 .f32) (harg14 : arg14.IsWhole)
  (arg15 : Memref sig .tc .vmem S256x1024 .bf16) (harg15 : arg15.IsWhole) (arg16 : Memref sig .tc .vmem S256x1024 .f32) (harg16 : arg16.IsWhole)
  (arg17 : Memref sig .tc .vmem S256x1024 .f32) (harg17 : arg17.IsWhole) (arg18 : Memref sig .tc .vmem S256x512 .f32) (harg18 : arg18.IsWhole)
  (arg19 : Memref sig .tc .vmem S256x1536 .bf16) (harg19 : arg19.IsWhole) (arg20 : Memref sig .tc .vmem S8x512 .f32) (harg20 : arg20.IsWhole)
  (arg21 : Memref sig .tc .vmem S8x1024 .f32) (harg21 : arg21.IsWhole) (arg22 : Memref sig .tc .vmem S1x1024 .f32) (harg22 : arg22.IsWhole)
  (x0 : Vec F S256x1024 .f32) (x1 : Vec F S1x1024 .f32) (x2 : Vec F S4x1024x896 .bf16) (x3 : Vec F S3x512 .f32) (x4 : Vec F S4x1024 .f32) (x5 : Vec F S1x1024 .f32) (x6 : Vec F S4x256x256 .bf16) (x7 : Vec F S1x1024 .f32) (x8 : Vec F S4x256x256 .bf16) (x9 : Vec F S1x1024 .f32) (x10 : Vec F S1x1024 .f32) (x11 : Vec F S1x512 .f32) (x12 : Vec F S1x1024 .f32)
  (xs0 : Vec F S8x512 .f32) (xs1 : Vec F S8x1024 .f32) (xs2 : Vec F S1x1024 .f32)

theorem A_r : kernelRun0_A.sl.r c arg1 harg1 arg2 harg2 x0 x1 = oH x0 x1 := by
  unfold kernelRun0_A.sl.r oH; simp only [readAt_whole]

theorem A_r_1 : kernelRun0_A.sl.r_1 c arg3 harg3 x2 = w2 x2 := by
  unfold kernelRun0_A.sl.r_1 w2; simp only [readAt_rect]

theorem A_out14 (hc0 : cond0_0 i) : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 = oH x0 x1 := by
  unfold out0_A_14; rw [View.read_writes_junk_eq_canon]; dsimp only [kernelRun0_A]; rw [canon_whole2]
  unfold oH; simp only [readAt_whole]

theorem A_out13 (hc0 : cond0_0 i) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 = oU x0 x1 x2 := by
  unfold out0_A_13 oU uPieces w0 w1 w3; rw [View.read_writes_junk_eq_canon]; dsimp only [kernelRun0_A]
  unfold kernelRun0_A.sl.H13_4; simp only [readAt_rect, ld_whole, A_r, A_r_1]

theorem B_r : kernelRun0_B.sl.r c arg1 harg1 arg2 harg2 x0 x1 = oH x0 x1 := by
  unfold kernelRun0_B.sl.r oH; simp only [readAt_whole]

theorem B_r_1 : kernelRun0_B.sl.r_1 c arg3 harg3 x2 = w2 x2 := by
  unfold kernelRun0_B.sl.r_1 w2; simp only [readAt_rect]

theorem B_out14 (hc0 : ¬cond0_0 i) : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xs0 xs1 xs2 = oH x0 x1 := by
  unfold out0_B_14; rw [View.read_writes_junk_eq_canon]; dsimp only [kernelRun0_B]; rw [canon_whole2]
  unfold oH; simp only [readAt_whole]

theorem B_out13 (hc0 : ¬cond0_0 i) : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 xs0 xs1 xs2 = oU x0 x1 x2 := by
  unfold out0_B_13 oU uPieces w0 w1 w3; rw [View.read_writes_junk_eq_canon]; dsimp only [kernelRun0_B]
  unfold kernelRun0_B.sl.H13_4; simp only [readAt_rect, ld_whole, B_r, B_r_1]

end Named

end Cert.Kernel11Ideal.FwdTile
end
-- ==== Proof.FwdGrid.lean ====
/- The mixers' forward call: what every grid point leaves in the projected rows and in the normalised rows, and each one's
   array after the run, for any reading of the floats. -/
module

public import proofs.«01_k».proof.Proof.FwdTile

@[expose] public section

set_option maxRecDepth 16384

noncomputable section

namespace Cert.Kernel11Ideal.FwdGrid

open Cert.Kernel11Ideal Cert.Kernel11Ideal.Gen Cert.Kernel11Ideal.FwdTile Idealize.ShloMosaic Idealize.ShloMosaic.TcCoe Idealize.SL.Sem
open Idealize.ShloMosaic.Pipeline (Dat)
open Idealize.ShloMosaic.ValueIdx

variable {F : FTy → Type} [FloatOps F]

variable (m : (ℓ : Loc nD τ sig) → Buf (Elt F) ℓ) (ρ : Dev nD → PrngReg)

/-- The blocks of the inputs a point reads. -/
abbrev bx (c : Dev nD) (t : Fin cfg0.N) : Vec F S256x1024 .f32 := iblk m c 0 t
abbrev bg (c : Dev nD) (t : Fin cfg0.N) : Vec F S1x1024 .f32 := iblk m c 1 t
abbrev bw (c : Dev nD) (t : Fin cfg0.N) : Vec F S4x1024x896 .bf16 := iblk m c 2 t

/-- What every point leaves in the projected rows. -/
theorem outs13 (c : Dev nD) (t : Fin cfg0.N) : (outsAt0 m c t.val t.isLt).1 = oU (bx m c t) (bg m c t) (bw m c t) := by
  by_cases h : t.val % 16 = 0
  · refine (congrArg Prod.fst (outsAt0_A m c t h)).trans ?_
    dsimp only
    apply A_out13
  · refine (congrArg Prod.fst (outsAt0_B m c t h)).trans ?_
    dsimp only
    apply B_out13

/-- What every point leaves in the normalised rows. -/
theorem outs14 (c : Dev nD) (t : Fin cfg0.N) : (outsAt0 m c t.val t.isLt).2.1 = oH (bx m c t) (bg m c t) := by
  by_cases h : t.val % 16 = 0
  · refine (congrArg (fun p => p.2.1) (outsAt0_A m c t h)).trans ?_
    dsimp only
    apply A_out14
  · refine (congrArg (fun p => p.2.1) (outsAt0_B m c t h)).trans ?_
    dsimp only
    apply B_out14

/-- Row `r` of point `t`'s block is row `256 t + r` of the array. -/
def tok (t : Fin cfg0.N) (r : Fin 256) : Fin 4096 :=
  ⟨t.val * 256 + r.val, by have h : t.val < 16 := lt_of_lt_of_eq t.isLt (show cfg0.N = 16 from N_0); have := r.isLt; omega⟩

theorem tok_surj (i : Fin 4096) : ∃ (t : Fin cfg0.N) (r : Fin 256), tok t r = i :=
  ⟨⟨i.val / 256, by rw [show cfg0.N = 16 from N_0]; have := i.isLt; omega⟩, ⟨i.val % 256, Nat.mod_lt _ (by decide)⟩,
    Fin.ext (by show i.val / 256 * 256 + i.val % 256 = i.val; omega)⟩

theorem idx0 : ∀ t : Fin cfg0.N, win0_0.index t (0 : Fin 2) = t.val ∧ win0_0.index t (1 : Fin 2) = 0 :=
  (by decide +kernel : ∀ t : Fin grid0.N, _)

theorem emb0 (t : Fin cfg0.N) (r : Fin 256) (j : Fin 1024) : ((cfg0.win 0).blk t).view.emb (ix2 r j) = ix2 (tok t r) j := by
  obtain ⟨e0, e1⟩ := idx0 t
  funext a; apply Fin.ext
  match a with
  | ⟨0, _⟩ => show win0_0.index t (0 : Fin 2) * 256 + 1 * r.val = t.val * 256 + r.val; rw [e0]; omega
  | ⟨1, _⟩ => show win0_0.index t (1 : Fin 2) * 1024 + 1 * j.val = j.val; rw [e1]; omega

theorem idx1 : ∀ t : Fin cfg0.N, win0_1.index t (0 : Fin 2) = 0 ∧ win0_1.index t (1 : Fin 2) = 0 :=
  (by decide +kernel : ∀ t : Fin grid0.N, _)

theorem emb1 (t : Fin cfg0.N) (r : Fin 1) (j : Fin 1024) : ((cfg0.win 1).blk t).view.emb (ix2 r j) = ix2 r j := by
  obtain ⟨e0, e1⟩ := idx1 t
  funext a; apply Fin.ext
  match a with
  | ⟨0, _⟩ => show win0_1.index t (0 : Fin 2) * 1 + 1 * r.val = r.val; rw [e0]; omega
  | ⟨1, _⟩ => show win0_1.index t (1 : Fin 2) * 1024 + 1 * j.val = j.val; rw [e1]; omega

theorem idx13 : ∀ t : Fin cfg0.N, win0_13.index t (0 : Fin 2) = t.val ∧ win0_13.index t (1 : Fin 2) = 0 :=
  (by decide +kernel : ∀ t : Fin grid0.N, _)

theorem emb13 (t : Fin cfg0.N) (r : Fin 256) (j : Fin 3584) : ((cfg0.win 13).blk t).view.emb (ix2 r j) = ix2 (tok t r) j := by
  obtain ⟨e0, e1⟩ := idx13 t
  funext a; apply Fin.ext
  match a with
  | ⟨0, _⟩ => show win0_13.index t (0 : Fin 2) * 256 + 1 * r.val = t.val * 256 + r.val; rw [e0]; omega
  | ⟨1, _⟩ => show win0_13.index t (1 : Fin 2) * 3584 + 1 * j.val = j.val; rw [e1]; omega

theorem idx14 : ∀ t : Fin cfg0.N, win0_14.index t (0 : Fin 2) = t.val ∧ win0_14.index t (1 : Fin 2) = 0 :=
  (by decide +kernel : ∀ t : Fin grid0.N, _)

theorem emb14 (t : Fin cfg0.N) (r : Fin 256) (j : Fin 1024) : ((cfg0.win 14).blk t).view.emb (ix2 r j) = ix2 (tok t r) j := by
  obtain ⟨e0, e1⟩ := idx14 t
  funext a; apply Fin.ext
  match a with
  | ⟨0, _⟩ => show win0_14.index t (0 : Fin 2) * 256 + 1 * r.val = t.val * 256 + r.val; rw [e0]; omega
  | ⟨1, _⟩ => show win0_14.index t (1 : Fin 2) * 1024 + 1 * j.val = j.val; rw [e1]; omega

theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)

theorem emb2 (t : Fin cfg0.N) (g : Fin 4) (i : Fin 1024) (k : Fin 896) : ((cfg0.win 2).blk t).view.emb (ix3 g i k) = ix3 g i k := by
  obtain ⟨e0, e1, e2⟩ := idx2 t
  funext a; apply Fin.ext
  match a with
  | ⟨0, _⟩ => show win0_2.index t (0 : Fin 3) * 4 + 1 * g.val = g.val; rw [e0]; omega
  | ⟨1, _⟩ => show win0_2.index t (1 : Fin 3) * 1024 + 1 * i.val = i.val; rw [e1]; omega
  | ⟨2, _⟩ => show win0_2.index t (2 : Fin 3) * 896 + 1 * k.val = k.val; rw [e2]; omega

theorem bx_apply (c : Dev nD) (t : Fin cfg0.N) (r : Fin 256) (j : Fin 1024) : bx m c t (ix2 r j) = V m c main_arg0 (ix2 (tok t r) j) := by
  show V m c main_arg0 (((cfg0.win 0).blk t).view.emb (ix2 r j)) = _
  rw [emb0]
theorem bg_apply (c : Dev nD) (t : Fin cfg0.N) (r : Fin 1) (j : Fin 1024) : bg m c t (ix2 r j) = V m c main_v3 (ix2 r j) := by
  show V m c main_v3 (((cfg0.win 1).blk t).view.emb (ix2 r j)) = _
  rw [emb1]
theorem bw_apply (c : Dev nD) (t : Fin cfg0.N) (g : Fin 4) (i : Fin 1024) (k : Fin 896) : bw m c t (ix3 g i k) = V m c main_v2 (ix3 g i k) := by
  show V m c main_v2 (((cfg0.win 2).blk t).view.emb (ix3 g i k)) = _
  rw [emb2]

theorem flushed13 (c : Dev nD) (t : Fin cfg0.N) : (dats m 0 c).flushed 13 t = oU (bx m c t) (bg m c t) (bw m c t) := by
  show (cfg0.win 13).cut (grid0.coords t) ((dats m 0 c).after 13 t) = _
  rw [after0_13, outs13]; rfl

/-- The projected rows' array after the run is `G` when every point's block is `G`'s. -/
theorem arr13 (c : Dev nD) (G : Vec F ⟨2, ![4096, 3584]⟩ .f32)
    (hG : ∀ t : Fin cfg0.N, ∀ (r : Fin 256) (j : Fin 3584), oU (bx m c t) (bg m c t) (bw m c t) (ix2 r j) = G (ix2 (tok t r) j)) :
    (dats m 0 c).arrAt 13 cfg0.N = G := by
  refine (dats m 0 c).arrAt_eq_of_cover 13 G (fun t _ => ?_) (fun i => ?_)
  · rw [flushed13]
    funext y
    obtain ⟨r, j, rfl⟩ : ∃ (r : Fin 256) (j : Fin 3584), y = ix2 r j := ⟨y 0, y 1, eq_ix2 y⟩
    rw [hG t r j, View.read_apply, emb13]; rfl
  · obtain ⟨p, j, rfl⟩ : ∃ (p : Fin 4096) (j : Fin 3584), i = ix2 p j := ⟨i 0, i 1, eq_ix2 i⟩
    obtain ⟨t, r, rfl⟩ := tok_surj p
    exact ⟨t, flush0_13 t, emb13 t r j ▸ ((cfg0.win 13).blk t).view.emb_mem_set (ix2 r j)⟩

theorem flushed14 (c : Dev nD) (t : Fin cfg0.N) : (dats m 0 c).flushed 14 t = oH (bx m c t) (bg m c t) := by
  show (cfg0.win 14).cut (grid0.coords t) ((dats m 0 c).after 14 t) = _
  rw [after0_14, outs14]; rfl

/-- The normalised rows' array after the run is `G` when every point's block is `G`'s. -/
theorem arr14 (c : Dev nD) (G : Vec F ⟨2, ![4096, 1024]⟩ .bf16)
    (hG : ∀ t : Fin cfg0.N, ∀ (r : Fin 256) (j : Fin 1024), oH (bx m c t) (bg m c t) (ix2 r j) = G (ix2 (tok t r) j)) :
    (dats m 0 c).arrAt 14 cfg0.N = G := by
  refine (dats m 0 c).arrAt_eq_of_cover 14 G (fun t _ => ?_) (fun i => ?_)
  · rw [flushed14]
    funext y
    obtain ⟨r, j, rfl⟩ : ∃ (r : Fin 256) (j : Fin 1024), y = ix2 r j := ⟨y 0, y 1, eq_ix2 y⟩
    rw [hG t r j, View.read_apply, emb14]; rfl
  · obtain ⟨p, j, rfl⟩ : ∃ (p : Fin 4096) (j : Fin 1024), i = ix2 p j := ⟨i 0, i 1, eq_ix2 i⟩
    obtain ⟨t, r, rfl⟩ := tok_surj p
    exact ⟨t, flush0_14 t, emb14 t r j ▸ ((cfg0.win 14).blk t).view.emb_mem_set (ix2 r j)⟩

end Cert.Kernel11Ideal.FwdGrid
end
-- ==== Proof.FwdRows.lean ====
/- One token's row of the mixers' forward call: the normalised row with the first norm's gain, and its projection. -/
module

public import proofs.«01_k».proof.Proof.Rows

@[expose] public section

noncomputable section

namespace Cert.FwdRows

open Idealize.ShloMosaic Cert.Rows

/-- The weights: the first norm's gain and the input projection. -/
structure Wts where
  g : Fin 1024 → EReal
  w : Fin 1024 → Fin 3584 → EReal

variable (W : Wts) (x : Fin 1024 → EReal)

/-- The normalised row with its gain. -/
def h (j : Fin 1024) : EReal := nrm x j * W.g j
/-- The projected row. -/
def u (k : Fin 3584) : EReal := ∑ j, h W x j * W.w j k

end Cert.FwdRows
end
-- ==== Proof.FwdRun.lean ====
/- The mixers' forward call: what a grid point's blocks hold when the input's block holds the tokens' rows, and what the
   whole run leaves. The rows are projected in four blocks of columns. -/
module

public import proofs.«01_k».proof.Proof.FwdGrid
public import proofs.«01_k».proof.Proof.FwdRows
public import Idealize.ShloMosaic.Lib.Pointwise
public import Idealize.ShloMosaic.Lib.StableHlo.ReadAt

@[expose] public section

set_option maxRecDepth 16384

noncomputable section

namespace Cert.Kernel11Ideal.FwdRun

open Cert.Kernel11Ideal Cert.Kernel11Ideal.Gen Cert.Kernel11Ideal.FwdTile Cert.Kernel11Ideal.FwdGrid Idealize.ShloMosaic Idealize.ShloMosaic.TcCoe Idealize.SL.Sem Cert.Rows

/-- Column `k` of the `g`-th of four blocks. -/
def col (g : Fin 4) (k : Fin 896) : Fin 3584 := ⟨g.val * 896 + k.val, by omega⟩

/-- The inputs' blocks hold the tokens' rows `T` and the weights `W`. -/
structure Reads (W : FwdRows.Wts) (T : Fin 256 → Fin 1024 → EReal) (x0 : Vec Ideal S256x1024 .f32) (x1 : Vec Ideal S1x1024 .f32) (x2 : Vec Ideal S4x1024x896 .bf16) : Prop where
  x : ∀ r j, x0 (ix2 r j) = T r j
  g : ∀ (r : Fin 1) j, x1 (ix2 r j) = W.g j
  w : ∀ g i k, x2 (ix3 g i k) = W.w i (col g k)

section Blocks

variable {W : FwdRows.Wts} {T : Fin 256 → Fin 1024 → EReal} {x0 : Vec Ideal S256x1024 .f32} {x1 : Vec Ideal S1x1024 .f32} {x2 : Vec Ideal S4x1024x896 .bf16}
variable (H : Reads W T x0 x1 x2)
include H

theorem w0_apply (i : Fin 1024) (k : Fin 896) : w0 x2 (ix3 0 i k) = W.w i (col 0 k) := by
  refine Eq.trans (congrArg x2 ?_) (H.w 0 i k)
  funext a; fin_cases a <;> exact Fin.ext (by simp [Rect.emb, Rect.unit, ix3])
theorem w1_apply (i : Fin 1024) (k : Fin 896) : w1 x2 (ix3 0 i k) = W.w i (col 1 k) := by
  refine Eq.trans (congrArg x2 ?_) (H.w 1 i k)
  funext a; fin_cases a <;> exact Fin.ext (by simp [Rect.emb, Rect.unit, ix3])
theorem w2_apply (i : Fin 1024) (k : Fin 896) : w2 x2 (ix3 0 i k) = W.w i (col 2 k) := by
  refine Eq.trans (congrArg x2 ?_) (H.w 2 i k)
  funext a; fin_cases a <;> exact Fin.ext (by simp [Rect.emb, Rect.unit, ix3])
theorem w3_apply (i : Fin 1024) (k : Fin 896) : w3 x2 (ix3 0 i k) = W.w i (col 3 k) := by
  refine Eq.trans (congrArg x2 ?_) (H.w 3 i k)
  funext a; fin_cases a <;> exact Fin.ext (by simp [Rect.emb, Rect.unit, ix3])

/-- The normalised rows with their gain. -/
theorem h_apply (r : Fin 256) (j : Fin 1024) : oH x0 x1 (ix2 r j) = FwdRows.h W (T r) j := by
  unfold oH k0_pay6
  pointwise
  simp only [H.x, H.g, lit1024, lit_eps]
  rfl

theorem pay7 (r : Fin 256) (k : Fin 896) : k0_pay7 x0 x1 (w0 x2) (ix2 r k) = FwdRows.u W (T r) (col 0 k) := by
  have hh : ∀ r j, k0_pay6 x0 x1 (ix2 r j) = _ := h_apply H
  unfold k0_pay7
  pointwise
  simp only [hh, w0_apply H]
  rfl
theorem pay8 (r : Fin 256) (k : Fin 896) : k0_pay8 x0 x1 (w1 x2) (ix2 r k) = FwdRows.u W (T r) (col 1 k) := by
  have hh : ∀ r j, k0_pay6 x0 x1 (ix2 r j) = _ := h_apply H
  unfold k0_pay8
  pointwise
  simp only [hh, w1_apply H]
  rfl
theorem pay9 (r : Fin 256) (k : Fin 896) : k0_pay9 (oH x0 x1) (w2 x2) (ix2 r k) = FwdRows.u W (T r) (col 2 k) := by
  unfold k0_pay9
  pointwise
  simp only [h_apply H, w2_apply H]
  rfl
theorem pay10 (r : Fin 256) (k : Fin 896) : k0_pay10 (oH x0 x1) (w3 x2) (ix2 r k) = FwdRows.u W (T r) (col 3 k) := by
  unfold k0_pay10
  pointwise
  simp only [h_apply H, w3_apply H]
  rfl

/-- The projected rows. -/
theorem u_apply (r : Fin 256) (k : Fin 3584) : oU x0 x1 x2 (ix2 r k) = FwdRows.u W (T r) k := by
  refine View.canon_apply_of_pieces (fun y : S256x3584.Idx => (FwdRows.u W (T (y 0)) (y 1))) _ ?_ (ix2 r k) (View.cover_of_tiledL (uPieces x0 x1 x2) S256x896.size rfl _)
  intro q hq x
  simp only [uPieces, List.mem_cons, List.not_mem_nil, or_false] at hq
  rcases hq with rfl | rfl | rfl | rfl
  · refine (congrArg _ (eq_ix2 x)).trans ((pay10 H (x 0) (x 1)).trans ?_)
    refine congrArg₂ (fun a b => FwdRows.u W (T a) b) (Fin.ext ?_) (Fin.ext ?_)
    · show (x 0).val = 0 + 1 * (x 0).val; omega
    · show 3 * 896 + (x 1).val = 2688 + 1 * (x 1).val; omega
  · refine (congrArg _ (eq_ix2 x)).trans ((pay9 H (x 0) (x 1)).trans ?_)
    refine congrArg₂ (fun a b => FwdRows.u W (T a) b) (Fin.ext ?_) (Fin.ext ?_)
    · show (x 0).val = 0 + 1 * (x 0).val; omega
    · show 2 * 896 + (x 1).val = 1792 + 1 * (x 1).val; omega
  · refine (congrArg _ (eq_ix2 x)).trans ((pay8 H (x 0) (x 1)).trans ?_)
    refine congrArg₂ (fun a b => FwdRows.u W (T a) b) (Fin.ext ?_) (Fin.ext ?_)
    · show (x 0).val = 0 + 1 * (x 0).val; omega
    · show 1 * 896 + (x 1).val = 896 + 1 * (x 1).val; omega
  · refine (congrArg _ (eq_ix2 x)).trans ((pay7 H (x 0) (x 1)).trans ?_)
    refine congrArg₂ (fun a b => FwdRows.u W (T a) b) (Fin.ext ?_) (Fin.ext ?_)
    · show (x 0).val = 0 + 1 * (x 0).val; omega
    · show 0 * 896 + (x 1).val = 0 + 1 * (x 1).val; omega

end Blocks

/-! ## The run -/

variable (m : (ℓ : Loc nD τ sig) → Buf (Elt Ideal) ℓ) (ρ : Dev nD → PrngReg)

/-- The launch memory's weights on a device. -/
def weights (c : Dev nD) : FwdRows.Wts where
  g j := (m ((c : Thread nD τ).loc main_arg1) : Vec Ideal S1024 .f32) (ix1 j)
  w i k := (m ((c : Thread nD τ).loc main_arg2) : Vec Ideal S1024x3584 .f32) (ix2 i k)

/-- The launch memory's tokens on a device. -/
def tokens (c : Dev nD) (i : Fin 4096) (j : Fin 1024) : EReal := (m ((c : Thread nD τ).loc main_arg0) : Vec Ideal S4096x1024 .f32) (ix2 i j)

theorem V_v3 (c : Dev nD) (r : Fin 1) (j : Fin 1024) : (V m c main_v3 : Vec Ideal S1x1024 .f32) (ix2 r j) = (m ((c : Thread nD τ).loc main_arg1) : Vec Ideal S1024 .f32) (ix1 j) := by
  unfold V
  after_reads_at
theorem V_v2 (c : Dev nD) (g : Fin 4) (i : Fin 1024) (k : Fin 896) : (V m c main_v2 : Vec Ideal S4x1024x896 .bf16) (ix3 g i k) = (m ((c : Thread nD τ).loc main_arg2) : Vec Ideal S1024x3584 .f32) (ix2 i (col g k)) := by
  unfold V
  after_reads_at
  rfl

variable (c : Dev nD)

/-- What each grid point reads. -/
theorem reads (t : Fin cfg0.N) : Reads (weights m c) (fun r => tokens m c (tok t r)) (bx m c t) (bg m c t) (bw m c t) where
  x r j := (bx_apply m c t r j).trans (congrFun (V_main_arg0 m c) _)
  g r j := (bg_apply m c t r j).trans (V_v3 m c r j)
  w g i k := (bw_apply m c t g i k).trans (V_v2 m c g i k)

/-- The whole run: the two results' arrays, and the arguments kept. -/
theorem run : θ_run defs (onTc (τ := τ) (main (F := Ideal))) ⟨m, fun _ => 0, ρ⟩ fun r => ∀ c : Dev nD,
      r.2.mem ((c : Thread nD τ).loc main_v12_0) = (fun i : S4096x3584.Idx => FwdRows.u (weights m c) (tokens m c (i 0)) (i 1))
      ∧ r.2.mem ((c : Thread nD τ).loc main_v12_1) = (fun i : S4096x1024.Idx => FwdRows.h (weights m c) (tokens m c (i 0)) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c =>
    ⟨(h c).1.trans (arr13 m c _ fun t r j => u_apply (reads m c t) r j),
     (h c).2.1.trans (arr14 m c _ fun t r j => h_apply (reads m c t) r j), (h c).2.2.2.2.2.2⟩) (Cert.Kernel11Ideal.Value.run_blocks m ρ)

end Cert.Kernel11Ideal.FwdRun
end
-- ==== Proof.FwdRef.lean ====
/- What the reference's arrays hold for the mixers' forward call: the row functions of `FwdRows`, token by token. -/
module

public import proofs.«01_k».proof.Proof.Gen.Reference11Ideal.Read
public import proofs.«01_k».proof.Proof.FwdRows
public import Idealize.ShloMosaic.Lib.Pointwise

@[expose] public section

set_option maxRecDepth 16384

noncomputable section

namespace Cert.Reference11Ideal.FwdRef

open Cert.Reference11Ideal Cert.Reference11Ideal.Gen Cert.Reference11Ideal.Read Idealize.ShloMosaic Idealize.ShloMosaic.TcCoe Idealize.SL.Sem Idealize.ShloMosaic.StableHlo Cert.Rows

/-- The arguments hold the tokens' rows `T` and the weights `W`. -/
structure Args (W : FwdRows.Wts) (T : Fin 4096 → Fin 1024 → EReal) (x0 : Vec Ideal S4096x1024 .f32) (x1 : Vec Ideal S1024 .f32) (x2 : Vec Ideal S1024x3584 .f32) : Prop where
  x : ∀ i j, x0 (ix2 i j) = T i j
  g : ∀ j, x1 (ix1 j) = W.g j
  w : ∀ i k, x2 (ix2 i k) = W.w i k

variable {W : FwdRows.Wts} {T : Fin 4096 → Fin 1024 → EReal} {x0 : Vec Ideal S4096x1024 .f32} {x1 : Vec Ideal S1024 .f32} {x2 : Vec Ideal S1024x3584 .f32}
variable (H : Args W T x0 x1 x2)
include H

theorem v6 (i : Fin 4096) : val_main_v6 (F := Ideal) x0 (ix2 i 0) = ms (T i) := by
  unfold val_main_v6 val_main_v5 val_main_v4 val_main_v3 val_main_v2 val_main_v1 val_main_v0 val_main_cst val_main_cst_0 val_main_cst_1
  pointwise
  simp only [H.x, lit1024, lit_eps]
  rfl

theorem v7 (i : Fin 4096) : val_main_v7 (F := Ideal) x0 (ix2 i 0) = inv (T i) := by
  unfold val_main_v7
  pointwise
  simp only [v6 H]
  rfl

theorem v12 (i : Fin 4096) (j : Fin 1024) : val_main_v12 (F := Ideal) x0 x1 (ix2 i j) = FwdRows.h W (T i) j := by
  unfold val_main_v12 val_main_v11 val_main_v10 val_main_v9 val_main_v8
  pointwise
  simp only [H.x, H.g, v7 H]
  rfl

/-- The projected rows. -/
theorem v13 (i : Fin 4096) (k : Fin 3584) : val_main_v13 (F := Ideal) x0 x1 x2 (ix2 i k) = FwdRows.u W (T i) k := by
  unfold val_main_v13
  pointwise
  simp only [v12 H, H.w]
  rfl

/-- The normalised rows, converted. -/
theorem v14 (i : Fin 4096) (j : Fin 1024) : val_main_v14 (F := Ideal) x0 x1 (ix2 i j) = FwdRows.h W (T i) j := by
  unfold val_main_v14
  pointwise
  exact v12 H i j

end Cert.Reference11Ideal.FwdRef
end
-- ==== Proof.FwdClaim.lean ====
/- The mixers' forward call and the reference's lines for it leave the same projected and normalised rows. -/
module

public import proofs.«01_k».proof.Defs
public import proofs.«01_k».proof.Proof.Gen.Kernel11Ideal
public import proofs.«01_k».proof.Proof.Gen.Reference11Ideal
public import proofs.«01_k».proof.Proof.Gen.Reference11Ideal.Run
public import proofs.«01_k».proof.Proof.FwdRun
public import proofs.«01_k».proof.Proof.FwdRef
public import Idealize.ShloMosaic.Lib.Quiescent

@[expose] public section

noncomputable section

namespace Cert.FwdClaim

open Idealize.ShloMosaic Idealize.ShloMosaic.TcCoe Idealize.SL.Sem

/-- The reference declares no semaphore, so its run's end has none raised. -/
theorem frame_reference : Cert.quiescent_Reference11Ideal (hReference11Ideal := Cert.Reference11Ideal.Gen.facts) :=
  fun m g _ => (θ_run Cert.Reference11Ideal.defs _ _).mono (fun r h => ⟨fun c => (h c).2.2, sem_eq_zero_of_no_sems rfl r.2⟩) (Cert.Reference11Ideal.Value.run m g)

/-- The two programs' results over the extended reals, from memories agreeing on the arguments: what each holds is the row
    functions at the kernel's launch memory. -/
theorem algebraic : Cert.algebraic_Kernel11Ideal_Reference11Ideal (hKernel11Ideal := Cert.Kernel11Ideal.Gen.facts) (hReference11Ideal := Cert.Reference11Ideal.Gen.facts) := by
  intro m g m' g' _ hag
  have H : ∀ c : Dev Cert.Reference11Ideal.nD, Cert.Reference11Ideal.FwdRef.Args (Cert.Kernel11Ideal.FwdRun.weights m c) (Cert.Kernel11Ideal.FwdRun.tokens m c)
      (m' ((c.tc : Thread Cert.Reference11Ideal.nD Cert.Reference11Ideal.τ).loc Cert.Reference11Ideal.main_arg0))
      (m' ((c.tc : Thread Cert.Reference11Ideal.nD Cert.Reference11Ideal.τ).loc Cert.Reference11Ideal.main_arg1))
      (m' ((c.tc : Thread Cert.Reference11Ideal.nD Cert.Reference11Ideal.τ).loc Cert.Reference11Ideal.main_arg2)) := by
    intro c
    obtain ⟨h0, h1, h2, _⟩ := hag c
    rw [h0, h1, h2]
    exact ⟨fun _ _ => rfl, fun _ => rfl, fun _ _ => rfl⟩
  refine ⟨_, _, Cert.Kernel11Ideal.FwdRun.run m g, (θ_run Cert.Reference11Ideal.defs _ _).mono (fun r h c => ?_) (Cert.Reference11Ideal.Value.run m' g')⟩
  obtain ⟨h0, h1, hargs⟩ := h c
  refine ⟨h0.trans ?_, h1.trans ?_, hargs⟩
  · rw [Cert.Reference11Ideal.Read.val_main_v13_eq]
    funext j
    rw [eq_ix2 j]
    exact Cert.Reference11Ideal.FwdRef.v13 (H c) (j 0) (j 1)
  · rw [Cert.Reference11Ideal.Read.val_main_v14_eq]
    funext j
    rw [eq_ix2 j]
    exact Cert.Reference11Ideal.FwdRef.v14 (H c) (j 0) (j 1)

end Cert.FwdClaim

end
-- ==== Proof.lean ====
/- The certificate's claims: the kernel's frames as generated, the reference's from its run, and the agreement of the two
   over the extended reals, both sides' results being the row functions of `Rows` at the launch memory's entries; and the
   same claims of the optimiser's calls, proved in `Big2` to `Big5`, of the input projection's backward call, proved in
   `InClaim`, of the weight gradients' calls, proved in `Wg7` to `Wg10`, and of the mixers' forward call, proved in
   `FwdClaim`. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel5
public import proofs.«01_k».proof.Proof.Gen.Kernel4.Frame
public import proofs.«01_k».proof.Proof.Gen.Kernel5.Frame
public import proofs.«01_k».proof.Proof.Gen.Kernel4Ideal
public import proofs.«01_k».proof.Proof.Gen.Kernel5Ideal
public import proofs.«01_k».proof.Proof.Gen.Kernel4Ideal.Frame
public import proofs.«01_k».proof.Proof.Gen.Kernel5Ideal.Frame
public import proofs.«01_k».proof.Proof.Gen.Kernel4Ideal.Value
public import proofs.«01_k».proof.Proof.Gen.Kernel5Ideal.Value
public import proofs.«01_k».proof.Proof.Gen.Reference4Ideal
public import proofs.«01_k».proof.Proof.Gen.Reference5Ideal
public import proofs.«01_k».proof.Proof.Gen.Reference4Ideal.Run
public import proofs.«01_k».proof.Proof.Gen.Reference5Ideal.Run
public import proofs.«01_k».proof.Proof.Gen.Reference4Ideal.Read
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.KRun
public import proofs.«01_k».proof.Proof.RVal
public import proofs.«01_k».proof.Proof.Big2
public import proofs.«01_k».proof.Proof.Big3
public import proofs.«01_k».proof.Proof.Big4
public import proofs.«01_k».proof.Proof.Big5
public import proofs.«01_k».proof.Proof.InClaim
public import proofs.«01_k».proof.Proof.Wg7
public import proofs.«01_k».proof.Proof.Wg8
public import proofs.«01_k».proof.Proof.Wg9
public import proofs.«01_k».proof.Proof.Wg10
public import proofs.«01_k».proof.Proof.FwdClaim
public import Idealize.ShloMosaic.Adequacy
public import Idealize.ShloMosaic.Init
public import Idealize.ShloMosaic.Lib.Quiescent

@[expose] public section

set_option maxRecDepth 16384

noncomputable section

namespace Cert.Proof

open Idealize.ShloMosaic Idealize.ShloMosaic.TcCoe Idealize.ShloMosaic.StableHlo Idealize.SL.Sem Cert.Rows

/-- The reference declares no semaphore, so its run's end has none raised. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0) :=
  (θ_run Cert.ReferenceIdeal.defs _ _).mono (fun r h => ⟨fun c => (h c).2.2.2.2.2.2.2.2, sem_eq_zero_of_no_sems rfl r.2⟩) (Cert.ReferenceIdeal.Value.run m g)

/-- The two programs' results over the extended reals, from memories agreeing on the arguments: what each holds is the row
    functions at the kernel's launch memory. -/
theorem algebraic : Cert.algebraic_KernelIdeal_ReferenceIdeal (hKernelIdeal := Cert.KernelIdeal.Gen.facts) (hReferenceIdeal := Cert.ReferenceIdeal.Gen.facts) := by
  intro m g m' g' _ hag
  have L := fun c => Cert.KernelIdeal.KRun.launched m c
  have H : ∀ c : Dev Cert.ReferenceIdeal.nD, Cert.ReferenceIdeal.RVal.Args (Cert.KernelIdeal.KRun.weights m c) (Cert.KernelIdeal.KRun.tokens m c)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) := by
    intro c
    obtain ⟨h0, h1, h2, h3, h4, h5, h6, h7⟩ := hag c
    rw [h0, h1, h2, h3, h4, h5, h6, h7]
    exact ⟨(L c).x, (L c).y, (L c).wo, (L c).g2, (L c).w1, (L c).w2, (L c).gf, (L c).t⟩
  refine ⟨_, _, _, _, _, _, _, _, Cert.KernelIdeal.KRun.run m g _ _ L, (θ_run Cert.ReferenceIdeal.defs _ _).mono (fun r h c => ?_) (Cert.ReferenceIdeal.Value.run m' g')⟩
  obtain ⟨h0, h1, h2, h3, h4, h5, h6, h7, hargs⟩ := h c
  refine ⟨h0.trans ?_, h1.trans ?_, h2.trans ?_, h3.trans ?_, h4.trans ?_, h5.trans ?_, h6.trans ?_, h7.trans ?_, hargs⟩
  · rw [Cert.ReferenceIdeal.Read.val_main_v108_eq]
    funext j
    rw [eq_ix2 j]
    exact Cert.ReferenceIdeal.RVal.v108 (H c) (j 0) (j 1)
  · rw [Cert.ReferenceIdeal.Read.val_main_v109_eq]
    funext j
    rw [eq_ix2 j]
    exact Cert.ReferenceIdeal.RVal.v109 (H c) (j 0) (j 1)
  · rw [Cert.ReferenceIdeal.Read.val_main_v120_eq]
    funext j
    rw [eq_ix2 j]
    exact Cert.ReferenceIdeal.RVal.v120 (H c) (j 0) (j 1)
  · rw [Cert.ReferenceIdeal.Read.val_main_v121_eq]
    funext j
    rw [eq_ix2 j]
    exact Cert.ReferenceIdeal.RVal.v121 (H c) (j 0) (j 1)
  · rw [Cert.ReferenceIdeal.Read.val_main_v122_eq]
    funext j
    rw [eq_ix2 j]
    exact Cert.ReferenceIdeal.RVal.v122 (H c) (j 0) (j 1)
  · rw [Cert.ReferenceIdeal.Read.val_main_v123_eq]
    funext j
    rw [eq_ix2 j]
    exact Cert.ReferenceIdeal.RVal.v123 (H c) (j 0) (j 1)
  · rw [Cert.ReferenceIdeal.Read.val_main_v124_eq]
    funext j
    rw [eq_ix2 j]
    exact Cert.ReferenceIdeal.RVal.v124 (H c) (j 0) (j 1)
  · rw [Cert.ReferenceIdeal.Read.val_main_v125_eq]
    funext j
    rw [eq_ix2 j]
    exact Cert.ReferenceIdeal.RVal.v125 (H c) (j 0) (j 1)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    fun m g _ => Cert.Kernel.Gen.frame m g, fun m g _ => Cert.KernelIdeal.Gen.frame m g,
    fun m g _ => frame_reference m g,
    fun m g _ => Cert.Kernel2.Gen.frame m g, fun m g _ => Cert.Kernel2Ideal.Gen.frame m g, Cert.Big2.frame_reference,
    fun m g _ => Cert.Kernel3.Gen.frame m g, fun m g _ => Cert.Kernel3Ideal.Gen.frame m g, Cert.Big3.frame_reference,
    fun m g _ => Cert.Kernel4.Gen.frame m g, fun m g _ => Cert.Kernel4Ideal.Gen.frame m g, Cert.Big4.frame_reference,
    fun m g _ => Cert.Kernel5.Gen.frame m g, fun m g _ => Cert.Kernel5Ideal.Gen.frame m g, Cert.Big5.frame_reference,
    fun m g _ => Cert.Kernel6.Gen.frame m g, fun m g _ => Cert.Kernel6Ideal.Gen.frame m g, Cert.InClaim.frame_reference,
    fun m g _ => Cert.Kernel7.Gen.frame m g, fun m g _ => Cert.Kernel7Ideal.Gen.frame m g, Cert.Wg7.frame_reference,
    fun m g _ => Cert.Kernel8.Gen.frame m g, fun m g _ => Cert.Kernel8Ideal.Gen.frame m g, Cert.Wg8.frame_reference,
    fun m g _ => Cert.Kernel9.Gen.frame m g, fun m g _ => Cert.Kernel9Ideal.Gen.frame m g, Cert.Wg9.frame_reference,
    fun m g _ => Cert.Kernel10.Gen.frame m g, fun m g _ => Cert.Kernel10Ideal.Gen.frame m g, Cert.Wg10.frame_reference,
    fun m g _ => Cert.Kernel11.Gen.frame m g, fun m g _ => Cert.Kernel11Ideal.Gen.frame m g, Cert.FwdClaim.frame_reference,
    trivial, algebraic,
    trivial, Cert.Big2.algebraic, trivial, Cert.Big3.algebraic, trivial, Cert.Big4.algebraic, trivial, Cert.Big5.algebraic,
    trivial, Cert.InClaim.algebraic,
    trivial, Cert.Wg7.algebraic,
    trivial, Cert.Wg8.algebraic,
    trivial, Cert.Wg9.algebraic,
    trivial, Cert.Wg10.algebraic,
    trivial, Cert.FwdClaim.algebraic⟩

end Cert.Proof

end
